-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v60) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_v17) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v29) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v51) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v15) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v29) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v27) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v24) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Kernel.lean ====
abbrev S17408x1024 : Shape := ⟨2, ![17408, 1024]⟩
abbrev S17408x14336 : Shape := ⟨2, ![17408, 14336]⟩
abbrev S4x4 : Shape := ⟨2, ![4, 4]⟩
abbrev S17408x32 : Shape := ⟨2, ![17408, 32]⟩
abbrev S17408x16 : Shape := ⟨2, ![17408, 16]⟩
abbrev S272x64x16 : Shape := ⟨3, ![272, 64, 16]⟩
abbrev S272x16x64 : Shape := ⟨3, ![272, 16, 64]⟩
abbrev S16 : Shape := ⟨1, ![16]⟩
abbrev S1x16 : Shape := ⟨2, ![1, 16]⟩
abbrev S16x1 : Shape := ⟨2, ![16, 1]⟩
abbrev S17408x512 : Shape := ⟨2, ![17408, 512]⟩
abbrev S64x1024 : Shape := ⟨2, ![64, 1024]⟩
abbrev S64x512 : Shape := ⟨2, ![64, 512]⟩
abbrev S64x128 : Shape := ⟨2, ![64, 128]⟩
abbrev S1x16x64 : Shape := ⟨3, ![1, 16, 64]⟩
abbrev S4x128x128 : Shape := ⟨3, ![4, 128, 128]⟩
abbrev S8x128 : Shape := ⟨2, ![8, 128]⟩
abbrev S64x64 : Shape := ⟨2, ![64, 64]⟩
abbrev S64x16 : Shape := ⟨2, ![64, 16]⟩
abbrev S16x64 : Shape := ⟨2, ![16, 64]⟩
abbrev S64x1 : Shape := ⟨2, ![64, 1]⟩
abbrev S1x64 : Shape := ⟨2, ![1, 64]⟩
abbrev S1x1 : Shape := ⟨2, ![1, 1]⟩
abbrev S64 : Shape := ⟨1, ![64]⟩
abbrev S1x128x128 : Shape := ⟨3, ![1, 128, 128]⟩
abbrev S128x128 : Shape := ⟨2, ![128, 128]⟩
abbrev S1x128 : Shape := ⟨2, ![1, 128]⟩
abbrev S128x64 : Shape := ⟨2, ![128, 64]⟩
abbrev S128 : Shape := ⟨1, ![128]⟩

abbrev nBuf : Space → Nat
  | .hbm => 11
  | .vmem => 15
  | .smem => 0
  | _ => 0

abbrev bufTy : (tb : Table) → Fin (tcTables nBuf tb) → BufTy
  | .hbm, ⟨0, _⟩ => ⟨S17408x1024, .f32⟩
  | .hbm, ⟨1, _⟩ => ⟨S17408x14336, .f32⟩
  | .hbm, ⟨2, _⟩ => ⟨S4x4, .f32⟩
  | .hbm, ⟨3, _⟩ => ⟨S17408x32, .f32⟩
  | .hbm, ⟨4, _⟩ => ⟨S17408x16, .f32⟩
  | .hbm, ⟨5, _⟩ => ⟨S272x64x16, .f32⟩
  | .hbm, ⟨6, _⟩ => ⟨S272x16x64, .f32⟩
  | .hbm, ⟨7, _⟩ => ⟨S16, .f32⟩
  | .hbm, ⟨8, _⟩ => ⟨S1x16, .f32⟩
  | .hbm, ⟨9, _⟩ => ⟨S16x1, .f32⟩
  | .hbm, ⟨10, _⟩ => ⟨S17408x512, .f32⟩
  | .local _ .vmem, ⟨0, _⟩ => ⟨S64x1024, .f32⟩
  | .local _ .vmem, ⟨1, _⟩ => ⟨S64x1024, .f32⟩
  | .local _ .vmem, ⟨2, _⟩ => ⟨S64x512, .f32⟩
  | .local _ .vmem, ⟨3, _⟩ => ⟨S64x512, .f32⟩
  | .local _ .vmem, ⟨4, _⟩ => ⟨S64x128, .f32⟩
  | .local _ .vmem, ⟨5, _⟩ => ⟨S64x128, .f32⟩
  | .local _ .vmem, ⟨6, _⟩ => ⟨S1x16x64, .f32⟩
  | .local _ .vmem, ⟨7, _⟩ => ⟨S1x16x64, .f32⟩
  | .local _ .vmem, ⟨8, _⟩ => ⟨S1x16, .f32⟩
  | .local _ .vmem, ⟨9, _⟩ => ⟨S16x1, .f32⟩
  | .local _ .vmem, ⟨10, _⟩ => ⟨S64x512, .f32⟩
  | .local _ .vmem, ⟨11, _⟩ => ⟨S64x512, .f32⟩
  | .local _ .vmem, ⟨12, _⟩ => ⟨S4x128x128, .f32⟩
  | .local _ .vmem, ⟨13, _⟩ => ⟨S8x128, .f32⟩
  | .local _ .vmem, ⟨14, _⟩ => ⟨S8x128, .f32⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 68], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg1 c4_i32
  let c4_i32_0 : BitVec 32 := 4#32
  let v1 : BitVec 32 := Scalar.subi arg1 c4_i32_0
  let c4_i32_1 : BitVec 32 := 4#32
  let v2 : BitVec 32 := Scalar.muli arg0 c4_i32_1
  let c256_i32 : BitVec 32 := 256#32
  let v3 : BitVec 32 := Scalar.addi c256_i32 v2
  let v4 : BitVec 32 := Scalar.addi v3 arg1
  let c64_i32 : BitVec 32 := 64#32
  let v5 : BitVec 32 := Scalar.muli arg0 c64_i32
  let v6 : BitVec 32 := Scalar.addi v5 v1
  let v7 : BitVec 32 := Scalar.select v0 v4 v6
  let c0_i32 : BitVec 32 := 0#32
  let c0_i32_2 : BitVec 32 := 0#32
  ![v7.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg1 c4_i32
  let c4_i32_0 : BitVec 32 := 4#32
  let v1 : BitVec 32 := Scalar.subi arg1 c4_i32_0
  let c4_i32_1 : BitVec 32 := 4#32
  let v2 : BitVec 32 := Scalar.muli arg0 c4_i32_1
  let c256_i32 : BitVec 32 := 256#32
  let v3 : BitVec 32 := Scalar.addi c256_i32 v2
  let v4 : BitVec 32 := Scalar.addi v3 arg1
  let c64_i32 : BitVec 32 := 64#32
  let v5 : BitVec 32 := Scalar.muli arg0 c64_i32
  let v6 : BitVec 32 := Scalar.addi v5 v1
  let v7 : BitVec 32 := Scalar.select v0 v4 v6
  let c5_i32 : BitVec 32 := 5#32
  let c0_i32 : BitVec 32 := 0#32
  ![v7.toNat, c5_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg1 c4_i32
  let c4_i32_0 : BitVec 32 := 4#32
  let v1 : BitVec 32 := Scalar.subi arg1 c4_i32_0
  let c4_i32_1 : BitVec 32 := 4#32
  let v2 : BitVec 32 := Scalar.muli arg0 c4_i32_1
  let c256_i32 : BitVec 32 := 256#32
  let v3 : BitVec 32 := Scalar.addi c256_i32 v2
  let v4 : BitVec 32 := Scalar.addi v3 arg1
  let c64_i32 : BitVec 32 := 64#32
  let v5 : BitVec 32 := Scalar.muli arg0 c64_i32
  let v6 : BitVec 32 := Scalar.addi v5 v1
  let v7 : BitVec 32 := Scalar.select v0 v4 v6
  let c108_i32 : BitVec 32 := 108#32
  let c0_i32 : BitVec 32 := 0#32
  ![v7.toNat, c108_i32.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg1 c4_i32
  let c4_i32_0 : BitVec 32 := 4#32
  let v1 : BitVec 32 := Scalar.subi arg1 c4_i32_0
  let c4_i32_1 : BitVec 32 := 4#32
  let v2 : BitVec 32 := Scalar.muli arg0 c4_i32_1
  let c256_i32 : BitVec 32 := 256#32
  let v3 : BitVec 32 := Scalar.addi c256_i32 v2
  let v4 : BitVec 32 := Scalar.addi v3 arg1
  let c64_i32 : BitVec 32 := 64#32
  let v5 : BitVec 32 := Scalar.muli arg0 c64_i32
  let v6 : BitVec 32 := Scalar.addi v5 v1
  let v7 : BitVec 32 := Scalar.select v0 v4 v6
  let c0_i32 : BitVec 32 := 0#32
  let c0_i32_2 : BitVec 32 := 0#32
  let c0_i32_3 : BitVec 32 := 0#32
  ![v7.toNat, c0_i32.toNat, c0_i32_2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg1 c4_i32
  let c4_i32_0 : BitVec 32 := 4#32
  let v1 : BitVec 32 := Scalar.subi arg1 c4_i32_0
  let c4_i32_1 : BitVec 32 := 4#32
  let v2 : BitVec 32 := Scalar.muli arg0 c4_i32_1
  let c256_i32 : BitVec 32 := 256#32
  let v3 : BitVec 32 := Scalar.addi c256_i32 v2
  let v4 : BitVec 32 := Scalar.addi v3 arg1
  let c64_i32 : BitVec 32 := 64#32
  let v5 : BitVec 32 := Scalar.muli arg0 c64_i32
  let v6 : BitVec 32 := Scalar.addi v5 v1
  let v7 : BitVec 32 := Scalar.select v0 v4 v6
  let c0_i32 : BitVec 32 := 0#32
  let c0_i32_2 : BitVec 32 := 0#32
  ![v7.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S16x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S17408x1024 : Shape := ⟨2, ![17408, 1024]⟩
abbrev S17408x14336 : Shape := ⟨2, ![17408, 14336]⟩
abbrev S4x4 : Shape := ⟨2, ![4, 4]⟩
abbrev S17408x512 : Shape := ⟨2, ![17408, 512]⟩
abbrev S16384x512 : Shape := ⟨2, ![16384, 512]⟩
abbrev S1024x512 : Shape := ⟨2, ![1024, 512]⟩
abbrev S4x256x512 : Shape := ⟨3, ![4, 256, 512]⟩
abbrev S4x4096x512 : Shape := ⟨3, ![4, 4096, 512]⟩
abbrev S4x4352x512 : Shape := ⟨3, ![4, 4352, 512]⟩
abbrev S4x4352x4x128 : Shape := ⟨4, ![4, 4352, 4, 128]⟩
abbrev S17408x16 : Shape := ⟨2, ![17408, 16]⟩
abbrev S16384x16 : Shape := ⟨2, ![16384, 16]⟩
abbrev S1024x16 : Shape := ⟨2, ![1024, 16]⟩
abbrev S4x256x16 : Shape := ⟨3, ![4, 256, 16]⟩
abbrev S4x4096x16 : Shape := ⟨3, ![4, 4096, 16]⟩
abbrev S4x4352x16 : Shape := ⟨3, ![4, 4352, 16]⟩
abbrev S4x4352x4x4 : Shape := ⟨4, ![4, 4352, 4, 4]⟩
abbrev S1x1x4x4 : Shape := ⟨4, ![1, 1, 4, 4]⟩
abbrev S_ : Shape := ⟨0, ![]⟩
abbrev S4x4x128x128 : Shape := ⟨4, ![4, 4, 128, 128]⟩
abbrev S4x4x128 : Shape := ⟨3, ![4, 4, 128]⟩
abbrev S4x4352x1x4 : Shape := ⟨4, ![4, 4352, 1, 4]⟩
abbrev S4x4352x4 : Shape := ⟨3, ![4, 4352, 4]⟩
abbrev S64x64 : Shape := ⟨2, ![64, 64]⟩
abbrev S4x68x64x4x128 : Shape := ⟨5, ![4, 68, 64, 4, 128]⟩
abbrev S68x4x64x4x128 : Shape := ⟨5, ![68, 4, 64, 4, 128]⟩
abbrev S68x4x4x64x128 : Shape := ⟨5, ![68, 4, 4, 64, 128]⟩
abbrev S4x68x64x4 : Shape := ⟨4, ![4, 68, 64, 4]⟩
abbrev S68x4x64x4 : Shape := ⟨4, ![68, 4, 64, 4]⟩
abbrev S68x4x4x64 : Shape := ⟨4, ![68, 4, 4, 64]⟩
abbrev S1x4x4x64x128 : Shape := ⟨5, ![1, 4, 4, 64, 128]⟩
abbrev S4x4x64x128 : Shape := ⟨4, ![4, 4, 64, 128]⟩
abbrev S1x4x4x64 : Shape := ⟨4, ![1, 4, 4, 64]⟩
abbrev S4x4x64 : Shape := ⟨3, ![4, 4, 64]⟩
abbrev S4x4x1 : Shape := ⟨3, ![4, 4, 1]⟩
abbrev S4x4x64x1 : Shape := ⟨4, ![4, 4, 64, 1]⟩
abbrev S4x4x1x64 : Shape := ⟨4, ![4, 4, 1, 64]⟩
abbrev S4x4x64x64 : Shape := ⟨4, ![4, 4, 64, 64]⟩
abbrev S4x4x1x1 : Shape := ⟨4, ![4, 4, 1, 1]⟩

abbrev nBuf : Space → Nat
  | .hbm => 217
  | .vmem => 0
  | .smem => 0
  | _ => 0

abbrev hbmTy0_0 (i : Nat) : BufTy := match i % 128 with
  | 0 => ⟨S17408x1024, .f32⟩
  | 1 => ⟨S17408x14336, .f32⟩
  | 2 => ⟨S4x4, .f32⟩
  | 3 => ⟨S17408x512, .f32⟩
  | 4 => ⟨S16384x512, .f32⟩
  | 5 => ⟨S1024x512, .f32⟩
  | 6 => ⟨S4x256x512, .f32⟩
  | 7 => ⟨S4x4096x512, .f32⟩
  | 8 => ⟨S4x4352x512, .f32⟩
  | 9 => ⟨S4x4352x4x128, .f32⟩
  | 10 => ⟨S17408x512, .f32⟩
  | 11 => ⟨S16384x512, .f32⟩
  | 12 => ⟨S1024x512, .f32⟩
  | 13 => ⟨S4x256x512, .f32⟩
  | 14 => ⟨S4x4096x512, .f32⟩
  | 15 => ⟨S4x4352x512, .f32⟩
  | 16 => ⟨S4x4352x4x128, .f32⟩
  | 17 => ⟨S17408x512, .f32⟩
  | 18 => ⟨S16384x512, .f32⟩
  | 19 => ⟨S1024x512, .f32⟩
  | 20 => ⟨S4x256x512, .f32⟩
  | 21 => ⟨S4x4096x512, .f32⟩
  | 22 => ⟨S4x4352x512, .f32⟩
  | 23 => ⟨S4x4352x4x128, .f32⟩
  | 24 => ⟨S17408x16, .f32⟩
  | 25 => ⟨S16384x16, .f32⟩
  | 26 => ⟨S1024x16, .f32⟩
  | 27 => ⟨S4x256x16, .f32⟩
  | 28 => ⟨S4x4096x16, .f32⟩
  | 29 => ⟨S4x4352x16, .f32⟩
  | 30 => ⟨S4x4352x4x4, .f32⟩
  | 31 => ⟨S1x1x4x4, .f32⟩
  | 32 => ⟨S4x4352x4x4, .f32⟩
  | 33 => ⟨S4x4352x4x4, .f32⟩
  | 34 => ⟨S_, .f32⟩
  | 35 => ⟨S4x4x128x128, .f32⟩
  | 36 => ⟨S_, .f32⟩
  | 37 => ⟨S4x4x128, .f32⟩
  | 38 => ⟨S_, .f32⟩
  | 39 => ⟨S4x4, .f32⟩
  | 40 => ⟨S4x4352x1x4, .f32⟩
  | 41 => ⟨S4x4352x4, .f32⟩
  | 42 => ⟨S4x4352x1x4, .f32⟩
  | 43 => ⟨S4x4352x4, .f32⟩
  | 44 => ⟨S4x4352x4, .f32⟩
  | 45 => ⟨S_, .f32⟩
  | 46 => ⟨S4x4352x4, .f32⟩
  | 47 => ⟨S4x4352x4, .f32⟩
  | 48 => ⟨S4x4352x4, .f32⟩
  | 49 => ⟨S4x4352x4, .f32⟩
  | 50 => ⟨S4x4352x4, .f32⟩
  | 51 => ⟨S4x4352x4, .f32⟩
  | 52 => ⟨S4x4352x4, .f32⟩
  | 53 => ⟨S4x4352x4, .f32⟩
  | 54 => ⟨S_, .i1⟩
  | 55 => ⟨S64x64, .i1⟩
  | 56 => ⟨S64x64, .i32⟩
  | 57 => ⟨S_, .i32⟩
  | 58 => ⟨S64x64, .i32⟩
  | 59 => ⟨S64x64, .i32⟩
  | 60 => ⟨S64x64, .i32⟩
  | 61 => ⟨S64x64, .i1⟩
  | 62 => ⟨S_, .i1⟩
  | 63 => ⟨S64x64, .i1⟩
  | 64 => ⟨S64x64, .i1⟩
  | 65 => ⟨S4x68x64x4x128, .f32⟩
  | 66 => ⟨S68x4x64x4x128, .f32⟩
  | 67 => ⟨S68x4x4x64x128, .f32⟩
  | 68 => ⟨S4x68x64x4x128, .f32⟩
  | 69 => ⟨S68x4x64x4x128, .f32⟩
  | 70 => ⟨S68x4x4x64x128, .f32⟩
  | 71 => ⟨S4x68x64x4x128, .f32⟩
  | 72 => ⟨S68x4x64x4x128, .f32⟩
  | 73 => ⟨S68x4x4x64x128, .f32⟩
  | 74 => ⟨S4x68x64x4, .f32⟩
  | 75 => ⟨S68x4x64x4, .f32⟩
  | 76 => ⟨S68x4x4x64, .f32⟩
  | 77 => ⟨S4x68x64x4, .f32⟩
  | 78 => ⟨S68x4x64x4, .f32⟩
  | 79 => ⟨S68x4x4x64, .f32⟩
  | 80 => ⟨S_, .f32⟩
  | 81 => ⟨S68x4x4x64x128, .f32⟩
  | 82 => ⟨S_, .i32⟩
  | 83 => ⟨S68x4x4x64x128, .f32⟩
  | 84 => ⟨S68x4x4x64x128, .f32⟩
  | 85 => ⟨S68x4x4x64x128, .f32⟩
  | 86 => ⟨S68x4x4x64, .f32⟩
  | 87 => ⟨S68x4x4x64, .f32⟩
  | 88 => ⟨S64x64, .i1⟩
  | 89 => ⟨S_, .i32⟩
  | 90 => ⟨S4x4x128x128, .f32⟩
  | 91 => ⟨S4x4x128, .f32⟩
  | 92 => ⟨S4x4, .f32⟩
  | 93 => ⟨S68x4x4x64x128, .f32⟩
  | 94 => ⟨S_, .i32⟩
  | 95 => ⟨S_, .i1⟩
  | 96 => ⟨S_, .i32⟩
  | 97 => ⟨S_, .i32⟩
  | 98 => ⟨S_, .i32⟩
  | 99 => ⟨S_, .i32⟩
  | 100 => ⟨S1x4x4x64x128, .f32⟩
  | 101 => ⟨S4x4x64x128, .f32⟩
  | 102 => ⟨S_, .i32⟩
  | 103 => ⟨S_, .i32⟩
  | 104 => ⟨S_, .i32⟩
  | 105 => ⟨S_, .i32⟩
  | 106 => ⟨S1x4x4x64x128, .f32⟩
  | 107 => ⟨S4x4x64x128, .f32⟩
  | 108 => ⟨S_, .i32⟩
  | 109 => ⟨S_, .i32⟩
  | 110 => ⟨S_, .i32⟩
  | 111 => ⟨S_, .i32⟩
  | 112 => ⟨S1x4x4x64x128, .f32⟩
  | 113 => ⟨S4x4x64x128, .f32⟩
  | 114 => ⟨S_, .i32⟩
  | 115 => ⟨S_, .i32⟩
  | 116 => ⟨S_, .i32⟩
  | 117 => ⟨S1x4x4x64, .f32⟩
  | 118 => ⟨S4x4x64, .f32⟩
  | 119 => ⟨S_, .i32⟩
  | 120 => ⟨S_, .i32⟩
  | 121 => ⟨S_, .i32⟩
  | 122 => ⟨S1x4x4x64, .f32⟩
  | 123 => ⟨S4x4x64, .f32⟩
  | 124 => ⟨S_, .f32⟩
  | 125 => ⟨S_, .f32⟩
  | 126 => ⟨S4x4x64, .f32⟩
  | 127 => ⟨S4x4x1, .f32⟩
  | _ => ⟨S17408x1024, .f32⟩

abbrev hbmTy0_1 (i : Nat) : BufTy := match i % 128 with
  | 0 => ⟨S4x4x64, .f32⟩
  | 1 => ⟨S4x4x64, .f32⟩
  | 2 => ⟨S4x4x64x1, .f32⟩
  | 3 => ⟨S4x4x1x64, .f32⟩
  | 4 => ⟨S4x4x64x64, .f32⟩
  | 5 => ⟨S4x4x64x64, .f32⟩
  | 6 => ⟨S4x4x64x64, .f32⟩
  | 7 => ⟨S4x4x1x64, .f32⟩
  | 8 => ⟨S4x4x64x64, .f32⟩
  | 9 => ⟨S4x4x64x64, .f32⟩
  | 10 => ⟨S_, .f32⟩
  | 11 => ⟨S_, .f32⟩
  | 12 => ⟨S4x4x64x64, .i1⟩
  | 13 => ⟨S4x4x64x64, .f32⟩
  | 14 => ⟨S4x4x64x64, .f32⟩
  | 15 => ⟨S_, .f32⟩
  | 16 => ⟨S4x4x64, .f32⟩
  | 17 => ⟨S4x4x64, .f32⟩
  | 18 => ⟨S4x4x64, .f32⟩
  | 19 => ⟨S4x4x64, .f32⟩
  | 20 => ⟨S4x4x64x64, .f32⟩
  | 21 => ⟨S4x4x64x1, .f32⟩
  | 22 => ⟨S4x4x64x64, .f32⟩
  | 23 => ⟨S4x4x64x64, .f32⟩
  | 24 => ⟨S4x4x64x64, .f32⟩
  | 25 => ⟨S4x4x64x64, .f32⟩
  | 26 => ⟨S4x4x64x128, .f32⟩
  | 27 => ⟨S4x4x64x1, .f32⟩
  | 28 => ⟨S4x4x64x128, .f32⟩
  | 29 => ⟨S4x4x64x128, .f32⟩
  | 30 => ⟨S4x4x64x128, .f32⟩
  | 31 => ⟨S4x4x64x128, .f32⟩
  | 32 => ⟨S_, .f32⟩
  | 33 => ⟨S4x4x64, .f32⟩
  | 34 => ⟨S4x4x64, .f32⟩
  | 35 => ⟨S4x4x64, .f32⟩
  | 36 => ⟨S4x4x64, .f32⟩
  | 37 => ⟨S4x4x64, .f32⟩
  | 38 => ⟨S4x4x64, .f32⟩
  | 39 => ⟨S4x4x64, .f32⟩
  | 40 => ⟨S4x4x64, .f32⟩
  | 41 => ⟨S4x4x64x1, .f32⟩
  | 42 => ⟨S4x4x64x128, .f32⟩
  | 43 => ⟨S4x4x64x128, .f32⟩
  | 44 => ⟨S4x4x1, .f32⟩
  | 45 => ⟨S4x4, .f32⟩
  | 46 => ⟨S4x4x1, .f32⟩
  | 47 => ⟨S4x4x64, .f32⟩
  | 48 => ⟨S4x4x64, .f32⟩
  | 49 => ⟨S4x4x64, .f32⟩
  | 50 => ⟨S4x4x1, .f32⟩
  | 51 => ⟨S4x4x64, .f32⟩
  | 52 => ⟨S4x4x64, .f32⟩
  | 53 => ⟨S4x4x64, .f32⟩
  | 54 => ⟨S4x4x1, .f32⟩
  | 55 => ⟨S4x4, .f32⟩
  | 56 => ⟨S4x4, .f32⟩
  | 57 => ⟨S4x4, .f32⟩
  | 58 => ⟨S4x4, .f32⟩
  | 59 => ⟨S4x4x1x1, .f32⟩
  | 60 => ⟨S4x4x128x128, .f32⟩
  | 61 => ⟨S4x4x128x128, .f32⟩
  | 62 => ⟨S4x4x64x1, .f32⟩
  | 63 => ⟨S4x4x64x128, .f32⟩
  | 64 => ⟨S4x4x64x128, .f32⟩
  | 65 => ⟨S4x4x128x128, .f32⟩
  | 66 => ⟨S4x4x128x128, .f32⟩
  | 67 => ⟨S4x4x1, .f32⟩
  | 68 => ⟨S4x4x128, .f32⟩
  | 69 => ⟨S4x4x128, .f32⟩
  | 70 => ⟨S4x4x128, .f32⟩
  | 71 => ⟨S4x4x128, .f32⟩
  | 72 => ⟨S1x4x4x64x128, .f32⟩
  | 73 => ⟨S_, .i32⟩
  | 74 => ⟨S_, .i32⟩
  | 75 => ⟨S_, .i32⟩
  | 76 => ⟨S_, .i32⟩
  | 77 => ⟨S68x4x4x64x128, .f32⟩
  | 78 => ⟨S_, .i32⟩
  | 79 => ⟨S_, .i32⟩
  | 80 => ⟨S68x4x64x4x128, .f32⟩
  | 81 => ⟨S4x68x64x4x128, .f32⟩
  | 82 => ⟨S4x4352x4x128, .f32⟩
  | 83 => ⟨S4x4352x512, .f32⟩
  | 84 => ⟨S4x4096x512, .f32⟩
  | 85 => ⟨S16384x512, .f32⟩
  | 86 => ⟨S4x256x512, .f32⟩
  | 87 => ⟨S1024x512, .f32⟩
  | 88 => ⟨S17408x512, .f32⟩
  | _ => ⟨S17408x1024, .f32⟩

abbrev hbmTy (i : Nat) : BufTy := match i / 128 with
  | 0 => hbmTy0_0 i
  | 1 => hbmTy0_1 i
  | _ => ⟨S17408x1024, .f32⟩

abbrev bufTy : (tb : Table) → Fin (tcTables nBuf tb) → BufTy
  | .hbm, ⟨i, _⟩ => hbmTy i
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_cst : Ref sig .tc := ⟨.hbm, 34, rfl⟩
abbrev main_v31 : Ref sig .tc := ⟨.hbm, 35, rfl⟩
abbrev main_cst_0 : Ref sig .tc := ⟨.hbm, 36, rfl⟩
abbrev main_v32 : Ref sig .tc := ⟨.hbm, 37, rfl⟩
abbrev main_cst_1 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_cst_2 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_c : Ref sig .tc := ⟨.hbm, 54, rfl⟩
abbrev main_v47 : Ref sig .tc := ⟨.hbm, 55, rfl⟩
abbrev main_call0_v0 : Ref sig .tc := ⟨.hbm, 56, rfl⟩
abbrev main_call0_c : Ref sig .tc := ⟨.hbm, 57, rfl⟩
abbrev main_call0_v1 : Ref sig .tc := ⟨.hbm, 58, rfl⟩
abbrev main_call0_v2 : Ref sig .tc := ⟨.hbm, 59, rfl⟩
abbrev main_call0_v3 : Ref sig .tc := ⟨.hbm, 60, rfl⟩
abbrev main_call0_v4 : Ref sig .tc := ⟨.hbm, 61, rfl⟩
abbrev main_call0_c_0 : Ref sig .tc := ⟨.hbm, 62, rfl⟩
abbrev main_call0_v5 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_3 : Ref sig .tc := ⟨.hbm, 80, rfl⟩
abbrev main_v64 : Ref sig .tc := ⟨.hbm, 81, rfl⟩
abbrev main_c_4 : Ref sig .tc := ⟨.hbm, 82, rfl⟩
abbrev main_v65_0 : Ref sig .tc := ⟨.hbm, 83, rfl⟩
abbrev main_v65_1 : Ref sig .tc := ⟨.hbm, 84, rfl⟩
abbrev main_v65_2 : Ref sig .tc := ⟨.hbm, 85, rfl⟩
abbrev main_v65_3 : Ref sig .tc := ⟨.hbm, 86, rfl⟩
abbrev main_v65_4 : Ref sig .tc := ⟨.hbm, 87, rfl⟩
abbrev main_v65_5 : Ref sig .tc := ⟨.hbm, 88, rfl⟩
abbrev main_v65_6 : Ref sig .tc := ⟨.hbm, 89, rfl⟩
abbrev main_v65_7 : Ref sig .tc := ⟨.hbm, 90, rfl⟩
abbrev main_v65_8 : Ref sig .tc := ⟨.hbm, 91, rfl⟩
abbrev main_v65_9 : Ref sig .tc := ⟨.hbm, 92, rfl⟩
abbrev main_v65_10 : Ref sig .tc := ⟨.hbm, 93, rfl⟩
abbrev main_while0c_c_15 : Ref sig .tc := ⟨.hbm, 94, rfl⟩
abbrev main_while0c_v75 : Ref sig .tc := ⟨.hbm, 95, rfl⟩
abbrev main_while0b_call1_c : Ref sig .tc := ⟨.hbm, 96, rfl⟩
abbrev main_while0b_call1_c_0 : Ref sig .tc := ⟨.hbm, 97, rfl⟩
abbrev main_while0b_call1_c_1 : Ref sig .tc := ⟨.hbm, 98, rfl⟩
abbrev main_while0b_call1_c_2 : Ref sig .tc := ⟨.hbm, 99, rfl⟩
abbrev main_while0b_call1_v0 : Ref sig .tc := ⟨.hbm, 100, rfl⟩
abbrev main_while0b_v75 : Ref sig .tc := ⟨.hbm, 101, rfl⟩
abbrev main_while0b_call2_c : Ref sig .tc := ⟨.hbm, 102, rfl⟩
abbrev main_while0b_call2_c_0 : Ref sig .tc := ⟨.hbm, 103, rfl⟩
abbrev main_while0b_call2_c_1 : Ref sig .tc := ⟨.hbm, 104, rfl⟩
abbrev main_while0b_call2_c_2 : Ref sig .tc := ⟨.hbm, 105, rfl⟩
abbrev main_while0b_call2_v0 : Ref sig .tc := ⟨.hbm, 106, rfl⟩
abbrev main_while0b_v76 : Ref sig .tc := ⟨.hbm, 107, rfl⟩
abbrev main_while0b_call3_c : Ref sig .tc := ⟨.hbm, 108, rfl⟩
abbrev main_while0b_call3_c_0 : Ref sig .tc := ⟨.hbm, 109, rfl⟩
abbrev main_while0b_call3_c_1 : Ref sig .tc := ⟨.hbm, 110, rfl⟩
abbrev main_while0b_call3_c_2 : Ref sig .tc := ⟨.hbm, 111, rfl⟩
abbrev main_while0b_call3_v0 : Ref sig .tc := ⟨.hbm, 112, rfl⟩
abbrev main_while0b_v77 : Ref sig .tc := ⟨.hbm, 113, rfl⟩
abbrev main_while0b_call4_c : Ref sig .tc := ⟨.hbm, 114, rfl⟩
abbrev main_while0b_call4_c_0 : Ref sig .tc := ⟨.hbm, 115, rfl⟩
abbrev main_while0b_call4_c_1 : Ref sig .tc := ⟨.hbm, 116, rfl⟩
abbrev main_while0b_call4_v0 : Ref sig .tc := ⟨.hbm, 117, rfl⟩
abbrev main_while0b_v78 : Ref sig .tc := ⟨.hbm, 118, rfl⟩
abbrev main_while0b_call5_c : Ref sig .tc := ⟨.hbm, 119, rfl⟩
abbrev main_while0b_call5_c_0 : Ref sig .tc := ⟨.hbm, 120, rfl⟩
abbrev main_while0b_call5_c_1 : Ref sig .tc := ⟨.hbm, 121, rfl⟩
abbrev main_while0b_call5_v0 : Ref sig .tc := ⟨.hbm, 122, rfl⟩
abbrev main_while0b_v79 : Ref sig .tc := ⟨.hbm, 123, rfl⟩
abbrev main_while0b_call6_call0_cst : Ref sig .tc := ⟨.hbm, 124, rfl⟩
abbrev main_while0b_call6_call0_v0 : Ref sig .tc := ⟨.hbm, 125, rfl⟩
abbrev main_while0b_v80 : Ref sig .tc := ⟨.hbm, 126, rfl⟩
abbrev main_while0b_v81 : Ref sig .tc := ⟨.hbm, 127, rfl⟩
abbrev main_while0b_v82 : Ref sig .tc := ⟨.hbm, 128, rfl⟩
abbrev main_while0b_v83 : Ref sig .tc := ⟨.hbm, 129, rfl⟩
abbrev main_while0b_v84 : Ref sig .tc := ⟨.hbm, 130, rfl⟩
abbrev main_while0b_v85 : Ref sig .tc := ⟨.hbm, 131, rfl⟩
abbrev main_while0b_v86 : Ref sig .tc := ⟨.hbm, 132, rfl⟩
abbrev main_while0b_v87 : Ref sig .tc := ⟨.hbm, 133, rfl⟩
abbrev main_while0b_v88 : Ref sig .tc := ⟨.hbm, 134, rfl⟩
abbrev main_while0b_v89 : Ref sig .tc := ⟨.hbm, 135, rfl⟩
abbrev main_while0b_v90 : Ref sig .tc := ⟨.hbm, 136, rfl⟩
abbrev main_while0b_v91 : Ref sig .tc := ⟨.hbm, 137, rfl⟩
abbrev main_while0b_cst_15 : Ref sig .tc := ⟨.hbm, 138, rfl⟩
abbrev main_while0b_call7_v0 : Ref sig .tc := ⟨.hbm, 139, rfl⟩
abbrev main_while0b_call7_v1 : Ref sig .tc := ⟨.hbm, 140, rfl⟩
abbrev main_while0b_call7_v2 : Ref sig .tc := ⟨.hbm, 141, rfl⟩
abbrev main_while0b_v92 : Ref sig .tc := ⟨.hbm, 142, rfl⟩
abbrev main_while0b_cst_16 : Ref sig .tc := ⟨.hbm, 143, rfl⟩
abbrev main_while0b_v93 : Ref sig .tc := ⟨.hbm, 144, rfl⟩
abbrev main_while0b_v94 : Ref sig .tc := ⟨.hbm, 145, rfl⟩
abbrev main_while0b_v95 : Ref sig .tc := ⟨.hbm, 146, rfl⟩
abbrev main_while0b_v96 : Ref sig .tc := ⟨.hbm, 147, rfl⟩
abbrev main_while0b_v97 : Ref sig .tc := ⟨.hbm, 148, rfl⟩
abbrev main_while0b_v98 : Ref sig .tc := ⟨.hbm, 149, rfl⟩
abbrev main_while0b_v99 : Ref sig .tc := ⟨.hbm, 150, rfl⟩
abbrev main_while0b_v100 : Ref sig .tc := ⟨.hbm, 151, rfl⟩
abbrev main_while0b_v101 : Ref sig .tc := ⟨.hbm, 152, rfl⟩
abbrev main_while0b_v102 : Ref sig .tc := ⟨.hbm, 153, rfl⟩
abbrev main_while0b_v103 : Ref sig .tc := ⟨.hbm, 154, rfl⟩
abbrev main_while0b_v104 : Ref sig .tc := ⟨.hbm, 155, rfl⟩
abbrev main_while0b_v105 : Ref sig .tc := ⟨.hbm, 156, rfl⟩
abbrev main_while0b_v106 : Ref sig .tc := ⟨.hbm, 157, rfl⟩
abbrev main_while0b_v107 : Ref sig .tc := ⟨.hbm, 158, rfl⟩
abbrev main_while0b_v108 : Ref sig .tc := ⟨.hbm, 159, rfl⟩
abbrev main_while0b_cst_17 : Ref sig .tc := ⟨.hbm, 160, rfl⟩
abbrev main_while0b_v109 : Ref sig .tc := ⟨.hbm, 161, rfl⟩
abbrev main_while0b_v110 : Ref sig .tc := ⟨.hbm, 162, rfl⟩
abbrev main_while0b_v111 : Ref sig .tc := ⟨.hbm, 163, rfl⟩
abbrev main_while0b_v112 : Ref sig .tc := ⟨.hbm, 164, rfl⟩
abbrev main_while0b_v113 : Ref sig .tc := ⟨.hbm, 165, rfl⟩
abbrev main_while0b_v114 : Ref sig .tc := ⟨.hbm, 166, rfl⟩
abbrev main_while0b_v115 : Ref sig .tc := ⟨.hbm, 167, rfl⟩
abbrev main_while0b_v116 : Ref sig .tc := ⟨.hbm, 168, rfl⟩
abbrev main_while0b_v117 : Ref sig .tc := ⟨.hbm, 169, rfl⟩
abbrev main_while0b_v118 : Ref sig .tc := ⟨.hbm, 170, rfl⟩
abbrev main_while0b_v119 : Ref sig .tc := ⟨.hbm, 171, rfl⟩
abbrev main_while0b_v120 : Ref sig .tc := ⟨.hbm, 172, rfl⟩
abbrev main_while0b_v121 : Ref sig .tc := ⟨.hbm, 173, rfl⟩
abbrev main_while0b_v122 : Ref sig .tc := ⟨.hbm, 174, rfl⟩
abbrev main_while0b_v123 : Ref sig .tc := ⟨.hbm, 175, rfl⟩
abbrev main_while0b_v124 : Ref sig .tc := ⟨.hbm, 176, rfl⟩
abbrev main_while0b_v125 : Ref sig .tc := ⟨.hbm, 177, rfl⟩
abbrev main_while0b_v126 : Ref sig .tc := ⟨.hbm, 178, rfl⟩
abbrev main_while0b_v127 : Ref sig .tc := ⟨.hbm, 179, rfl⟩
abbrev main_while0b_v128 : Ref sig .tc := ⟨.hbm, 180, rfl⟩
abbrev main_while0b_v129 : Ref sig .tc := ⟨.hbm, 181, rfl⟩
abbrev main_while0b_v130 : Ref sig .tc := ⟨.hbm, 182, rfl⟩
abbrev main_while0b_v131 : Ref sig .tc := ⟨.hbm, 183, rfl⟩
abbrev main_while0b_v132 : Ref sig .tc := ⟨.hbm, 184, rfl⟩
abbrev main_while0b_v133 : Ref sig .tc := ⟨.hbm, 185, rfl⟩
abbrev main_while0b_v134 : Ref sig .tc := ⟨.hbm, 186, rfl⟩
abbrev main_while0b_v135 : Ref sig .tc := ⟨.hbm, 187, rfl⟩
abbrev main_while0b_v136 : Ref sig .tc := ⟨.hbm, 188, rfl⟩
abbrev main_while0b_v137 : Ref sig .tc := ⟨.hbm, 189, rfl⟩
abbrev main_while0b_v138 : Ref sig .tc := ⟨.hbm, 190, rfl⟩
abbrev main_while0b_v139 : Ref sig .tc := ⟨.hbm, 191, rfl⟩
abbrev main_while0b_v140 : Ref sig .tc := ⟨.hbm, 192, rfl⟩
abbrev main_while0b_v141 : Ref sig .tc := ⟨.hbm, 193, rfl⟩
abbrev main_while0b_v142 : Ref sig .tc := ⟨.hbm, 194, rfl⟩
abbrev main_while0b_v143 : Ref sig .tc := ⟨.hbm, 195, rfl⟩
abbrev main_while0b_v144 : Ref sig .tc := ⟨.hbm, 196, rfl⟩
abbrev main_while0b_v145 : Ref sig .tc := ⟨.hbm, 197, rfl⟩
abbrev main_while0b_v146 : Ref sig .tc := ⟨.hbm, 198, rfl⟩
abbrev main_while0b_v147 : Ref sig .tc := ⟨.hbm, 199, rfl⟩
abbrev main_while0b_call8_v0 : Ref sig .tc := ⟨.hbm, 200, rfl⟩
abbrev main_while0b_call8_c : Ref sig .tc := ⟨.hbm, 201, rfl⟩
abbrev main_while0b_call8_c_0 : Ref sig .tc := ⟨.hbm, 202, rfl⟩
abbrev main_while0b_call8_c_1 : Ref sig .tc := ⟨.hbm, 203, rfl⟩
abbrev main_while0b_call8_c_2 : Ref sig .tc := ⟨.hbm, 204, rfl⟩
abbrev main_while0b_v148 : Ref sig .tc := ⟨.hbm, 205, rfl⟩
abbrev main_while0b_c_18 : Ref sig .tc := ⟨.hbm, 206, rfl⟩
abbrev main_while0b_v149 : Ref sig .tc := ⟨.hbm, 207, rfl⟩
abbrev main_v66 : Ref sig .tc := ⟨.hbm, 208, rfl⟩
abbrev main_v67 : Ref sig .tc := ⟨.hbm, 209, rfl⟩
abbrev main_v68 : Ref sig .tc := ⟨.hbm, 210, rfl⟩
abbrev main_v69 : Ref sig .tc := ⟨.hbm, 211, rfl⟩
abbrev main_v70 : Ref sig .tc := ⟨.hbm, 212, rfl⟩
abbrev main_v71 : Ref sig .tc := ⟨.hbm, 213, rfl⟩
abbrev main_v72 : Ref sig .tc := ⟨.hbm, 214, rfl⟩
abbrev main_v73 : Ref sig .tc := ⟨.hbm, 215, rfl⟩
abbrev main_v74 : Ref sig .tc := ⟨.hbm, 216, rfl⟩

abbrev nD : Nat := 1
abbrev τ : Topo := Topo.v7x

variable {F : FTy → Type} [FloatOps F]

abbrev main_while0_count : Scf.Loop 32 := ⟨0#32, 68#32, 1#32⟩
-- ==== Kernel2.lean ====
abbrev S16384x2048 : Shape := ⟨2, ![16384, 2048]⟩
abbrev S1024x2048 : Shape := ⟨2, ![1024, 2048]⟩
abbrev S1x2048 : Shape := ⟨2, ![1, 2048]⟩
abbrev S8x6x2048 : Shape := ⟨3, ![8, 6, 2048]⟩
abbrev S2048x14336 : Shape := ⟨2, ![2048, 14336]⟩
abbrev S17408x14336 : Shape := ⟨2, ![17408, 14336]⟩
abbrev S1x6x2048 : Shape := ⟨3, ![1, 6, 2048]⟩
abbrev S2048x512 : Shape := ⟨2, ![2048, 512]⟩
abbrev S1024x512 : Shape := ⟨2, ![1024, 512]⟩
abbrev S1x1x2048 : Shape := ⟨3, ![1, 1, 2048]⟩
abbrev S1024 : Shape := ⟨1, ![1024]⟩
abbrev S1024x1 : Shape := ⟨2, ![1024, 1]⟩

abbrev nBuf : Space → Nat
  | .hbm => 6
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S1024x2048, .f32⟩
  | .hbm, ⟨2, _⟩ => ⟨S1x2048, .f32⟩
  | .hbm, ⟨3, _⟩ => ⟨S8x6x2048, .f32⟩
  | .hbm, ⟨4, _⟩ => ⟨S2048x14336, .bf16⟩
  | .hbm, ⟨5, _⟩ => ⟨S17408x14336, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .f32⟩
  | .local _ .vmem, ⟨3, _⟩ => ⟨S1024x2048, .f32⟩
  | .local _ .vmem, ⟨4, _⟩ => ⟨S1x2048, .f32⟩
  | .local _ .vmem, ⟨5, _⟩ => ⟨S1x6x2048, .f32⟩
  | .local _ .vmem, ⟨6, _⟩ => ⟨S1x6x2048, .f32⟩
  | .local _ .vmem, ⟨7, _⟩ => ⟨S2048x512, .bf16⟩
  | .local _ .vmem, ⟨8, _⟩ => ⟨S2048x512, .bf16⟩
  | .local _ .vmem, ⟨9, _⟩ => ⟨S1024x512, .f32⟩
  | .local _ .vmem, ⟨10, _⟩ => ⟨S1024x512, .f32⟩
  | .local _ .vmem, ⟨11, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![17, 28], ![false, false]⟩

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg0 c16_i32
  let c1024_i32 : BitVec 32 := 1024#32
  let v1 : BitVec 32 := Scalar.muli arg0 c1024_i32
  let c4096_i32 : BitVec 32 := 4096#32
  let v2 : BitVec 32 := Scalar.divsi v1 c4096_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4096_i32 c0_i32_1
  let v9 : BitVec 32 := Scalar.extui v8
  let c0_i32_2 : BitVec 32 := 0#32
  let v10 : BitVec 1 := Scalar.cmpi .slt c4096_i32 c0_i32_2
  let v11 : BitVec 32 := Scalar.extui v10
  let v12 : BitVec 32 := Scalar.subi v9 v11
  let v13 : BitVec 1 := Scalar.cmpi .ne v7 v12
  let v14 : BitVec 32 := Scalar.remsi v1 c4096_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32 : BitVec 32 := 4#32
  let v19 : BitVec 32 := Scalar.select v0 v18 c4_i32
  let c0_i32_4 : BitVec 32 := 0#32
  let c0_i32_5 : BitVec 32 := 0#32
  let c0_i32_6 : BitVec 32 := 0#32
  ![v19.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x6x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S16384x2048 : Shape := ⟨2, ![16384, 2048]⟩
abbrev S1024x2048 : Shape := ⟨2, ![1024, 2048]⟩
abbrev S1x2048 : Shape := ⟨2, ![1, 2048]⟩
abbrev S8x6x2048 : Shape := ⟨3, ![8, 6, 2048]⟩
abbrev S2048x14336 : Shape := ⟨2, ![2048, 14336]⟩
abbrev S4x4096x2048 : Shape := ⟨3, ![4, 4096, 2048]⟩
abbrev S4x256x2048 : Shape := ⟨3, ![4, 256, 2048]⟩
abbrev S4x6x2048 : Shape := ⟨3, ![4, 6, 2048]⟩
abbrev S4x6x1x2048 : Shape := ⟨4, ![4, 6, 1, 2048]⟩
abbrev S1x6x2048 : Shape := ⟨3, ![1, 6, 2048]⟩
abbrev S6x2048 : Shape := ⟨2, ![6, 2048]⟩
abbrev S6x1x1x2048 : Shape := ⟨4, ![6, 1, 1, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x1x1x2048 : Shape := ⟨4, ![4, 1, 1, 2048]⟩
abbrev S4x1x2048 : Shape := ⟨3, ![4, 1, 2048]⟩
abbrev S4x4096x14336 : Shape := ⟨3, ![4, 4096, 14336]⟩
abbrev S4x256 : Shape := ⟨2, ![4, 256]⟩
abbrev S4x256x1 : Shape := ⟨3, ![4, 256, 1]⟩
abbrev S1x1x1x2048 : Shape := ⟨4, ![1, 1, 1, 2048]⟩
abbrev S4x256x14336 : Shape := ⟨3, ![4, 256, 14336]⟩
abbrev S16384x14336 : Shape := ⟨2, ![16384, 14336]⟩
abbrev S1024x14336 : Shape := ⟨2, ![1024, 14336]⟩
abbrev S17408x14336 : Shape := ⟨2, ![17408, 14336]⟩

abbrev nBuf : Space → Nat
  | .hbm => 74
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1024x2048, .f32⟩
  | .hbm, ⟨2, _⟩ => ⟨S1x2048, .f32⟩
  | .hbm, ⟨3, _⟩ => ⟨S8x6x2048, .f32⟩
  | .hbm, ⟨4, _⟩ => ⟨S2048x14336, .bf16⟩
  | .hbm, ⟨5, _⟩ => ⟨S4x4096x2048, .f32⟩
  | .hbm, ⟨6, _⟩ => ⟨S4x256x2048, .f32⟩
  | .hbm, ⟨7, _⟩ => ⟨S4x6x2048, .f32⟩
  | .hbm, ⟨8, _⟩ => ⟨S4x6x1x2048, .f32⟩
  | .hbm, ⟨9, _⟩ => ⟨S1x6x2048, .f32⟩
  | .hbm, ⟨10, _⟩ => ⟨S6x2048, .f32⟩
  | .hbm, ⟨11, _⟩ => ⟨S6x1x1x2048, .f32⟩
  | .hbm, ⟨12, _⟩ => ⟨S2048x14336, .f32⟩
  | .hbm, ⟨13, _⟩ => ⟨S2048, .f32⟩
  | .hbm, ⟨14, _⟩ => ⟨S4x4096x2048, .f32⟩
  | .hbm, ⟨15, _⟩ => ⟨S_, .f32⟩
  | .hbm, ⟨16, _⟩ => ⟨S4x4096, .f32⟩
  | .hbm, ⟨17, _⟩ => ⟨S4x4096x1, .f32⟩
  | .hbm, ⟨18, _⟩ => ⟨S_, .f32⟩
  | .hbm, ⟨19, _⟩ => ⟨S4x4096x1, .f32⟩
  | .hbm, ⟨20, _⟩ => ⟨S4x4096x1, .f32⟩
  | .hbm, ⟨21, _⟩ => ⟨S_, .f32⟩
  | .hbm, ⟨22, _⟩ => ⟨S4x4096x1, .f32⟩
  | .hbm, ⟨23, _⟩ => ⟨S4x4096x1, .f32⟩
  | .hbm, ⟨24, _⟩ => ⟨S4x4096x1, .f32⟩
  | .hbm, ⟨25, _⟩ => ⟨S4x4096x2048, .f32⟩
  | .hbm, ⟨26, _⟩ => ⟨S4x4096x2048, .f32⟩
  | .hbm, ⟨27, _⟩ => ⟨S1x1x2048, .f32⟩
  | .hbm, ⟨28, _⟩ => ⟨S4x4096x2048, .f32⟩
  | .hbm, ⟨29, _⟩ => ⟨S4x4096x2048, .f32⟩
  | .hbm, ⟨30, _⟩ => ⟨S4x1x1x2048, .f32⟩
  | .hbm, ⟨31, _⟩ => ⟨S4x1x2048, .f32⟩
  | .hbm, ⟨32, _⟩ => ⟨S4x1x1x2048, .f32⟩
  | .hbm, ⟨33, _⟩ => ⟨S4x1x2048, .f32⟩
  | .hbm, ⟨34, _⟩ => ⟨S_, .f32⟩
  | .hbm, ⟨35, _⟩ => ⟨S4x1x2048, .f32⟩
  | .hbm, ⟨36, _⟩ => ⟨S4x1x2048, .f32⟩
  | .hbm, ⟨37, _⟩ => ⟨S4x4096x2048, .f32⟩
  | .hbm, ⟨38, _⟩ => ⟨S4x4096x2048, .f32⟩
  | .hbm, ⟨39, _⟩ => ⟨S4x4096x2048, .f32⟩
  | .hbm, ⟨40, _⟩ => ⟨S4x4096x2048, .f32⟩
  | .hbm, ⟨41, _⟩ => ⟨S4x4096x14336, .f32⟩
  | .hbm, ⟨42, _⟩ => ⟨S2048, .f32⟩
  | .hbm, ⟨43, _⟩ => ⟨S4x256x2048, .f32⟩
  | .hbm, ⟨44, _⟩ => ⟨S_, .f32⟩
  | .hbm, ⟨45, _⟩ => ⟨S4x256, .f32⟩
  | .hbm, ⟨46, _⟩ => ⟨S4x256x1, .f32⟩
  | .hbm, ⟨47, _⟩ => ⟨S_, .f32⟩
  | .hbm, ⟨48, _⟩ => ⟨S4x256x1, .f32⟩
  | .hbm, ⟨49, _⟩ => ⟨S4x256x1, .f32⟩
  | .hbm, ⟨50, _⟩ => ⟨S_, .f32⟩
  | .hbm, ⟨51, _⟩ => ⟨S4x256x1, .f32⟩
  | .hbm, ⟨52, _⟩ => ⟨S4x256x1, .f32⟩
  | .hbm, ⟨53, _⟩ => ⟨S4x256x1, .f32⟩
  | .hbm, ⟨54, _⟩ => ⟨S4x256x2048, .f32⟩
  | .hbm, ⟨55, _⟩ => ⟨S4x256x2048, .f32⟩
  | .hbm, ⟨56, _⟩ => ⟨S1x1x2048, .f32⟩
  | .hbm, ⟨57, _⟩ => ⟨S4x256x2048, .f32⟩
  | .hbm, ⟨58, _⟩ => ⟨S4x256x2048, .f32⟩
  | .hbm, ⟨59, _⟩ => ⟨S1x1x1x2048, .f32⟩
  | .hbm, ⟨60, _⟩ => ⟨S1x1x2048, .f32⟩
  | .hbm, ⟨61, _⟩ => ⟨S1x1x1x2048, .f32⟩
  | .hbm, ⟨62, _⟩ => ⟨S1x1x2048, .f32⟩
  | .hbm, ⟨63, _⟩ => ⟨S_, .f32⟩
  | .hbm, ⟨64, _⟩ => ⟨S1x1x2048, .f32⟩
  | .hbm, ⟨65, _⟩ => ⟨S1x1x2048, .f32⟩
  | .hbm, ⟨66, _⟩ => ⟨S4x256x2048, .f32⟩
  | .hbm, ⟨67, _⟩ => ⟨S4x256x2048, .f32⟩
  | .hbm, ⟨68, _⟩ => ⟨S4x256x2048, .f32⟩
  | .hbm, ⟨69, _⟩ => ⟨S4x256x2048, .f32⟩
  | .hbm, ⟨70, _⟩ => ⟨S4x256x14336, .f32⟩
  | .hbm, ⟨71, _⟩ => ⟨S16384x14336, .f32⟩
  | .hbm, ⟨72, _⟩ => ⟨S1024x14336, .f32⟩
  | .hbm, ⟨73, _⟩ => ⟨S17408x14336, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_3 : Ref sig .tc := ⟨.hbm, 44, rfl⟩
abbrev main_v35 : Ref sig .tc := ⟨.hbm, 45, rfl⟩
abbrev main_v36 : Ref sig .tc := ⟨.hbm, 46, rfl⟩
abbrev main_cst_4 : Ref sig .tc := ⟨.hbm, 47, rfl⟩
abbrev main_v37 : Ref sig .tc := ⟨.hbm, 48, rfl⟩
abbrev main_v38 : Ref sig .tc := ⟨.hbm, 49, rfl⟩
abbrev main_cst_5 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_6 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩

abbrev nD : Nat := 1
abbrev τ : Topo := Topo.v7x

variable {F : FTy → Type} [FloatOps F]
-- ==== Kernel3.lean ====
abbrev S16x2048x2048 : Shape := ⟨3, ![16, 2048, 2048]⟩
abbrev S16x2048x1 : Shape := ⟨3, ![16, 2048, 1]⟩
abbrev S16x128x2048 : Shape := ⟨3, ![16, 128, 2048]⟩
abbrev S16x128x1 : Shape := ⟨3, ![16, 128, 1]⟩
abbrev S16x2048x1536 : Shape := ⟨3, ![16, 2048, 1536]⟩
abbrev S16x1536x2048 : Shape := ⟨3, ![16, 1536, 2048]⟩
abbrev S1x1024x2048 : Shape := ⟨3, ![1, 1024, 2048]⟩
abbrev S1x1024x1 : Shape := ⟨3, ![1, 1024, 1]⟩
abbrev S1x64x2048 : Shape := ⟨3, ![1, 64, 2048]⟩
abbrev S1x64x1 : Shape := ⟨3, ![1, 64, 1]⟩
abbrev S1x2048x256 : Shape := ⟨3, ![1, 2048, 256]⟩
abbrev S1x256x2048 : Shape := ⟨3, ![1, 256, 2048]⟩
abbrev S1088x2048 : Shape := ⟨2, ![1088, 2048]⟩
abbrev S1024x2048 : Shape := ⟨2, ![1024, 2048]⟩
abbrev S64x2048 : Shape := ⟨2, ![64, 2048]⟩
abbrev S2048x256 : Shape := ⟨2, ![2048, 256]⟩
abbrev S1088x256 : Shape := ⟨2, ![1088, 256]⟩
abbrev S256x2048 : Shape := ⟨2, ![256, 2048]⟩
abbrev S1024x1 : Shape := ⟨2, ![1024, 1]⟩
abbrev S64x1 : Shape := ⟨2, ![64, 1]⟩

abbrev nBuf : Space → Nat
  | .hbm => 9
  | .vmem => 19
  | .smem => 0
  | _ => 0

abbrev bufTy : (tb : Table) → Fin (tcTables nBuf tb) → BufTy
  | .hbm, ⟨0, _⟩ => ⟨S16x2048x2048, .bf16⟩
  | .hbm, ⟨1, _⟩ => ⟨S16x2048x1, .f32⟩
  | .hbm, ⟨2, _⟩ => ⟨S16x128x2048, .bf16⟩
  | .hbm, ⟨3, _⟩ => ⟨S16x128x1, .f32⟩
  | .hbm, ⟨4, _⟩ => ⟨S16x2048x1536, .f32⟩
  | .hbm, ⟨5, _⟩ => ⟨S16x2048x1536, .f32⟩
  | .hbm, ⟨6, _⟩ => ⟨S16x1536x2048, .f32⟩
  | .hbm, ⟨7, _⟩ => ⟨S16x2048x2048, .bf16⟩
  | .hbm, ⟨8, _⟩ => ⟨S16x128x2048, .bf16⟩
  | .local _ .vmem, ⟨0, _⟩ => ⟨S1x1024x2048, .bf16⟩
  | .local _ .vmem, ⟨1, _⟩ => ⟨S1x1024x2048, .bf16⟩
  | .local _ .vmem, ⟨2, _⟩ => ⟨S1x1024x1, .f32⟩
  | .local _ .vmem, ⟨3, _⟩ => ⟨S1x1024x1, .f32⟩
  | .local _ .vmem, ⟨4, _⟩ => ⟨S1x64x2048, .bf16⟩
  | .local _ .vmem, ⟨5, _⟩ => ⟨S1x64x2048, .bf16⟩
  | .local _ .vmem, ⟨6, _⟩ => ⟨S1x64x1, .f32⟩
  | .local _ .vmem, ⟨7, _⟩ => ⟨S1x64x1, .f32⟩
  | .local _ .vmem, ⟨8, _⟩ => ⟨S1x2048x256, .f32⟩
  | .local _ .vmem, ⟨9, _⟩ => ⟨S1x2048x256, .f32⟩
  | .local _ .vmem, ⟨10, _⟩ => ⟨S1x2048x256, .f32⟩
  | .local _ .vmem, ⟨11, _⟩ => ⟨S1x2048x256, .f32⟩
  | .local _ .vmem, ⟨12, _⟩ => ⟨S1x256x2048, .f32⟩
  | .local _ .vmem, ⟨13, _⟩ => ⟨S1x256x2048, .f32⟩
  | .local _ .vmem, ⟨14, _⟩ => ⟨S1x1024x2048, .bf16⟩
  | .local _ .vmem, ⟨15, _⟩ => ⟨S1x1024x2048, .bf16⟩
  | .local _ .vmem, ⟨16, _⟩ => ⟨S1x64x2048, .bf16⟩
  | .local _ .vmem, ⟨17, _⟩ => ⟨S1x64x2048, .bf16⟩
  | .local _ .vmem, ⟨18, _⟩ => ⟨S1088x2048, .f32⟩
  | _, _ => ⟨S16x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![16, 2, 6], ![false, false, false]⟩

def k0_cond2 (i : grid0.Coords) : BitVec 1 :=
  let arg2 : BitVec 32 := BitVec.ofNat 32 (i 2).val
  let c5_i32 : BitVec 32 := 5#32
  let v35 : BitVec 1 := Scalar.cmpi .eq arg2 c5_i32
  let v36 : BitVec 32 := Scalar.extui v35
  let c0_i32_24 : BitVec 32 := 0#32
  let v37 : BitVec 1 := Scalar.cmpi .ne v36 c0_i32_24
  v37

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x64x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x64x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, true]

abbrev stage0_7 : Fin 2 → Memref sig .tc .vmem S1x1024x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x64x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== Reference3Ideal.lean ====
abbrev S16x2048x2048 : Shape := ⟨3, ![16, 2048, 2048]⟩
abbrev S16x2048x1 : Shape := ⟨3, ![16, 2048, 1]⟩
abbrev S16x128x2048 : Shape := ⟨3, ![16, 128, 2048]⟩
abbrev S16x128x1 : Shape := ⟨3, ![16, 128, 1]⟩
abbrev S16x2048x1536 : Shape := ⟨3, ![16, 2048, 1536]⟩
abbrev S16x1536x2048 : Shape := ⟨3, ![16, 1536, 2048]⟩
abbrev S_ : Shape := ⟨0, ![]⟩
abbrev S16x128x1536 : Shape := ⟨3, ![16, 128, 1536]⟩

abbrev nBuf : Space → Nat
  | .hbm => 41
  | .vmem => 0
  | .smem => 0
  | _ => 0

abbrev bufTy : (tb : Table) → Fin (tcTables nBuf tb) → BufTy
  | .hbm, ⟨0, _⟩ => ⟨S16x2048x2048, .bf16⟩
  | .hbm, ⟨1, _⟩ => ⟨S16x2048x1, .f32⟩
  | .hbm, ⟨2, _⟩ => ⟨S16x128x2048, .bf16⟩
  | .hbm, ⟨3, _⟩ => ⟨S16x128x1, .f32⟩
  | .hbm, ⟨4, _⟩ => ⟨S16x2048x1536, .f32⟩
  | .hbm, ⟨5, _⟩ => ⟨S16x2048x1536, .f32⟩
  | .hbm, ⟨6, _⟩ => ⟨S16x1536x2048, .f32⟩
  | .hbm, ⟨7, _⟩ => ⟨S16x2048x2048, .f32⟩
  | .hbm, ⟨8, _⟩ => ⟨S16x2048x1536, .f32⟩
  | .hbm, ⟨9, _⟩ => ⟨S16x2048x1536, .f32⟩
  | .hbm, ⟨10, _⟩ => ⟨S16x2048x1536, .f32⟩
  | .hbm, ⟨11, _⟩ => ⟨S_, .f32⟩
  | .hbm, ⟨12, _⟩ => ⟨S16x2048x1536, .f32⟩
  | .hbm, ⟨13, _⟩ => ⟨S16x2048x1536, .f32⟩
  | .hbm, ⟨14, _⟩ => ⟨S_, .f32⟩
  | .hbm, ⟨15, _⟩ => ⟨S16x2048x1536, .f32⟩
  | .hbm, ⟨16, _⟩ => ⟨S16x2048x1536, .f32⟩
  | .hbm, ⟨17, _⟩ => ⟨S16x2048x1536, .f32⟩
  | .hbm, ⟨18, _⟩ => ⟨S16x2048x1536, .f32⟩
  | .hbm, ⟨19, _⟩ => ⟨S16x2048x1536, .f32⟩
  | .hbm, ⟨20, _⟩ => ⟨S16x2048x2048, .f32⟩
  | .hbm, ⟨21, _⟩ => ⟨S16x2048x2048, .f32⟩
  | .hbm, ⟨22, _⟩ => ⟨S16x2048x2048, .f32⟩
  | .hbm, ⟨23, _⟩ => ⟨S16x2048x2048, .bf16⟩
  | .hbm, ⟨24, _⟩ => ⟨S16x128x2048, .f32⟩
  | .hbm, ⟨25, _⟩ => ⟨S16x128x1536, .f32⟩
  | .hbm, ⟨26, _⟩ => ⟨S16x128x1536, .f32⟩
  | .hbm, ⟨27, _⟩ => ⟨S16x128x1536, .f32⟩
  | .hbm, ⟨28, _⟩ => ⟨S_, .f32⟩
  | .hbm, ⟨29, _⟩ => ⟨S16x128x1536, .f32⟩
  | .hbm, ⟨30, _⟩ => ⟨S16x128x1536, .f32⟩
  | .hbm, ⟨31, _⟩ => ⟨S_, .f32⟩
  | .hbm, ⟨32, _⟩ => ⟨S16x128x1536, .f32⟩
  | .hbm, ⟨33, _⟩ => ⟨S16x128x1536, .f32⟩
  | .hbm, ⟨34, _⟩ => ⟨S16x128x1536, .f32⟩
  | .hbm, ⟨35, _⟩ => ⟨S16x128x1536, .f32⟩
  | .hbm, ⟨36, _⟩ => ⟨S16x128x1536, .f32⟩
  | .hbm, ⟨37, _⟩ => ⟨S16x128x2048, .f32⟩
  | .hbm, ⟨38, _⟩ => ⟨S16x128x2048, .f32⟩
  | .hbm, ⟨39, _⟩ => ⟨S16x128x2048, .f32⟩
  | .hbm, ⟨40, _⟩ => ⟨S16x128x2048, .bf16⟩
  | _, _ => ⟨S16x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_call1_v0 : Ref sig .tc := ⟨.hbm, 26, rfl⟩
abbrev main_call1_v1 : Ref sig .tc := ⟨.hbm, 27, rfl⟩
abbrev main_call1_cst : Ref sig .tc := ⟨.hbm, 28, rfl⟩
abbrev main_call1_v2 : Ref sig .tc := ⟨.hbm, 29, rfl⟩
abbrev main_call1_v3 : Ref sig .tc := ⟨.hbm, 30, rfl⟩
abbrev main_call1_cst_0 : Ref sig .tc := ⟨.hbm, 31, rfl⟩
abbrev main_call1_v4 : Ref sig .tc := ⟨.hbm, 32, rfl⟩
abbrev main_call1_v5 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩

abbrev nD : Nat := 1
abbrev τ : Topo := Topo.v7x

variable {F : FTy → Type} [FloatOps F]
-- ==== Kernel4.lean ====
abbrev S17408x2048 : Shape := ⟨2, ![17408, 2048]⟩
abbrev S2048x2048 : Shape := ⟨2, ![2048, 2048]⟩
abbrev S16384x2048 : Shape := ⟨2, ![16384, 2048]⟩
abbrev S1024x2048 : Shape := ⟨2, ![1024, 2048]⟩
abbrev S8x6x2048 : Shape := ⟨3, ![8, 6, 2048]⟩
abbrev S512x2048 : Shape := ⟨2, ![512, 2048]⟩
abbrev S2048x512 : Shape := ⟨2, ![2048, 512]⟩
abbrev S512x512 : Shape := ⟨2, ![512, 512]⟩
abbrev S1x6x512 : Shape := ⟨3, ![1, 6, 512]⟩
abbrev S1x1x512 : Shape := ⟨3, ![1, 1, 512]⟩
abbrev S1x512 : Shape := ⟨2, ![1, 512]⟩

abbrev nBuf : Space → Nat
  | .hbm => 6
  | .vmem => 12
  | .smem => 0
  | _ => 0

abbrev bufTy : (tb : Table) → Fin (tcTables nBuf tb) → BufTy
  | .hbm, ⟨0, _⟩ => ⟨S17408x2048, .bf16⟩
  | .hbm, ⟨1, _⟩ => ⟨S2048x2048, .bf16⟩
  | .hbm, ⟨2, _⟩ => ⟨S16384x2048, .f32⟩
  | .hbm, ⟨3, _⟩ => ⟨S1024x2048, .f32⟩
  | .hbm, ⟨4, _⟩ => ⟨S8x6x2048, .f32⟩
  | .hbm, ⟨5, _⟩ => ⟨S17408x2048, .f32⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S1x6x512, .f32⟩
  | .local _ .vmem, ⟨9, _⟩ => ⟨S1x6x512, .f32⟩
  | .local _ .vmem, ⟨10, _⟩ => ⟨S512x512, .f32⟩
  | .local _ .vmem, ⟨11, _⟩ => ⟨S512x512, .f32⟩
  | _, _ => ⟨S17408x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![34, 4], ![false, false]⟩

def k0_cond1 (i : grid0.Coords) : BitVec 1 :=
  let arg0 : BitVec 32 := BitVec.ofNat 32 (i 0).val
  let c32_i32 : BitVec 32 := 32#32
  let v7 : BitVec 1 := Scalar.cmpi .slt arg0 c32_i32
  let v8 : BitVec 32 := Scalar.extui v7
  let c0_i32 : BitVec 32 := 0#32
  let v9 : BitVec 1 := Scalar.cmpi .ne v8 c0_i32
  v9

def k0_cond2 (i : grid0.Coords) : BitVec 1 :=
  let arg0 : BitVec 32 := BitVec.ofNat 32 (i 0).val
  let c32_i32_5 : BitVec 32 := 32#32
  let v10 : BitVec 1 := Scalar.cmpi .sge arg0 c32_i32_5
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg0 c31_i32
  let c0_i32 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  ![v1.toNat, arg1.toNat]

def cc0_transform_4 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 1 := Scalar.cmpi .slt arg0 c32_i32
  let c512_i32 : BitVec 32 := 512#32
  let v1 : BitVec 32 := Scalar.muli arg0 c512_i32
  let c4096_i32 : BitVec 32 := 4096#32
  let v2 : BitVec 32 := Scalar.divsi v1 c4096_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4096_i32 c0_i32_1
  let v9 : BitVec 32 := Scalar.extui v8
  let c0_i32_2 : BitVec 32 := 0#32
  let v10 : BitVec 1 := Scalar.cmpi .slt c4096_i32 c0_i32_2
  let v11 : BitVec 32 := Scalar.extui v10
  let v12 : BitVec 32 := Scalar.subi v9 v11
  let v13 : BitVec 1 := Scalar.cmpi .ne v7 v12
  let v14 : BitVec 32 := Scalar.remsi v1 c4096_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32 : BitVec 32 := 4#32
  let v19 : BitVec 32 := Scalar.select v0 v18 c4_i32
  let c0_i32_4 : BitVec 32 := 0#32
  let c0_i32_5 : BitVec 32 := 0#32
  ![v19.toNat, c0_i32_4.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x6x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S17408x2048 : Shape := ⟨2, ![17408, 2048]⟩
abbrev S2048x2048 : Shape := ⟨2, ![2048, 2048]⟩
abbrev S16384x2048 : Shape := ⟨2, ![16384, 2048]⟩
abbrev S1024x2048 : Shape := ⟨2, ![1024, 2048]⟩
abbrev S8x6x2048 : Shape := ⟨3, ![8, 6, 2048]⟩
abbrev S4x4096x2048 : Shape := ⟨3, ![4, 4096, 2048]⟩
abbrev S4x256x2048 : Shape := ⟨3, ![4, 256, 2048]⟩
abbrev S4x6x2048 : Shape := ⟨3, ![4, 6, 2048]⟩
abbrev S4x6x1x2048 : Shape := ⟨4, ![4, 6, 1, 2048]⟩
abbrev S1x6x2048 : Shape := ⟨3, ![1, 6, 2048]⟩
abbrev S6x2048 : Shape := ⟨2, ![6, 2048]⟩
abbrev S6x1x1x2048 : Shape := ⟨4, ![6, 1, 1, 2048]⟩
abbrev S4x1x1x2048 : Shape := ⟨4, ![4, 1, 1, 2048]⟩
abbrev S4x1x2048 : Shape := ⟨3, ![4, 1, 2048]⟩
abbrev S1x1x1x2048 : Shape := ⟨4, ![1, 1, 1, 2048]⟩
abbrev S1x1x2048 : Shape := ⟨3, ![1, 1, 2048]⟩

abbrev nBuf : Space → Nat
  | .hbm => 35
  | .vmem => 0
  | .smem => 0
  | _ => 0

abbrev bufTy : (tb : Table) → Fin (tcTables nBuf tb) → BufTy
  | .hbm, ⟨0, _⟩ => ⟨S17408x2048, .bf16⟩
  | .hbm, ⟨1, _⟩ => ⟨S2048x2048, .bf16⟩
  | .hbm, ⟨2, _⟩ => ⟨S16384x2048, .f32⟩
  | .hbm, ⟨3, _⟩ => ⟨S1024x2048, .f32⟩
  | .hbm, ⟨4, _⟩ => ⟨S8x6x2048, .f32⟩
  | .hbm, ⟨5, _⟩ => ⟨S4x4096x2048, .f32⟩
  | .hbm, ⟨6, _⟩ => ⟨S4x256x2048, .f32⟩
  | .hbm, ⟨7, _⟩ => ⟨S16384x2048, .bf16⟩
  | .hbm, ⟨8, _⟩ => ⟨S4x4096x2048, .bf16⟩
  | .hbm, ⟨9, _⟩ => ⟨S4x4096x2048, .f32⟩
  | .hbm, ⟨10, _⟩ => ⟨S2048x2048, .f32⟩
  | .hbm, ⟨11, _⟩ => ⟨S4x4096x2048, .f32⟩
  | .hbm, ⟨12, _⟩ => ⟨S1024x2048, .bf16⟩
  | .hbm, ⟨13, _⟩ => ⟨S4x256x2048, .bf16⟩
  | .hbm, ⟨14, _⟩ => ⟨S4x256x2048, .f32⟩
  | .hbm, ⟨15, _⟩ => ⟨S2048x2048, .f32⟩
  | .hbm, ⟨16, _⟩ => ⟨S4x256x2048, .f32⟩
  | .hbm, ⟨17, _⟩ => ⟨S4x6x2048, .f32⟩
  | .hbm, ⟨18, _⟩ => ⟨S4x6x1x2048, .f32⟩
  | .hbm, ⟨19, _⟩ => ⟨S1x6x2048, .f32⟩
  | .hbm, ⟨20, _⟩ => ⟨S6x2048, .f32⟩
  | .hbm, ⟨21, _⟩ => ⟨S6x1x1x2048, .f32⟩
  | .hbm, ⟨22, _⟩ => ⟨S4x1x1x2048, .f32⟩
  | .hbm, ⟨23, _⟩ => ⟨S4x1x2048, .f32⟩
  | .hbm, ⟨24, _⟩ => ⟨S4x4096x2048, .f32⟩
  | .hbm, ⟨25, _⟩ => ⟨S4x4096x2048, .f32⟩
  | .hbm, ⟨26, _⟩ => ⟨S4x4096x2048, .f32⟩
  | .hbm, ⟨27, _⟩ => ⟨S1x1x1x2048, .f32⟩
  | .hbm, ⟨28, _⟩ => ⟨S1x1x2048, .f32⟩
  | .hbm, ⟨29, _⟩ => ⟨S4x256x2048, .f32⟩
  | .hbm, ⟨30, _⟩ => ⟨S4x256x2048, .f32⟩
  | .hbm, ⟨31, _⟩ => ⟨S4x256x2048, .f32⟩
  | .hbm, ⟨32, _⟩ => ⟨S16384x2048, .f32⟩
  | .hbm, ⟨33, _⟩ => ⟨S1024x2048, .f32⟩
  | .hbm, ⟨34, _⟩ => ⟨S17408x2048, .f32⟩
  | _, _ => ⟨S17408x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩

abbrev nD : Nat := 1
abbrev τ : Topo := Topo.v7x

variable {F : FTy → Type} [FloatOps F]
-- ==== Kernel5.lean ====
abbrev S17408x512 : Shape := ⟨2, ![17408, 512]⟩
abbrev S17408x14336 : Shape := ⟨2, ![17408, 14336]⟩
abbrev S4x512x2048 : Shape := ⟨3, ![4, 512, 2048]⟩
abbrev S17408x2048 : Shape := ⟨2, ![17408, 2048]⟩
abbrev S512x512 : Shape := ⟨2, ![512, 512]⟩
abbrev S1x512x512 : Shape := ⟨3, ![1, 512, 512]⟩

abbrev nBuf : Space → Nat
  | .hbm => 7
  | .vmem => 26
  | .smem => 0
  | _ => 0

abbrev bufTy : (tb : Table) → Fin (tcTables nBuf tb) → BufTy
  | .hbm, ⟨0, _⟩ => ⟨S17408x512, .f32⟩
  | .hbm, ⟨1, _⟩ => ⟨S17408x512, .f32⟩
  | .hbm, ⟨2, _⟩ => ⟨S17408x512, .f32⟩
  | .hbm, ⟨3, _⟩ => ⟨S17408x512, .f32⟩
  | .hbm, ⟨4, _⟩ => ⟨S17408x14336, .f32⟩
  | .hbm, ⟨5, _⟩ => ⟨S4x512x2048, .bf16⟩
  | .hbm, ⟨6, _⟩ => ⟨S17408x2048, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S1x512x512, .bf16⟩
  | .local _ .vmem, ⟨17, _⟩ => ⟨S1x512x512, .bf16⟩
  | .local _ .vmem, ⟨18, _⟩ => ⟨S1x512x512, .bf16⟩
  | .local _ .vmem, ⟨19, _⟩ => ⟨S1x512x512, .bf16⟩
  | .local _ .vmem, ⟨20, _⟩ => ⟨S1x512x512, .bf16⟩
  | .local _ .vmem, ⟨21, _⟩ => ⟨S1x512x512, .bf16⟩
  | .local _ .vmem, ⟨22, _⟩ => ⟨S1x512x512, .bf16⟩
  | .local _ .vmem, ⟨23, _⟩ => ⟨S1x512x512, .bf16⟩
  | .local _ .vmem, ⟨24, _⟩ => ⟨S512x512, .bf16⟩
  | .local _ .vmem, ⟨25, _⟩ => ⟨S512x512, .bf16⟩
  | _, _ => ⟨S17408x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![34, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.addi c15_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c19_i32 : BitVec 32 := 19#32
  let v0 : BitVec 32 := Scalar.addi c19_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c23_i32 : BitVec 32 := 23#32
  let v0 : BitVec 32 := Scalar.addi c23_i32 arg1
  let c0_i32 : BitVec 32 := 0#32
  ![arg0.toNat, v0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference5Ideal.lean ====
abbrev S17408x512 : Shape := ⟨2, ![17408, 512]⟩
abbrev S17408x14336 : Shape := ⟨2, ![17408, 14336]⟩
abbrev S4x512x2048 : Shape := ⟨3, ![4, 512, 2048]⟩
abbrev S17408x2048 : Shape := ⟨2, ![17408, 2048]⟩
abbrev S_ : Shape := ⟨0, ![]⟩
abbrev S1x512x2048 : Shape := ⟨3, ![1, 512, 2048]⟩
abbrev S512x2048 : Shape := ⟨2, ![512, 2048]⟩

abbrev nBuf : Space → Nat
  | .hbm => 66
  | .vmem => 0
  | .smem => 0
  | _ => 0

abbrev bufTy : (tb : Table) → Fin (tcTables nBuf tb) → BufTy
  | .hbm, ⟨0, _⟩ => ⟨S17408x512, .f32⟩
  | .hbm, ⟨1, _⟩ => ⟨S17408x512, .f32⟩
  | .hbm, ⟨2, _⟩ => ⟨S17408x512, .f32⟩
  | .hbm, ⟨3, _⟩ => ⟨S17408x512, .f32⟩
  | .hbm, ⟨4, _⟩ => ⟨S17408x14336, .f32⟩
  | .hbm, ⟨5, _⟩ => ⟨S4x512x2048, .bf16⟩
  | .hbm, ⟨6, _⟩ => ⟨S17408x2048, .f32⟩
  | .hbm, ⟨7, _⟩ => ⟨S17408x2048, .f32⟩
  | .hbm, ⟨8, _⟩ => ⟨S17408x2048, .f32⟩
  | .hbm, ⟨9, _⟩ => ⟨S_, .f32⟩
  | .hbm, ⟨10, _⟩ => ⟨S17408x2048, .f32⟩
  | .hbm, ⟨11, _⟩ => ⟨S17408x2048, .f32⟩
  | .hbm, ⟨12, _⟩ => ⟨S_, .f32⟩
  | .hbm, ⟨13, _⟩ => ⟨S17408x2048, .f32⟩
  | .hbm, ⟨14, _⟩ => ⟨S17408x2048, .f32⟩
  | .hbm, ⟨15, _⟩ => ⟨S1x512x2048, .bf16⟩
  | .hbm, ⟨16, _⟩ => ⟨S512x2048, .bf16⟩
  | .hbm, ⟨17, _⟩ => ⟨S512x2048, .f32⟩
  | .hbm, ⟨18, _⟩ => ⟨S17408x2048, .f32⟩
  | .hbm, ⟨19, _⟩ => ⟨S17408x2048, .f32⟩
  | .hbm, ⟨20, _⟩ => ⟨S17408x2048, .f32⟩
  | .hbm, ⟨21, _⟩ => ⟨S17408x2048, .f32⟩
  | .hbm, ⟨22, _⟩ => ⟨S17408x2048, .f32⟩
  | .hbm, ⟨23, _⟩ => ⟨S_, .f32⟩
  | .hbm, ⟨24, _⟩ => ⟨S17408x2048, .f32⟩
  | .hbm, ⟨25, _⟩ => ⟨S17408x2048, .f32⟩
  | .hbm, ⟨26, _⟩ => ⟨S_, .f32⟩
  | .hbm, ⟨27, _⟩ => ⟨S17408x2048, .f32⟩
  | .hbm, ⟨28, _⟩ => ⟨S17408x2048, .f32⟩
  | .hbm, ⟨29, _⟩ => ⟨S1x512x2048, .bf16⟩
  | .hbm, ⟨30, _⟩ => ⟨S512x2048, .bf16⟩
  | .hbm, ⟨31, _⟩ => ⟨S512x2048, .f32⟩
  | .hbm, ⟨32, _⟩ => ⟨S17408x2048, .f32⟩
  | .hbm, ⟨33, _⟩ => ⟨S17408x2048, .f32⟩
  | .hbm, ⟨34, _⟩ => ⟨S17408x2048, .f32⟩
  | .hbm, ⟨35, _⟩ => ⟨S17408x2048, .f32⟩
  | .hbm, ⟨36, _⟩ => ⟨S17408x2048, .f32⟩
  | .hbm, ⟨37, _⟩ => ⟨S17408x2048, .f32⟩
  | .hbm, ⟨38, _⟩ => ⟨S_, .f32⟩
  | .hbm, ⟨39, _⟩ => ⟨S17408x2048, .f32⟩
  | .hbm, ⟨40, _⟩ => ⟨S17408x2048, .f32⟩
  | .hbm, ⟨41, _⟩ => ⟨S_, .f32⟩
  | .hbm, ⟨42, _⟩ => ⟨S17408x2048, .f32⟩
  | .hbm, ⟨43, _⟩ => ⟨S17408x2048, .f32⟩
  | .hbm, ⟨44, _⟩ => ⟨S1x512x2048, .bf16⟩
  | .hbm, ⟨45, _⟩ => ⟨S512x2048, .bf16⟩
  | .hbm, ⟨46, _⟩ => ⟨S512x2048, .f32⟩
  | .hbm, ⟨47, _⟩ => ⟨S17408x2048, .f32⟩
  | .hbm, ⟨48, _⟩ => ⟨S17408x2048, .f32⟩
  | .hbm, ⟨49, _⟩ => ⟨S17408x2048, .f32⟩
  | .hbm, ⟨50, _⟩ => ⟨S17408x2048, .f32⟩
  | .hbm, ⟨51, _⟩ => ⟨S17408x2048, .f32⟩
  | .hbm, ⟨52, _⟩ => ⟨S17408x2048, .f32⟩
  | .hbm, ⟨53, _⟩ => ⟨S_, .f32⟩
  | .hbm, ⟨54, _⟩ => ⟨S17408x2048, .f32⟩
  | .hbm, ⟨55, _⟩ => ⟨S17408x2048, .f32⟩
  | .hbm, ⟨56, _⟩ => ⟨S_, .f32⟩
  | .hbm, ⟨57, _⟩ => ⟨S17408x2048, .f32⟩
  | .hbm, ⟨58, _⟩ => ⟨S17408x2048, .f32⟩
  | .hbm, ⟨59, _⟩ => ⟨S1x512x2048, .bf16⟩
  | .hbm, ⟨60, _⟩ => ⟨S512x2048, .bf16⟩
  | .hbm, ⟨61, _⟩ => ⟨S512x2048, .f32⟩
  | .hbm, ⟨62, _⟩ => ⟨S17408x2048, .f32⟩
  | .hbm, ⟨63, _⟩ => ⟨S17408x2048, .f32⟩
  | .hbm, ⟨64, _⟩ => ⟨S17408x2048, .f32⟩
  | .hbm, ⟨65, _⟩ => ⟨S17408x2048, .bf16⟩
  | _, _ => ⟨S17408x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_5 : Ref sig .tc := ⟨.hbm, 53, rfl⟩
abbrev main_v41 : Ref sig .tc := ⟨.hbm, 54, rfl⟩
abbrev main_v42 : Ref sig .tc := ⟨.hbm, 55, rfl⟩
abbrev main_cst_6 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩

abbrev nD : Nat := 1
abbrev τ : Topo := Topo.v7x

variable {F : FTy → Type} [FloatOps F]
-- ==== Kernel6.lean ====
abbrev S16x2048x2048 : Shape := ⟨3, ![16, 2048, 2048]⟩
abbrev S16x2048x1 : Shape := ⟨3, ![16, 2048, 1]⟩
abbrev S16x2048x1536 : Shape := ⟨3, ![16, 2048, 1536]⟩
abbrev S16x1536x2048 : Shape := ⟨3, ![16, 1536, 2048]⟩
abbrev S1x1024x2048 : Shape := ⟨3, ![1, 1024, 2048]⟩
abbrev S1x1024x1 : Shape := ⟨3, ![1, 1024, 1]⟩
abbrev S1x2048x256 : Shape := ⟨3, ![1, 2048, 256]⟩
abbrev S1x256x2048 : Shape := ⟨3, ![1, 256, 2048]⟩
abbrev S1024x2048 : Shape := ⟨2, ![1024, 2048]⟩
abbrev S2048x256 : Shape := ⟨2, ![2048, 256]⟩
abbrev S1024x256 : Shape := ⟨2, ![1024, 256]⟩
abbrev S256x2048 : Shape := ⟨2, ![256, 2048]⟩
abbrev S1024x1 : Shape := ⟨2, ![1024, 1]⟩

abbrev nBuf : Space → Nat
  | .hbm => 6
  | .vmem => 13
  | .smem => 0
  | _ => 0

abbrev bufTy : (tb : Table) → Fin (tcTables nBuf tb) → BufTy
  | .hbm, ⟨0, _⟩ => ⟨S16x2048x2048, .bf16⟩
  | .hbm, ⟨1, _⟩ => ⟨S16x2048x1, .f32⟩
  | .hbm, ⟨2, _⟩ => ⟨S16x2048x1536, .f32⟩
  | .hbm, ⟨3, _⟩ => ⟨S16x2048x1536, .f32⟩
  | .hbm, ⟨4, _⟩ => ⟨S16x1536x2048, .f32⟩
  | .hbm, ⟨5, _⟩ => ⟨S16x2048x2048, .bf16⟩
  | .local _ .vmem, ⟨0, _⟩ => ⟨S1x1024x2048, .bf16⟩
  | .local _ .vmem, ⟨1, _⟩ => ⟨S1x1024x2048, .bf16⟩
  | .local _ .vmem, ⟨2, _⟩ => ⟨S1x1024x1, .f32⟩
  | .local _ .vmem, ⟨3, _⟩ => ⟨S1x1024x1, .f32⟩
  | .local _ .vmem, ⟨4, _⟩ => ⟨S1x2048x256, .f32⟩
  | .local _ .vmem, ⟨5, _⟩ => ⟨S1x2048x256, .f32⟩
  | .local _ .vmem, ⟨6, _⟩ => ⟨S1x2048x256, .f32⟩
  | .local _ .vmem, ⟨7, _⟩ => ⟨S1x2048x256, .f32⟩
  | .local _ .vmem, ⟨8, _⟩ => ⟨S1x256x2048, .f32⟩
  | .local _ .vmem, ⟨9, _⟩ => ⟨S1x256x2048, .f32⟩
  | .local _ .vmem, ⟨10, _⟩ => ⟨S1x1024x2048, .bf16⟩
  | .local _ .vmem, ⟨11, _⟩ => ⟨S1x1024x2048, .bf16⟩
  | .local _ .vmem, ⟨12, _⟩ => ⟨S1024x2048, .f32⟩
  | _, _ => ⟨S16x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 2, 6], ![false, false, false]⟩

def k0_cond2 (i : grid0.Coords) : BitVec 1 :=
  let arg2 : BitVec 32 := BitVec.ofNat 32 (i 2).val
  let c5_i32 : BitVec 32 := 5#32
  let v32 : BitVec 1 := Scalar.cmpi .eq arg2 c5_i32
  let v33 : BitVec 32 := Scalar.extui v32
  let c0_i32_21 : BitVec 32 := 0#32
  let v34 : BitVec 1 := Scalar.cmpi .ne v33 c0_i32_21
  v34

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference6Ideal.lean ====
abbrev S16x2048x2048 : Shape := ⟨3, ![16, 2048, 2048]⟩
abbrev S16x2048x1 : Shape := ⟨3, ![16, 2048, 1]⟩
abbrev S16x2048x1536 : Shape := ⟨3, ![16, 2048, 1536]⟩
abbrev S16x1536x2048 : Shape := ⟨3, ![16, 1536, 2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S16x2048x2048, .bf16⟩
  | .hbm, ⟨1, _⟩ => ⟨S16x2048x1, .f32⟩
  | .hbm, ⟨2, _⟩ => ⟨S16x2048x1536, .f32⟩
  | .hbm, ⟨3, _⟩ => ⟨S16x2048x1536, .f32⟩
  | .hbm, ⟨4, _⟩ => ⟨S16x1536x2048, .f32⟩
  | .hbm, ⟨5, _⟩ => ⟨S16x2048x2048, .f32⟩
  | .hbm, ⟨6, _⟩ => ⟨S16x2048x1536, .f32⟩
  | .hbm, ⟨7, _⟩ => ⟨S16x2048x1536, .f32⟩
  | .hbm, ⟨8, _⟩ => ⟨S16x2048x1536, .f32⟩
  | .hbm, ⟨9, _⟩ => ⟨S_, .f32⟩
  | .hbm, ⟨10, _⟩ => ⟨S16x2048x1536, .f32⟩
  | .hbm, ⟨11, _⟩ => ⟨S16x2048x1536, .f32⟩
  | .hbm, ⟨12, _⟩ => ⟨S_, .f32⟩
  | .hbm, ⟨13, _⟩ => ⟨S16x2048x1536, .f32⟩
  | .hbm, ⟨14, _⟩ => ⟨S16x2048x1536, .f32⟩
  | .hbm, ⟨15, _⟩ => ⟨S16x2048x1536, .f32⟩
  | .hbm, ⟨16, _⟩ => ⟨S16x2048x1536, .f32⟩
  | .hbm, ⟨17, _⟩ => ⟨S16x2048x1536, .f32⟩
  | .hbm, ⟨18, _⟩ => ⟨S16x2048x2048, .f32⟩
  | .hbm, ⟨19, _⟩ => ⟨S16x2048x2048, .f32⟩
  | .hbm, ⟨20, _⟩ => ⟨S16x2048x2048, .f32⟩
  | .hbm, ⟨21, _⟩ => ⟨S16x2048x2048, .bf16⟩
  | _, _ => ⟨S16x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩

abbrev nD : Nat := 1
abbrev τ : Topo := Topo.v7x

variable {F : FTy → Type} [FloatOps F]
-- ==== Kernel7.lean ====
abbrev S16384x2048 : Shape := ⟨2, ![16384, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S16384x2048 : Shape := ⟨2, ![16384, 2048]⟩
abbrev S1x2048 : Shape := ⟨2, ![1, 2048]⟩
abbrev S4x4096x2048 : Shape := ⟨3, ![4, 4096, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩

abbrev nBuf : Space → Nat
  | .hbm => 21
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S4x4096x2048, .f32⟩
  | .hbm, ⟨3, _⟩ => ⟨S2048, .f32⟩
  | .hbm, ⟨4, _⟩ => ⟨S4x4096x2048, .f32⟩
  | .hbm, ⟨5, _⟩ => ⟨S_, .f32⟩
  | .hbm, ⟨6, _⟩ => ⟨S4x4096, .f32⟩
  | .hbm, ⟨7, _⟩ => ⟨S4x4096x1, .f32⟩
  | .hbm, ⟨8, _⟩ => ⟨S_, .f32⟩
  | .hbm, ⟨9, _⟩ => ⟨S4x4096x1, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S4x4096x1, .f32⟩
  | .hbm, ⟨15, _⟩ => ⟨S4x4096x2048, .f32⟩
  | .hbm, ⟨16, _⟩ => ⟨S4x4096x2048, .f32⟩
  | .hbm, ⟨17, _⟩ => ⟨S1x1x2048, .f32⟩
  | .hbm, ⟨18, _⟩ => ⟨S4x4096x2048, .f32⟩
  | .hbm, ⟨19, _⟩ => ⟨S4x4096x2048, .f32⟩
  | .hbm, ⟨20, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Kernel8.lean ====
abbrev S17408x512 : Shape := ⟨2, ![17408, 512]⟩
abbrev S17408x14336 : Shape := ⟨2, ![17408, 14336]⟩
abbrev S512 : Shape := ⟨1, ![512]⟩
abbrev S512x512 : Shape := ⟨2, ![512, 512]⟩
abbrev S1x512 : Shape := ⟨2, ![1, 512]⟩

abbrev nBuf : Space → Nat
  | .hbm => 9
  | .vmem => 11
  | .smem => 0
  | _ => 0

abbrev bufTy : (tb : Table) → Fin (tcTables nBuf tb) → BufTy
  | .hbm, ⟨0, _⟩ => ⟨S17408x512, .f32⟩
  | .hbm, ⟨1, _⟩ => ⟨S17408x512, .f32⟩
  | .hbm, ⟨2, _⟩ => ⟨S17408x14336, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S1x512, .f32⟩
  | .hbm, ⟨7, _⟩ => ⟨S1x512, .f32⟩
  | .hbm, ⟨8, _⟩ => ⟨S17408x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S512x512, .f32⟩
  | .local _ .vmem, ⟨8, _⟩ => ⟨S1x512, .f32⟩
  | .local _ .vmem, ⟨9, _⟩ => ⟨S512x512, .f32⟩
  | .local _ .vmem, ⟨10, _⟩ => ⟨S512x512, .f32⟩
  | _, _ => ⟨S17408x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference8Ideal.lean ====
abbrev S17408x512 : Shape := ⟨2, ![17408, 512]⟩
abbrev S17408x14336 : Shape := ⟨2, ![17408, 14336]⟩
abbrev S512 : Shape := ⟨1, ![512]⟩
abbrev S512x512 : Shape := ⟨2, ![512, 512]⟩
abbrev S1x512 : Shape := ⟨2, ![1, 512]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S17408x512, .f32⟩
  | .hbm, ⟨1, _⟩ => ⟨S17408x512, .f32⟩
  | .hbm, ⟨2, _⟩ => ⟨S17408x14336, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S17408x512, .f32⟩
  | .hbm, ⟨7, _⟩ => ⟨S17408x512, .f32⟩
  | .hbm, ⟨8, _⟩ => ⟨S1x512, .f32⟩
  | .hbm, ⟨9, _⟩ => ⟨S17408x512, .f32⟩
  | .hbm, ⟨10, _⟩ => ⟨S17408x512, .f32⟩
  | .hbm, ⟨11, _⟩ => ⟨S17408x512, .f32⟩
  | .hbm, ⟨12, _⟩ => ⟨S17408x512, .f32⟩
  | .hbm, ⟨13, _⟩ => ⟨S17408x512, .f32⟩
  | .hbm, ⟨14, _⟩ => ⟨S_, .f32⟩
  | .hbm, ⟨15, _⟩ => ⟨S17408x512, .f32⟩
  | .hbm, ⟨16, _⟩ => ⟨S17408x512, .f32⟩
  | .hbm, ⟨17, _⟩ => ⟨S17408x512, .f32⟩
  | .hbm, ⟨18, _⟩ => ⟨S_, .f32⟩
  | .hbm, ⟨19, _⟩ => ⟨S17408x512, .f32⟩
  | .hbm, ⟨20, _⟩ => ⟨S17408x512, .f32⟩
  | .hbm, ⟨21, _⟩ => ⟨S17408x512, .f32⟩
  | .hbm, ⟨22, _⟩ => ⟨S_, .f32⟩
  | .hbm, ⟨23, _⟩ => ⟨S17408x512, .f32⟩
  | .hbm, ⟨24, _⟩ => ⟨S17408x512, .f32⟩
  | .hbm, ⟨25, _⟩ => ⟨S_, .f32⟩
  | .hbm, ⟨26, _⟩ => ⟨S17408x512, .f32⟩
  | .hbm, ⟨27, _⟩ => ⟨S17408x512, .f32⟩
  | .hbm, ⟨28, _⟩ => ⟨S17408x512, .f32⟩
  | .hbm, ⟨29, _⟩ => ⟨S17408x512, .f32⟩
  | .hbm, ⟨30, _⟩ => ⟨S1x512, .f32⟩
  | .hbm, ⟨31, _⟩ => ⟨S17408x512, .f32⟩
  | .hbm, ⟨32, _⟩ => ⟨S17408x512, .f32⟩
  | .hbm, ⟨33, _⟩ => ⟨S17408x512, .f32⟩
  | .hbm, ⟨34, _⟩ => ⟨S17408x512, .f32⟩
  | .hbm, ⟨35, _⟩ => ⟨S_, .f32⟩
  | .hbm, ⟨36, _⟩ => ⟨S17408x512, .f32⟩
  | .hbm, ⟨37, _⟩ => ⟨S17408x512, .f32⟩
  | .hbm, ⟨38, _⟩ => ⟨S_, .f32⟩
  | .hbm, ⟨39, _⟩ => ⟨S17408x512, .f32⟩
  | .hbm, ⟨40, _⟩ => ⟨S17408x512, .f32⟩
  | .hbm, ⟨41, _⟩ => ⟨S17408x512, .f32⟩
  | _, _ => ⟨S17408x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== Kernel9.lean ====
abbrev S17408x512 : Shape := ⟨2, ![17408, 512]⟩
abbrev S17408x1024 : Shape := ⟨2, ![17408, 1024]⟩
abbrev S17408x14336 : Shape := ⟨2, ![17408, 14336]⟩
abbrev S8 : Shape := ⟨1, ![8]⟩
abbrev S1x512 : Shape := ⟨2, ![1, 512]⟩
abbrev S8x64 : Shape := ⟨2, ![8, 64]⟩
abbrev S512 : Shape := ⟨1, ![512]⟩
abbrev S512x512 : Shape := ⟨2, ![512, 512]⟩
abbrev S512x1 : Shape := ⟨2, ![512, 1]⟩

abbrev nBuf : Space → Nat
  | .hbm => 10
  | .vmem => 12
  | .smem => 0
  | _ => 0

abbrev bufTy : (tb : Table) → Fin (tcTables nBuf tb) → BufTy
  | .hbm, ⟨0, _⟩ => ⟨S17408x512, .f32⟩
  | .hbm, ⟨1, _⟩ => ⟨S17408x512, .f32⟩
  | .hbm, ⟨2, _⟩ => ⟨S17408x1024, .f32⟩
  | .hbm, ⟨3, _⟩ => ⟨S17408x14336, .f32⟩
  | .hbm, ⟨4, _⟩ => ⟨S8, .f32⟩
  | .hbm, ⟨5, _⟩ => ⟨S1x512, .f32⟩
  | .hbm, ⟨6, _⟩ => ⟨S8x64, .f32⟩
  | .hbm, ⟨7, _⟩ => ⟨S512, .f32⟩
  | .hbm, ⟨8, _⟩ => ⟨S1x512, .f32⟩
  | .hbm, ⟨9, _⟩ => ⟨S17408x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S1x512, .f32⟩
  | .local _ .vmem, ⟨9, _⟩ => ⟨S1x512, .f32⟩
  | .local _ .vmem, ⟨10, _⟩ => ⟨S512x512, .f32⟩
  | .local _ .vmem, ⟨11, _⟩ => ⟨S512x512, .f32⟩
  | _, _ => ⟨S17408x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference9Ideal.lean ====
abbrev S17408x512 : Shape := ⟨2, ![17408, 512]⟩
abbrev S17408x1024 : Shape := ⟨2, ![17408, 1024]⟩
abbrev S17408x14336 : Shape := ⟨2, ![17408, 14336]⟩
abbrev S8 : Shape := ⟨1, ![8]⟩
abbrev S1x512 : Shape := ⟨2, ![1, 512]⟩
abbrev S17408x8x64 : Shape := ⟨3, ![17408, 8, 64]⟩
abbrev S8x1 : Shape := ⟨2, ![8, 1]⟩
abbrev S1x8x1 : Shape := ⟨3, ![1, 8, 1]⟩
abbrev S_ : Shape := ⟨0, ![]⟩
abbrev S512 : Shape := ⟨1, ![512]⟩
abbrev S17408 : Shape := ⟨1, ![17408]⟩
abbrev S17408x1 : Shape := ⟨2, ![17408, 1]⟩

abbrev nBuf : Space → Nat
  | .hbm => 45
  | .vmem => 0
  | .smem => 0
  | _ => 0

abbrev bufTy : (tb : Table) → Fin (tcTables nBuf tb) → BufTy
  | .hbm, ⟨0, _⟩ => ⟨S17408x512, .f32⟩
  | .hbm, ⟨1, _⟩ => ⟨S17408x512, .f32⟩
  | .hbm, ⟨2, _⟩ => ⟨S17408x1024, .f32⟩
  | .hbm, ⟨3, _⟩ => ⟨S17408x14336, .f32⟩
  | .hbm, ⟨4, _⟩ => ⟨S8, .f32⟩
  | .hbm, ⟨5, _⟩ => ⟨S1x512, .f32⟩
  | .hbm, ⟨6, _⟩ => ⟨S17408x8x64, .f32⟩
  | .hbm, ⟨7, _⟩ => ⟨S17408x8x64, .f32⟩
  | .hbm, ⟨8, _⟩ => ⟨S17408x8x64, .f32⟩
  | .hbm, ⟨9, _⟩ => ⟨S8x1, .f32⟩
  | .hbm, ⟨10, _⟩ => ⟨S17408x512, .f32⟩
  | .hbm, ⟨11, _⟩ => ⟨S17408x8x64, .f32⟩
  | .hbm, ⟨12, _⟩ => ⟨S1x8x1, .f32⟩
  | .hbm, ⟨13, _⟩ => ⟨S17408x8x64, .f32⟩
  | .hbm, ⟨14, _⟩ => ⟨S17408x8x64, .f32⟩
  | .hbm, ⟨15, _⟩ => ⟨S17408x8x64, .f32⟩
  | .hbm, ⟨16, _⟩ => ⟨S17408x512, .f32⟩
  | .hbm, ⟨17, _⟩ => ⟨S17408x512, .f32⟩
  | .hbm, ⟨18, _⟩ => ⟨S17408x512, .f32⟩
  | .hbm, ⟨19, _⟩ => ⟨S17408x512, .f32⟩
  | .hbm, ⟨20, _⟩ => ⟨S_, .f32⟩
  | .hbm, ⟨21, _⟩ => ⟨S17408x512, .f32⟩
  | .hbm, ⟨22, _⟩ => ⟨S17408x512, .f32⟩
  | .hbm, ⟨23, _⟩ => ⟨S_, .f32⟩
  | .hbm, ⟨24, _⟩ => ⟨S17408x512, .f32⟩
  | .hbm, ⟨25, _⟩ => ⟨S17408x512, .f32⟩
  | .hbm, ⟨26, _⟩ => ⟨S17408x512, .f32⟩
  | .hbm, ⟨27, _⟩ => ⟨S17408x512, .f32⟩
  | .hbm, ⟨28, _⟩ => ⟨S512, .f32⟩
  | .hbm, ⟨29, _⟩ => ⟨S17408x512, .f32⟩
  | .hbm, ⟨30, _⟩ => ⟨S_, .f32⟩
  | .hbm, ⟨31, _⟩ => ⟨S17408, .f32⟩
  | .hbm, ⟨32, _⟩ => ⟨S17408x1, .f32⟩
  | .hbm, ⟨33, _⟩ => ⟨S_, .f32⟩
  | .hbm, ⟨34, _⟩ => ⟨S17408x1, .f32⟩
  | .hbm, ⟨35, _⟩ => ⟨S17408x1, .f32⟩
  | .hbm, ⟨36, _⟩ => ⟨S_, .f32⟩
  | .hbm, ⟨37, _⟩ => ⟨S17408x1, .f32⟩
  | .hbm, ⟨38, _⟩ => ⟨S17408x1, .f32⟩
  | .hbm, ⟨39, _⟩ => ⟨S17408x1, .f32⟩
  | .hbm, ⟨40, _⟩ => ⟨S17408x512, .f32⟩
  | .hbm, ⟨41, _⟩ => ⟨S17408x512, .f32⟩
  | .hbm, ⟨42, _⟩ => ⟨S1x512, .f32⟩
  | .hbm, ⟨43, _⟩ => ⟨S17408x512, .f32⟩
  | .hbm, ⟨44, _⟩ => ⟨S17408x512, .f32⟩
  | _, _ => ⟨S17408x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst : Ref sig .tc := ⟨.hbm, 30, rfl⟩
abbrev main_v16 : Ref sig .tc := ⟨.hbm, 31, rfl⟩
abbrev main_v17 : Ref sig .tc := ⟨.hbm, 32, rfl⟩
abbrev main_cst_0 : Ref sig .tc := ⟨.hbm, 33, rfl⟩
abbrev main_v18 : Ref sig .tc := ⟨.hbm, 34, rfl⟩
abbrev main_v19 : Ref sig .tc := ⟨.hbm, 35, rfl⟩
abbrev main_cst_1 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩

abbrev nD : Nat := 1
abbrev τ : Topo := Topo.v7x

variable {F : FTy → Type} [FloatOps F]
-- ==== Kernel10.lean ====
abbrev S17408x512 : Shape := ⟨2, ![17408, 512]⟩
abbrev S17408x14336 : Shape := ⟨2, ![17408, 14336]⟩
abbrev S1x512 : Shape := ⟨2, ![1, 512]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S1x128 : Shape := ⟨2, ![1, 128]⟩

abbrev nBuf : Space → Nat
  | .hbm => 5
  | .vmem => 9
  | .smem => 0
  | _ => 0

abbrev bufTy : (tb : Table) → Fin (tcTables nBuf tb) → BufTy
  | .hbm, ⟨0, _⟩ => ⟨S17408x512, .f32⟩
  | .hbm, ⟨1, _⟩ => ⟨S17408x512, .f32⟩
  | .hbm, ⟨2, _⟩ => ⟨S17408x14336, .f32⟩
  | .hbm, ⟨3, _⟩ => ⟨S1x512, .f32⟩
  | .hbm, ⟨4, _⟩ => ⟨S17408x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S512x512, .f32⟩
  | .local _ .vmem, ⟨8, _⟩ => ⟨S512x512, .f32⟩
  | _, _ => ⟨S17408x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference10Ideal.lean ====
abbrev S17408x512 : Shape := ⟨2, ![17408, 512]⟩
abbrev S17408x14336 : Shape := ⟨2, ![17408, 14336]⟩
abbrev S1x512 : Shape := ⟨2, ![1, 512]⟩
abbrev S17408x4x128 : Shape := ⟨3, ![17408, 4, 128]⟩
abbrev S_ : Shape := ⟨0, ![]⟩
abbrev S17408x4 : Shape := ⟨2, ![17408, 4]⟩
abbrev S17408x4x1 : Shape := ⟨3, ![17408, 4, 1]⟩
abbrev S512 : Shape := ⟨1, ![512]⟩

abbrev nBuf : Space → Nat
  | .hbm => 34
  | .vmem => 0
  | .smem => 0
  | _ => 0

abbrev bufTy : (tb : Table) → Fin (tcTables nBuf tb) → BufTy
  | .hbm, ⟨0, _⟩ => ⟨S17408x512, .f32⟩
  | .hbm, ⟨1, _⟩ => ⟨S17408x512, .f32⟩
  | .hbm, ⟨2, _⟩ => ⟨S17408x14336, .f32⟩
  | .hbm, ⟨3, _⟩ => ⟨S1x512, .f32⟩
  | .hbm, ⟨4, _⟩ => ⟨S17408x512, .f32⟩
  | .hbm, ⟨5, _⟩ => ⟨S17408x4x128, .f32⟩
  | .hbm, ⟨6, _⟩ => ⟨S17408x4x128, .f32⟩
  | .hbm, ⟨7, _⟩ => ⟨S_, .f32⟩
  | .hbm, ⟨8, _⟩ => ⟨S17408x4, .f32⟩
  | .hbm, ⟨9, _⟩ => ⟨S17408x4x1, .f32⟩
  | .hbm, ⟨10, _⟩ => ⟨S_, .f32⟩
  | .hbm, ⟨11, _⟩ => ⟨S17408x4x1, .f32⟩
  | .hbm, ⟨12, _⟩ => ⟨S17408x4x1, .f32⟩
  | .hbm, ⟨13, _⟩ => ⟨S_, .f32⟩
  | .hbm, ⟨14, _⟩ => ⟨S17408x4x1, .f32⟩
  | .hbm, ⟨15, _⟩ => ⟨S17408x4x1, .f32⟩
  | .hbm, ⟨16, _⟩ => ⟨S17408x4x1, .f32⟩
  | .hbm, ⟨17, _⟩ => ⟨S17408x4x128, .f32⟩
  | .hbm, ⟨18, _⟩ => ⟨S17408x4x128, .f32⟩
  | .hbm, ⟨19, _⟩ => ⟨S17408x512, .f32⟩
  | .hbm, ⟨20, _⟩ => ⟨S512, .f32⟩
  | .hbm, ⟨21, _⟩ => ⟨S1x512, .f32⟩
  | .hbm, ⟨22, _⟩ => ⟨S17408x512, .f32⟩
  | .hbm, ⟨23, _⟩ => ⟨S17408x512, .f32⟩
  | .hbm, ⟨24, _⟩ => ⟨S17408x512, .f32⟩
  | .hbm, ⟨25, _⟩ => ⟨S17408x512, .f32⟩
  | .hbm, ⟨26, _⟩ => ⟨S17408x512, .f32⟩
  | .hbm, ⟨27, _⟩ => ⟨S_, .f32⟩
  | .hbm, ⟨28, _⟩ => ⟨S17408x512, .f32⟩
  | .hbm, ⟨29, _⟩ => ⟨S17408x512, .f32⟩
  | .hbm, ⟨30, _⟩ => ⟨S_, .f32⟩
  | .hbm, ⟨31, _⟩ => ⟨S17408x512, .f32⟩
  | .hbm, ⟨32, _⟩ => ⟨S17408x512, .f32⟩
  | .hbm, ⟨33, _⟩ => ⟨S17408x512, .f32⟩
  | _, _ => ⟨S17408x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Proof.Spec.lean ====
/- THE RECURRENCE OF ONE HEAD OVER ONE CHUNK, on extended reals, as both programs compute it: the tokens of the chunk are numbered `Fin 64`, the head's
   channels `Fin 128`; `M t s` says that token `s` is not later than token `t` in the direction of the scan, `last` is the direction's last token. -/
module

public import Idealize.ShloMosaic.Lib.Pointwise

@[expose] public section

noncomputable section

namespace Cert.Proof.Ml

open Idealize.ShloMosaic

/-- What one head reads of one chunk: queries, keys, values, the input gate's logarithm and the forget gate's. -/
structure HeadIn where
  q : Fin 64 → Fin 128 → EReal
  k : Fin 64 → Fin 128 → EReal
  v : Fin 64 → Fin 128 → EReal
  ig : Fin 64 → EReal
  lf : Fin 64 → EReal

/-- What one head carries from chunk to chunk: the matrix memory (`C d e`: key channel `d`, value channel `e`), the normaliser and the stabiliser. -/
@[ext] structure HeadSt where
  C : Fin 128 → Fin 128 → EReal
  n : Fin 128 → EReal
  m : EReal

/-- The state before the first chunk. -/
def zeroSt : HeadSt := ⟨fun _ _ => 0, fun _ => 0, 0⟩

variable (M : Fin 64 → Fin 64 → Prop) [DecidableRel M] (last : Fin 64) (x : HeadIn) (st : HeadSt)

/-- The forget gates summed up to token `t`. -/
def cum (lf : Fin 64 → EReal) (t : Fin 64) : EReal := ∑ s, if M t s then lf s else 0

/-- The logarithm of token `s`'s weight at token `t`; `⊥` for a later token. -/
def dmat (t s : Fin 64) : EReal := if M t s then cum M x.lf t - cum M x.lf s + x.ig s else ⊥

/-- The stabiliser at token `t`. -/
def mt (t : Fin 64) : EReal := max (cum M x.lf t + st.m) (Finset.fold max ⊥ (dmat M x t) Finset.univ)

/-- The carried state's weight at token `t`. -/
def inter (t : Fin 64) : EReal := Ideal.exp (cum M x.lf t + st.m - mt M x st t)

/-- The weighted product of query `t` with key `s`. -/
def sc (t s : Fin 64) : EReal := (∑ d, x.q t d * x.k s d) * Ideal.exp (dmat M x t s - mt M x st t)

/-- The read-out's numerator. -/
def num (t : Fin 64) (e : Fin 128) : EReal := ∑ s, sc M x st t s * x.v s e + inter M x st t * ∑ d, x.q t d * st.C d e

/-- The read-out's denominator before it is kept away from zero. -/
def den (t : Fin 64) : EReal := ∑ s, sc M x st t s + inter M x st t * ∑ d, x.q t d * st.n d

/-- The read-out. -/
def hOut (t : Fin 64) (e : Fin 128) : EReal :=
  Ideal.div (num M x st t e) (max (FloatOps.absf (F := Ideal) (φ := .f32) (den M x st t)) (Ideal.exp (-mt M x st t)))

/-- Token `s`'s weight in the new state. -/
def ws (s : Fin 64) : EReal := Ideal.exp (cum M x.lf last - cum M x.lf s + x.ig s - mt M x st last)

/-- The old state's weight in the new one. -/
def dec : EReal := Ideal.exp (cum M x.lf last + st.m - mt M x st last)

/-- The state after the chunk. -/
def next : HeadSt where
  C d e := dec M last x st * st.C d e + ∑ s, x.k s d * (x.v s e * ws M last x st s)
  n d := dec M last x st * st.n d + ∑ s, x.k s d * ws M last x st s
  m := mt M x st last

/-- The forward order: `s ≤ t`. -/
abbrev fwd (t s : Fin 64) : Prop := s ≤ t

/-- The logarithm of the logistic function, as the reference writes it. -/
def lsig (x : EReal) : EReal := -(max (-x) 0 + Ideal.log1p (Ideal.exp (-FloatOps.absf (F := Ideal) (φ := .f32) x)))

theorem absf_eq (x : EReal) : FloatOps.absf (F := Ideal) (φ := .f32) x = max x (-x) := rfl

theorem exp_coe (r : ℝ) : Ideal.exp (r : EReal) = ((Real.exp r : ℝ) : EReal) := rfl
theorem exp_bot : Ideal.exp ⊥ = 0 := rfl
theorem log_coe (r : ℝ) (h : 0 < r) : Ideal.log (r : EReal) = ((Real.log r : ℝ) : EReal) := by
  show (if r ≤ 0 then ⊥ else (Real.log r : EReal)) = _
  rw [if_neg (not_le.mpr h)]

theorem log_one : Ideal.log (1 : EReal) = 0 := by
  have h := log_coe 1 one_pos
  rw [Real.log_one] at h
  exact h

/-- The second term of either form: the logarithm of one plus a nonnegative real. -/
theorem log_one_add_exp (r : ℝ) : Ideal.log (1 + Ideal.exp (-((r : ℝ) : EReal))) = ((Real.log (1 + Real.exp (-r)) : ℝ) : EReal) := by
  rw [← EReal.coe_neg, exp_coe, ← EReal.coe_one, ← EReal.coe_add, log_coe _ (by positivity)]

/-- The kernel's logarithm of the logistic function is the reference's. -/
theorem lsig_kernel (x : EReal) :
    min x 0 - Ideal.log (1 + Ideal.exp (0 - FloatOps.absf (F := Ideal) (φ := .f32) x)) = lsig x := by
  unfold lsig Ideal.log1p
  rw [zero_sub, absf_eq]
  induction x with
  | bot => simp [exp_bot, log_one]
  | top => simp [exp_bot, log_one]
  | coe r =>
    have ha : max (r : EReal) (-(r : EReal)) = ((max r (-r) : ℝ) : EReal) := by
      rw [← EReal.coe_neg]; exact (EReal.coe_strictMono.monotone.map_max).symm
    have hb : max (-(r : EReal)) 0 = ((max (-r) 0 : ℝ) : EReal) := by
      rw [← EReal.coe_neg, ← EReal.coe_zero]; exact (EReal.coe_strictMono.monotone.map_max).symm
    have hc : min (r : EReal) 0 = ((min r 0 : ℝ) : EReal) := by
      rw [← EReal.coe_zero]; exact (EReal.coe_strictMono.monotone.map_min).symm
    rw [ha, hb, hc, log_one_add_exp, ← EReal.coe_sub, ← EReal.coe_add, ← EReal.coe_neg]
    congr 1
    have : min r 0 = -max (-r) 0 := by
      rcases le_total r 0 with h | h
      · rw [min_eq_left h, max_eq_left (by linarith)]; ring
      · rw [min_eq_right h, max_eq_right (by linarith)]; ring
    rw [this]; ring

/-- The logarithm of the logistic function is never `⊤`. -/
theorem lsig_ne_top (x : EReal) : lsig x ≠ ⊤ := by
  rw [← lsig_kernel, absf_eq, zero_sub]
  induction x with
  | bot => simp [exp_bot, log_one]
  | top => simp [exp_bot, log_one]
  | coe r =>
    have ha : max (r : EReal) (-(r : EReal)) = ((max r (-r) : ℝ) : EReal) := by
      rw [← EReal.coe_neg]; exact (EReal.coe_strictMono.monotone.map_max).symm
    have hc : min (r : EReal) 0 = ((min r 0 : ℝ) : EReal) := by
      rw [← EReal.coe_zero]; exact (EReal.coe_strictMono.monotone.map_min).symm
    rw [ha, hc, log_one_add_exp, ← EReal.coe_sub]
    exact EReal.coe_ne_top _

/-- A sum with a `⊥` among its terms is `⊥`. -/
theorem sum_eq_bot {ι : Type} [DecidableEq ι] (S : Finset ι) (f : ι → EReal) (i : ι) (hi : i ∈ S) (h : f i = ⊥) : ∑ s ∈ S, f s = ⊥ := by
  rw [← Finset.add_sum_erase S f hi, h, EReal.bot_add]

/-- A sum taken in three parts, the value and two remainders that vanish where it is finite: the whole is the sum of the values. -/
theorem sum_split3 (g : Fin 64 → EReal) (h : ∀ s, g s ≠ ⊤) :
    ∑ s, g s + ∑ s, (g s - g s) + ∑ s, ((g s - g s) - (g s - g s)) = ∑ s, g s := by
  by_cases hb : ∃ s, g s = ⊥
  · obtain ⟨s, hs⟩ := hb
    rw [sum_eq_bot Finset.univ g s (Finset.mem_univ s) hs, EReal.bot_add, EReal.bot_add]
  · have h0 : ∀ s, g s - g s = 0 := fun s => EReal.sub_self (h s) (fun e => hb ⟨s, e⟩)
    simp only [h0, sub_zero, Finset.sum_const_zero, add_zero]

/-- The kernel's running sum, taken in three masked parts, is the plain one. -/
theorem cum_split3 (M : Fin 64 → Fin 64 → Prop) [DecidableRel M] (f : Fin 64 → EReal) (h : ∀ s, f s ≠ ⊤) (t : Fin 64) :
    (∑ s, if M t s then f s else 0) + (∑ s, if M t s then f s - f s else 0) + (∑ s, if M t s then (f s - f s) - (f s - f s) else 0) = cum M f t := by
  have e := sum_split3 (fun s => if M t s then f s else 0) (fun s => by
    show (if M t s then f s else 0) ≠ ⊤
    split
    · exact h s
    · exact EReal.zero_ne_top)
  unfold cum
  refine Eq.trans ?_ e
  congr 1
  · congr 1
    exact Finset.sum_congr rfl fun s _ => by split <;> simp
  · exact Finset.sum_congr rfl fun s _ => by split <;> simp

/-- The word of minus infinity. -/
theorem ninf : Ideal.ofBits FTy.f32 4286578688#32 = ⊥ := by simp [Ideal.ofBits, Ideal.ieee]

/-- The comparison of two tokens' numbers as words. -/
theorem select_sle (s t : Fin 64) {α : Type} (a b : α) :
    Scalar.select (IntOp.cmpi .sle (BitVec.ofNat 32 ↑s) (BitVec.ofNat 32 ↑t)) a b = if s ≤ t then a else b := by
  have h : ∀ s t : Fin 64, IntOp.cmpi .sle (BitVec.ofNat 32 ↑s) (BitVec.ofNat 32 ↑t) = if s ≤ t then 1#1 else 0#1 := by decide +kernel
  rw [h]
  split <;> simp [Scalar.select]

/-- The same comparison written the other way round. -/
theorem select_sge (s t : Fin 64) {α : Type} (a b : α) :
    Scalar.select (IntOp.cmpi .sge (BitVec.ofNat 32 ↑t) (BitVec.ofNat 32 ↑s)) a b = if s ≤ t then a else b := by
  have h : ∀ s t : Fin 64, IntOp.cmpi .sge (BitVec.ofNat 32 ↑t) (BitVec.ofNat 32 ↑s) = if s ≤ t then 1#1 else 0#1 := by decide +kernel
  rw [h]
  split <;> simp [Scalar.select]

/-- The comparison with the chunk's last token. -/
theorem select_last (s : Fin 64) {α : Type} (a b : α) :
    Scalar.select (IntOp.cmpi .sle (BitVec.ofNat 32 ↑s) 63#32) a b = if s ≤ 63 then a else b := select_sle s 63 a b

end Cert.Proof.Ml

end
-- ==== Proof.KBlock.lean ====
/- WHAT ONE GRID POINT OF THE KERNEL LEAVES: the block of read-outs and, in the three scratches, the carried state of the four heads, as the recurrence of
   Spec.lean. A point that opens a sample's scan (`t % 68 = 0`) starts from zeros, any other from what the point before left. -/
module

public import proofs.«01_k».proof.Proof.Gen.KernelIdeal.Value
public import proofs.«01_k».proof.Proof.Spec
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Proof

open Idealize.ShloMosaic Cert.KernelIdeal Cert.KernelIdeal.Gen Idealize.ShloMosaic.Pipeline

/-- What head `h` reads of the point's blocks of queries and keys, values and gates. -/
def kIn (X0 : (⟨S64x1024, .f32⟩ : BufTy).Contents (Elt Ideal)) (X1 : (⟨S64x512, .f32⟩ : BufTy).Contents (Elt Ideal))
    (X2 : (⟨S64x128, .f32⟩ : BufTy).Contents (Elt Ideal)) (X4 : (⟨S1x16, .f32⟩ : BufTy).Contents (Elt Ideal)) (h : Fin 4) : Ml.HeadIn where
  q t d := X0 (ix2 t ⟨128 * h + d, by omega⟩)
  k t d := X0 (ix2 t ⟨512 + 128 * h + d, by omega⟩)
  v t e := X1 (ix2 t ⟨128 * h + e, by omega⟩)
  ig s := X2 (ix2 s ⟨h, by omega⟩) + X4 (ix2 0 ⟨h, by omega⟩)
  lf s := Ml.lsig (X2 (ix2 s ⟨4 + h, by omega⟩) + X4 (ix2 0 ⟨4 + h, by omega⟩))

/-- Head `h`'s state in the three scratches. -/
def kSt (xs0 : (⟨S4x128x128, .f32⟩ : BufTy).Contents (Elt Ideal)) (xs1 : (⟨S8x128, .f32⟩ : BufTy).Contents (Elt Ideal))
    (xs2 : (⟨S8x128, .f32⟩ : BufTy).Contents (Elt Ideal)) (h : Fin 4) : Ml.HeadSt where
  C d e := xs0 (ix3 h d e)
  n d := xs1 (ix2 ⟨h, by omega⟩ d)
  m := xs2 (ix2 ⟨h, by omega⟩ 0)

/-- The head and channel of a column of the output block. -/
def hd (j : Fin 512) : Fin 4 := ⟨j / 128, by omega⟩
/-- The channel of a column within its head. -/
def ch (j : Fin 512) : Fin 128 := ⟨j % 128, by omega⟩

/-- The read-outs of the four heads side by side. -/
def kOut (x : Fin 4 → Ml.HeadIn) (st : Fin 4 → Ml.HeadSt) : S64x512.Idx → EReal := fun y =>
  Ml.hOut Ml.fwd (x (hd (y 1))) (st (hd (y 1))) (y 0) (ch (y 1))

/-- A head's tile of the output block. -/
theorem kOut_emb (x : Fin 4 → Ml.HeadIn) (st : Fin 4 → Ml.HeadSt) (h : Fin 4) (o : ℕ) (ho : o = 128 * h.val) (inb : ∀ a, ![0, o] a + ![64, 128] a ≤ S64x512.size a)
    (t : Fin 64) (e : Fin 128) : kOut x st ((Rect.unit (s := S64x512) ![0, o] ![64, 128] inb).emb (ix2 t e)) = Ml.hOut Ml.fwd (x h) (st h) t e := by
  subst ho
  have h0 : (Rect.unit (s := S64x512) ![0, 128 * h.val] ![64, 128] inb).emb (ix2 t e) = ix2 t ⟨128 * h.val + e.val, by omega⟩ := by
    funext a
    refine Fin.ext ?_
    show ![0, 128 * h.val] a + 1 * _ = _
    fin_cases a <;> simp [ix2]
  rw [h0]
  show Ml.hOut Ml.fwd (x (hd ⟨128 * h.val + e.val, _⟩)) (st (hd ⟨128 * h.val + e.val, _⟩)) t (ch ⟨128 * h.val + e.val, _⟩) = _
  have h1 : hd ⟨128 * h.val + e.val, by omega⟩ = h := Fin.ext (by show (128 * h.val + e.val) / 128 = h.val; omega)
  have h2 : ch ⟨128 * h.val + e.val, by omega⟩ = e := Fin.ext (by show (128 * h.val + e.val) % 128 = e.val; omega)
  rw [h1, h2]

/-- The four heads' matrix memories after the point, in the scratch's layout. -/
def kC (st : Fin 4 → Ml.HeadSt) : S4x128x128.Idx → EReal := fun y => (st (y 0)).C (y 1) (y 2)
/-- The four heads' normalisers, in the scratch's layout. -/
def kN (st : Fin 4 → Ml.HeadSt) : S8x128.Idx → EReal := fun y => (st ⟨min (y 0).val 3, by omega⟩).n (y 1)
/-- The four heads' stabilisers, in the scratch's layout. -/
def kM (st : Fin 4 → Ml.HeadSt) : S8x128.Idx → EReal := fun y => (st ⟨min (y 0).val 3, by omega⟩).m

theorem kC_emb (st : Fin 4 → Ml.HeadSt) (h : Fin 4) (o : ℕ) (ho : o = h.val) (inb : ∀ a, ![o, 0, 0] a + ![1, 128, 128] a ≤ S4x128x128.size a)
    (z : Fin 1) (d e : Fin 128) : kC st ((Rect.unit (s := S4x128x128) ![o, 0, 0] ![1, 128, 128] inb).emb (ix3 z d e)) = (st h).C d e := by
  subst ho
  have h0 : (Rect.unit (s := S4x128x128) ![h.val, 0, 0] ![1, 128, 128] inb).emb (ix3 z d e) = ix3 h d e := by
    funext a
    refine Fin.ext ?_
    show ![h.val, 0, 0] a + 1 * _ = _
    fin_cases a <;> simp [ix3]
  rw [h0]
  rfl

theorem row_emb (h : Fin 4) (o : ℕ) (ho : o = h.val) (inb : ∀ a, ![o, 0] a + ![1, 128] a ≤ S8x128.size a) (z : Fin 1) (d : Fin 128) :
    (Rect.unit (s := S8x128) ![o, 0] ![1, 128] inb).emb (ix2 z d) = ix2 (⟨h, by omega⟩ : Fin 8) d := by
  subst ho
  funext a
  refine Fin.ext ?_
  show ![h.val, 0] a + 1 * _ = _
  fin_cases a <;> simp [ix2]

theorem kN_row (st : Fin 4 → Ml.HeadSt) (h : Fin 4) (d : Fin 128) : kN st (ix2 (⟨h, by omega⟩ : Fin 8) d) = (st h).n d := by
  show (st ⟨min h.val 3, _⟩).n d = _
  have e : (⟨min h.val 3, by omega⟩ : Fin 4) = h := Fin.ext (by show min h.val 3 = h.val; omega)
  rw [e]

theorem kM_row (st : Fin 4 → Ml.HeadSt) (h : Fin 4) (d : Fin 128) : kM st (ix2 (⟨h, by omega⟩ : Fin 8) d) = (st h).m := by
  show (st ⟨min h.val 3, _⟩).m = _
  have e : (⟨min h.val 3, by omega⟩ : Fin 4) = h := Fin.ext (by show min h.val 3 = h.val; omega)
  rw [e]

theorem kN_emb (st : Fin 4 → Ml.HeadSt) (h : Fin 4) (o : ℕ) (ho : o = h.val) (inb : ∀ a, ![o, 0] a + ![1, 128] a ≤ S8x128.size a)
    (z : Fin 1) (d : Fin 128) : kN st ((Rect.unit (s := S8x128) ![o, 0] ![1, 128] inb).emb (ix2 z d)) = (st h).n d := by
  rw [row_emb h o ho inb z d, kN_row]

theorem kM_emb (st : Fin 4 → Ml.HeadSt) (h : Fin 4) (o : ℕ) (ho : o = h.val) (inb : ∀ a, ![o, 0] a + ![1, 128] a ≤ S8x128.size a)
    (z : Fin 1) (d : Fin 128) : kM st ((Rect.unit (s := S8x128) ![o, 0] ![1, 128] inb).emb (ix2 z d)) = (st h).m := by
  rw [row_emb h o ho inb z d, kM_row]

/-- Four tiles of whole columns cover the output block. -/
theorem cover_out (w3 w2 w1 w0) (y : S64x512.Idx) :
    ∃ p ∈ ([⟨Rect.unit ![0, 384] ![64, 128] inb_S64x512_S64x128_0_384, w3⟩, ⟨Rect.unit ![0, 256] ![64, 128] inb_S64x512_S64x128_0_256, w2⟩,
      ⟨Rect.unit ![0, 128] ![64, 128] inb_S64x512_S64x128_0_128, w1⟩, ⟨Rect.unit ![0, 0] ![64, 128] inb_S64x512_S64x128_0_0, w0⟩] :
        List (View.Piece (Elt Ideal) S64x512 .f32)), y ∈ p.1.set := by
  have h0 : (y 0).val < 64 := (y 0).isLt
  have h1 : (y 1).val < 512 := (y 1).isLt
  rcases (by omega : 384 ≤ (y 1).val ∨ (256 ≤ (y 1).val ∧ (y 1).val < 384) ∨ (128 ≤ (y 1).val ∧ (y 1).val < 256) ∨ (y 1).val < 128) with h | h | h | h
  · refine ⟨_, .head _, ?_⟩
    rw [Rect.mem_set_unit]
    intro a
    fin_cases a <;> simp <;> omega
  · refine ⟨_, .tail _ (.head _), ?_⟩
    rw [Rect.mem_set_unit]
    intro a
    fin_cases a <;> simp <;> omega
  · refine ⟨_, .tail _ (.tail _ (.head _)), ?_⟩
    rw [Rect.mem_set_unit]
    intro a
    fin_cases a <;> simp <;> omega
  · refine ⟨_, .tail _ (.tail _ (.tail _ (.head _))), ?_⟩
    rw [Rect.mem_set_unit]
    intro a
    fin_cases a <;> simp <;> omega

/-- Four slabs cover the matrix memories. -/
theorem cover_C (w3 w2 w1 w0) (y : S4x128x128.Idx) :
    ∃ p ∈ ([⟨Rect.unit ![3, 0, 0] ![1, 128, 128] inb_S4x128x128_S1x128x128_3_0_0, w3⟩, ⟨Rect.unit ![2, 0, 0] ![1, 128, 128] inb_S4x128x128_S1x128x128_2_0_0, w2⟩,
      ⟨Rect.unit ![1, 0, 0] ![1, 128, 128] inb_S4x128x128_S1x128x128_1_0_0, w1⟩, ⟨Rect.unit ![0, 0, 0] ![1, 128, 128] inb_S4x128x128_S1x128x128_0_0_0, w0⟩] :
        List (View.Piece (Elt Ideal) S4x128x128 .f32)), y ∈ p.1.set := by
  have h0 : (y 0).val < 4 := (y 0).isLt
  have h1 : (y 1).val < 128 := (y 1).isLt
  have h2 : (y 2).val < 128 := (y 2).isLt
  rcases (by omega : (y 0).val = 3 ∨ (y 0).val = 2 ∨ (y 0).val = 1 ∨ (y 0).val = 0) with h | h | h | h
  · refine ⟨_, .head _, ?_⟩
    rw [Rect.mem_set_unit]
    intro a
    fin_cases a <;> simp <;> omega
  · refine ⟨_, .tail _ (.head _), ?_⟩
    rw [Rect.mem_set_unit]
    intro a
    fin_cases a <;> simp <;> omega
  · refine ⟨_, .tail _ (.tail _ (.head _)), ?_⟩
    rw [Rect.mem_set_unit]
    intro a
    fin_cases a <;> simp <;> omega
  · refine ⟨_, .tail _ (.tail _ (.tail _ (.head _))), ?_⟩
    rw [Rect.mem_set_unit]
    intro a
    fin_cases a <;> simp <;> omega

/-- Four rows cover the rows of the four heads. -/
theorem cover_row (w3 w2 w1 w0) (h : Fin 4) (d : Fin 128) :
    ∃ p ∈ ([⟨Rect.unit ![3, 0] ![1, 128] inb_S8x128_S1x128_3_0, w3⟩, ⟨Rect.unit ![2, 0] ![1, 128] inb_S8x128_S1x128_2_0, w2⟩,
      ⟨Rect.unit ![1, 0] ![1, 128] inb_S8x128_S1x128_1_0, w1⟩, ⟨Rect.unit ![0, 0] ![1, 128] inb_S8x128_S1x128_0_0, w0⟩] :
        List (View.Piece (Elt Ideal) S8x128 .f32)), (ix2 (⟨h, by omega⟩ : Fin 8) d : S8x128.Idx) ∈ p.1.set := by
  rcases (by omega : h.val = 3 ∨ h.val = 2 ∨ h.val = 1 ∨ h.val = 0) with e | e | e | e
  · refine ⟨_, .head _, ?_⟩
    rw [Rect.mem_set_unit]
    intro a
    fin_cases a <;> simp [ix2] <;> omega
  · refine ⟨_, .tail _ (.head _), ?_⟩
    rw [Rect.mem_set_unit]
    intro a
    fin_cases a <;> simp [ix2] <;> omega
  · refine ⟨_, .tail _ (.tail _ (.head _)), ?_⟩
    rw [Rect.mem_set_unit]
    intro a
    fin_cases a <;> simp [ix2] <;> omega
  · refine ⟨_, .tail _ (.tail _ (.tail _ (.head _))), ?_⟩
    rw [Rect.mem_set_unit]
    intro a
    fin_cases a <;> simp [ix2] <;> omega

variable (m : (ℓ : Loc nD τ sig) → Buf (Elt Ideal) ℓ)

/-- The gates laid along the lanes are the gates laid along the rows. -/
def RowsAgree (X2 : (⟨S64x128, .f32⟩ : BufTy).Contents (Elt Ideal)) (X3 : (⟨S1x16x64, .f32⟩ : BufTy).Contents (Elt Ideal))
    (X4 : (⟨S1x16, .f32⟩ : BufTy).Contents (Elt Ideal)) (X5 : (⟨S16x1, .f32⟩ : BufTy).Contents (Elt Ideal)) : Prop :=
  (∀ (r : Fin 16) (s : Fin 64), X3 (ix3 0 r s) = X2 (ix2 s ⟨r, by omega⟩)) ∧ ∀ r : Fin 16, X5 (ix2 r 0) = X4 (ix2 0 r)

/-- What head `h` reads at point `t`. -/
abbrev inAt (c : Dev nD) (t : Fin cfg0.N) : Fin 4 → Ml.HeadIn := kIn (iblk m c 0 t) (iblk m c 1 t) (iblk m c 2 t) (iblk m c 4 t)

/-- The heads' state in the scratches after point `n`. -/
abbrev stAt (c : Dev nD) (n : ℕ) (hn : n < cfg0.N) : Fin 4 → Ml.HeadSt :=
  kSt (outsAt0 m c n hn).2.1 (outsAt0 m c n hn).2.2.1 (outsAt0 m c n hn).2.2.2

/-- The state of zeros that a sample's first point stores. -/
abbrev stZero : Fin 4 → Ml.HeadSt := kSt (k0_pay3 (F := Ideal)) (k0_pay4 (F := Ideal)) (k0_pay5 (F := Ideal))

theorem stZero_eq (h : Fin 4) : stZero h = Ml.zeroSt := by
  unfold stZero kSt Ml.zeroSt
  congr 1
  · funext d e
    unfold_payloads
    pointwise
  · funext d
    unfold_payloads
    pointwise
  · unfold_payloads
    pointwise

/-- The block of read-outs at a point that continues a sample. -/
theorem out_B (c : Dev nD) (t : Fin cfg0.N) (h0 : ¬ t.val % 68 = 0) (hg : RowsAgree (iblk m c 2 t) (iblk m c 3 t) (iblk m c 4 t) (iblk m c 5 t)) :
    (outsAt0 m c t.val t.isLt).1 = kOut (inAt m c t) (stAt m c (t.val - 1) (Nat.lt_of_le_of_lt (Nat.sub_le _ _) t.isLt)) := by
  rw [outsAt0_B m c t h0]
  dsimp only
  frame_open
  simp (disch := decide) only [↓ View.readCov_skip, ↓ View.readCov_cons_toLoadRect, ↓ View.readCov_fill]
  frame_out
  simp only [read_unread_whole]
  unfold stAt
  generalize (outsAt0 m c (↑t - 1) _).2.1 = xs0
  generalize (outsAt0 m c (↑t - 1) _).2.2.1 = xs1
  generalize (outsAt0 m c (↑t - 1) _).2.2.2 = xs2
  unfold inAt
  generalize iblk m c 0 t = X0 at *
  generalize iblk m c 1 t = X1 at *
  generalize iblk m c 2 t = X2 at *
  generalize iblk m c 3 t = X3 at *
  generalize iblk m c 4 t = X4 at *
  generalize iblk m c 5 t = X5 at *
  obtain ⟨hX3, hX5⟩ := hg
  funext y
  refine View.canon_append_of_piecesOf _ [] [_, _, _, _] ⟨?_, ?_, ?_, ?_, trivial⟩ y (cover_out _ _ _ _ y)
  all_goals
    intro x
    dsimp only
    idx_vars x
    unfold_payloads
    pointwise
    simp only [Ml.select_sle, Ml.select_last, Ml.select_sge, Ml.lsig_kernel, Ml.ninf]
    simp only [Ml.cum_split3 Ml.fwd _ (fun _ => Ml.lsig_ne_top _), zero_sub, hX3, hX5]
  · rw [kOut_emb _ _ 3 384 rfl]
    simp only [Ml.hOut, Ml.num, Ml.den, Ml.sc, Ml.inter, Ml.mt, Ml.dmat, Ml.fwd, kIn, kSt]
    rfl
  · rw [kOut_emb _ _ 2 256 rfl]
    simp only [Ml.hOut, Ml.num, Ml.den, Ml.sc, Ml.inter, Ml.mt, Ml.dmat, Ml.fwd, kIn, kSt]
    rfl
  · rw [kOut_emb _ _ 1 128 rfl]
    simp only [Ml.hOut, Ml.num, Ml.den, Ml.sc, Ml.inter, Ml.mt, Ml.dmat, Ml.fwd, kIn, kSt]
    rfl
  · rw [kOut_emb _ _ 0 0 rfl]
    simp only [Ml.hOut, Ml.num, Ml.den, Ml.sc, Ml.inter, Ml.mt, Ml.dmat, Ml.fwd, kIn, kSt, Fin.val_zero, Nat.mul_zero, Nat.zero_add, Nat.add_zero]
    rfl

/-- The block of read-outs at a point that opens a sample. -/
theorem out_A (c : Dev nD) (t : Fin cfg0.N) (h0 : t.val % 68 = 0) (hg : RowsAgree (iblk m c 2 t) (iblk m c 3 t) (iblk m c 4 t) (iblk m c 5 t)) :
    (outsAt0 m c t.val t.isLt).1 = kOut (inAt m c t) stZero := by
  rw [outsAt0_A m c t h0]
  dsimp only
  frame_open
  simp (disch := decide) only [↓ View.readCov_skip, ↓ View.readCov_cons_toLoadRect, ↓ View.readCov_fill]
  frame_out
  unfold stZero
  generalize k0_pay3 (F := Ideal) = xs0
  generalize k0_pay4 (F := Ideal) = xs1
  generalize k0_pay5 (F := Ideal) = xs2
  unfold inAt
  generalize iblk m c 0 t = X0 at *
  generalize iblk m c 1 t = X1 at *
  generalize iblk m c 2 t = X2 at *
  generalize iblk m c 3 t = X3 at *
  generalize iblk m c 4 t = X4 at *
  generalize iblk m c 5 t = X5 at *
  obtain ⟨hX3, hX5⟩ := hg
  funext y
  refine View.canon_append_of_piecesOf _ [] [_, _, _, _] ⟨?_, ?_, ?_, ?_, trivial⟩ y (cover_out _ _ _ _ y)
  all_goals
    intro x
    dsimp only
    idx_vars x
    unfold_payloads
    pointwise
    simp only [Ml.select_sle, Ml.select_last, Ml.select_sge, Ml.lsig_kernel, Ml.ninf]
    simp only [Ml.cum_split3 Ml.fwd _ (fun _ => Ml.lsig_ne_top _), zero_sub, hX3, hX5]
  · rw [kOut_emb _ _ 3 384 rfl]
    simp only [Ml.hOut, Ml.num, Ml.den, Ml.sc, Ml.inter, Ml.mt, Ml.dmat, Ml.fwd, kIn, kSt]
    rfl
  · rw [kOut_emb _ _ 2 256 rfl]
    simp only [Ml.hOut, Ml.num, Ml.den, Ml.sc, Ml.inter, Ml.mt, Ml.dmat, Ml.fwd, kIn, kSt]
    rfl
  · rw [kOut_emb _ _ 1 128 rfl]
    simp only [Ml.hOut, Ml.num, Ml.den, Ml.sc, Ml.inter, Ml.mt, Ml.dmat, Ml.fwd, kIn, kSt]
    rfl
  · rw [kOut_emb _ _ 0 0 rfl]
    simp only [Ml.hOut, Ml.num, Ml.den, Ml.sc, Ml.inter, Ml.mt, Ml.dmat, Ml.fwd, kIn, kSt, Fin.val_zero, Nat.mul_zero, Nat.zero_add, Nat.add_zero]
    rfl

/-- The matrix memories at a point that continues a sample. -/
theorem C_B (c : Dev nD) (t : Fin cfg0.N) (h0 : ¬ t.val % 68 = 0) (hg : RowsAgree (iblk m c 2 t) (iblk m c 3 t) (iblk m c 4 t) (iblk m c 5 t)) :
    (outsAt0 m c t.val t.isLt).2.1 = kC (fun h => Ml.next Ml.fwd 63 (inAt m c t h) ((stAt m c (t.val - 1) (Nat.lt_of_le_of_lt (Nat.sub_le _ _) t.isLt)) h)) := by
  rw [outsAt0_B m c t h0]
  dsimp only
  frame_open
  simp (disch := decide) only [↓ View.readCov_skip, ↓ View.readCov_cons_toLoadRect, ↓ View.readCov_fill]
  frame_out
  simp only [read_unread_whole]
  unfold stAt
  generalize (outsAt0 m c (↑t - 1) _).2.1 = xs0
  generalize (outsAt0 m c (↑t - 1) _).2.2.1 = xs1
  generalize (outsAt0 m c (↑t - 1) _).2.2.2 = xs2
  unfold inAt
  generalize iblk m c 0 t = X0 at *
  generalize iblk m c 1 t = X1 at *
  generalize iblk m c 2 t = X2 at *
  generalize iblk m c 3 t = X3 at *
  generalize iblk m c 4 t = X4 at *
  generalize iblk m c 5 t = X5 at *
  obtain ⟨hX3, hX5⟩ := hg
  funext y
  refine View.canon_append_of_piecesOf _ [] [_, _, _, _] ⟨?_, ?_, ?_, ?_, trivial⟩ y (cover_C _ _ _ _ y)
  all_goals
    intro x
    dsimp only
    idx_vars x
    unfold_payloads
    pointwise
    simp only [Ml.select_sle, Ml.select_last, Ml.select_sge, Ml.lsig_kernel, Ml.ninf]
    simp only [Ml.cum_split3 Ml.fwd _ (fun _ => Ml.lsig_ne_top _), zero_sub, hX3, hX5]
  · rw [kC_emb _ 3 3 rfl]
    simp only [Ml.next, Ml.dec, Ml.ws, Ml.mt, Ml.dmat, Ml.fwd, kIn, kSt]
    rfl
  · rw [kC_emb _ 2 2 rfl]
    simp only [Ml.next, Ml.dec, Ml.ws, Ml.mt, Ml.dmat, Ml.fwd, kIn, kSt]
    rfl
  · rw [kC_emb _ 1 1 rfl]
    simp only [Ml.next, Ml.dec, Ml.ws, Ml.mt, Ml.dmat, Ml.fwd, kIn, kSt]
    rfl
  · rw [kC_emb _ 0 0 rfl]
    simp only [Ml.next, Ml.dec, Ml.ws, Ml.mt, Ml.dmat, Ml.fwd, kIn, kSt, Fin.val_zero, Nat.mul_zero, Nat.zero_add, Nat.add_zero]
    rfl

/-- The matrix memories at a point that opens a sample. -/
theorem C_A (c : Dev nD) (t : Fin cfg0.N) (h0 : t.val % 68 = 0) (hg : RowsAgree (iblk m c 2 t) (iblk m c 3 t) (iblk m c 4 t) (iblk m c 5 t)) :
    (outsAt0 m c t.val t.isLt).2.1 = kC (fun h => Ml.next Ml.fwd 63 (inAt m c t h) (stZero h)) := by
  rw [outsAt0_A m c t h0]
  dsimp only
  frame_open
  simp (disch := decide) only [↓ View.readCov_skip, ↓ View.readCov_cons_toLoadRect, ↓ View.readCov_fill]
  frame_out
  unfold stZero
  generalize k0_pay3 (F := Ideal) = xs0
  generalize k0_pay4 (F := Ideal) = xs1
  generalize k0_pay5 (F := Ideal) = xs2
  unfold inAt
  generalize iblk m c 0 t = X0 at *
  generalize iblk m c 1 t = X1 at *
  generalize iblk m c 2 t = X2 at *
  generalize iblk m c 3 t = X3 at *
  generalize iblk m c 4 t = X4 at *
  generalize iblk m c 5 t = X5 at *
  obtain ⟨hX3, hX5⟩ := hg
  funext y
  refine View.canon_append_of_piecesOf _ [_] [_, _, _, _] ⟨?_, ?_, ?_, ?_, trivial⟩ y (cover_C _ _ _ _ y)
  all_goals
    intro x
    dsimp only
    idx_vars x
    unfold_payloads
    pointwise
    simp only [Ml.select_sle, Ml.select_last, Ml.select_sge, Ml.lsig_kernel, Ml.ninf]
    simp only [Ml.cum_split3 Ml.fwd _ (fun _ => Ml.lsig_ne_top _), zero_sub, hX3, hX5]
  · rw [kC_emb _ 3 3 rfl]
    simp only [Ml.next, Ml.dec, Ml.ws, Ml.mt, Ml.dmat, Ml.fwd, kIn, kSt]
    rfl
  · rw [kC_emb _ 2 2 rfl]
    simp only [Ml.next, Ml.dec, Ml.ws, Ml.mt, Ml.dmat, Ml.fwd, kIn, kSt]
    rfl
  · rw [kC_emb _ 1 1 rfl]
    simp only [Ml.next, Ml.dec, Ml.ws, Ml.mt, Ml.dmat, Ml.fwd, kIn, kSt]
    rfl
  · rw [kC_emb _ 0 0 rfl]
    simp only [Ml.next, Ml.dec, Ml.ws, Ml.mt, Ml.dmat, Ml.fwd, kIn, kSt, Fin.val_zero, Nat.mul_zero, Nat.zero_add, Nat.add_zero]
    rfl

/-- The normalisers at a point that continues a sample. -/
theorem n_B (c : Dev nD) (t : Fin cfg0.N) (h0 : ¬ t.val % 68 = 0) (hg : RowsAgree (iblk m c 2 t) (iblk m c 3 t) (iblk m c 4 t) (iblk m c 5 t)) (h : Fin 4) (d : Fin 128) :
    (outsAt0 m c t.val t.isLt).2.2.1 (ix2 (⟨h, by omega⟩ : Fin 8) d) = kN (fun h => Ml.next Ml.fwd 63 (inAt m c t h) ((stAt m c (t.val - 1) (Nat.lt_of_le_of_lt (Nat.sub_le _ _) t.isLt)) h)) (ix2 (⟨h, by omega⟩ : Fin 8) d) := by
  rw [outsAt0_B m c t h0]
  dsimp only
  frame_open
  simp (disch := decide) only [↓ View.readCov_skip, ↓ View.readCov_cons_toLoadRect, ↓ View.readCov_fill]
  frame_out
  simp only [read_unread_whole]
  unfold stAt
  generalize (outsAt0 m c (↑t - 1) _).2.1 = xs0
  generalize (outsAt0 m c (↑t - 1) _).2.2.1 = xs1
  generalize (outsAt0 m c (↑t - 1) _).2.2.2 = xs2
  unfold inAt
  generalize iblk m c 0 t = X0 at *
  generalize iblk m c 1 t = X1 at *
  generalize iblk m c 2 t = X2 at *
  generalize iblk m c 3 t = X3 at *
  generalize iblk m c 4 t = X4 at *
  generalize iblk m c 5 t = X5 at *
  obtain ⟨hX3, hX5⟩ := hg
  rw [View.read_writes_apply_eq _ _ (View.whole cc0_scratch1) (View.whole cc0_scratch1).junk _ _ (cover_row _ _ _ _ h d), View.read_writes_junk_eq_canon]
  refine View.canon_append_of_piecesOf _ [] [_, _, _, _] ⟨?_, ?_, ?_, ?_, trivial⟩ _ (cover_row _ _ _ _ h d)
  all_goals
    intro x
    dsimp only
    idx_vars x
    unfold_payloads
    pointwise
    simp only [Ml.select_sle, Ml.select_last, Ml.select_sge, Ml.lsig_kernel, Ml.ninf]
    simp only [Ml.cum_split3 Ml.fwd _ (fun _ => Ml.lsig_ne_top _), zero_sub, hX3, hX5]
  · rw [kN_emb _ 3 3 rfl]
    simp only [Ml.next, Ml.dec, Ml.ws, Ml.mt, Ml.dmat, Ml.fwd, kIn, kSt]
    rfl
  · rw [kN_emb _ 2 2 rfl]
    simp only [Ml.next, Ml.dec, Ml.ws, Ml.mt, Ml.dmat, Ml.fwd, kIn, kSt]
    rfl
  · rw [kN_emb _ 1 1 rfl]
    simp only [Ml.next, Ml.dec, Ml.ws, Ml.mt, Ml.dmat, Ml.fwd, kIn, kSt]
    rfl
  · rw [kN_emb _ 0 0 rfl]
    simp only [Ml.next, Ml.dec, Ml.ws, Ml.mt, Ml.dmat, Ml.fwd, kIn, kSt, Fin.val_zero, Nat.mul_zero, Nat.zero_add, Nat.add_zero]
    rfl

/-- The normalisers at a point that opens a sample. -/
theorem n_A (c : Dev nD) (t : Fin cfg0.N) (h0 : t.val % 68 = 0) (hg : RowsAgree (iblk m c 2 t) (iblk m c 3 t) (iblk m c 4 t) (iblk m c 5 t)) (h : Fin 4) (d : Fin 128) :
    (outsAt0 m c t.val t.isLt).2.2.1 (ix2 (⟨h, by omega⟩ : Fin 8) d) = kN (fun h => Ml.next Ml.fwd 63 (inAt m c t h) (stZero h)) (ix2 (⟨h, by omega⟩ : Fin 8) d) := by
  rw [outsAt0_A m c t h0]
  dsimp only
  frame_open
  simp (disch := decide) only [↓ View.readCov_skip, ↓ View.readCov_cons_toLoadRect, ↓ View.readCov_fill]
  frame_out
  unfold stZero
  generalize k0_pay3 (F := Ideal) = xs0
  generalize k0_pay4 (F := Ideal) = xs1
  generalize k0_pay5 (F := Ideal) = xs2
  unfold inAt
  generalize iblk m c 0 t = X0 at *
  generalize iblk m c 1 t = X1 at *
  generalize iblk m c 2 t = X2 at *
  generalize iblk m c 3 t = X3 at *
  generalize iblk m c 4 t = X4 at *
  generalize iblk m c 5 t = X5 at *
  obtain ⟨hX3, hX5⟩ := hg
  refine View.canon_append_of_piecesOf _ [_] [_, _, _, _] ⟨?_, ?_, ?_, ?_, trivial⟩ _ (cover_row _ _ _ _ h d)
  all_goals
    intro x
    dsimp only
    idx_vars x
    unfold_payloads
    pointwise
    simp only [Ml.select_sle, Ml.select_last, Ml.select_sge, Ml.lsig_kernel, Ml.ninf]
    simp only [Ml.cum_split3 Ml.fwd _ (fun _ => Ml.lsig_ne_top _), zero_sub, hX3, hX5]
  · rw [kN_emb _ 3 3 rfl]
    simp only [Ml.next, Ml.dec, Ml.ws, Ml.mt, Ml.dmat, Ml.fwd, kIn, kSt]
    rfl
  · rw [kN_emb _ 2 2 rfl]
    simp only [Ml.next, Ml.dec, Ml.ws, Ml.mt, Ml.dmat, Ml.fwd, kIn, kSt]
    rfl
  · rw [kN_emb _ 1 1 rfl]
    simp only [Ml.next, Ml.dec, Ml.ws, Ml.mt, Ml.dmat, Ml.fwd, kIn, kSt]
    rfl
  · rw [kN_emb _ 0 0 rfl]
    simp only [Ml.next, Ml.dec, Ml.ws, Ml.mt, Ml.dmat, Ml.fwd, kIn, kSt, Fin.val_zero, Nat.mul_zero, Nat.zero_add, Nat.add_zero]
    rfl

/-- The stabilisers at a point that continues a sample. -/
theorem m_B (c : Dev nD) (t : Fin cfg0.N) (h0 : ¬ t.val % 68 = 0) (hg : RowsAgree (iblk m c 2 t) (iblk m c 3 t) (iblk m c 4 t) (iblk m c 5 t)) (h : Fin 4) (d : Fin 128) :
    (outsAt0 m c t.val t.isLt).2.2.2 (ix2 (⟨h, by omega⟩ : Fin 8) d) = kM (fun h => Ml.next Ml.fwd 63 (inAt m c t h) ((stAt m c (t.val - 1) (Nat.lt_of_le_of_lt (Nat.sub_le _ _) t.isLt)) h)) (ix2 (⟨h, by omega⟩ : Fin 8) d) := by
  rw [outsAt0_B m c t h0]
  dsimp only
  frame_open
  simp (disch := decide) only [↓ View.readCov_skip, ↓ View.readCov_cons_toLoadRect, ↓ View.readCov_fill]
  frame_out
  simp only [read_unread_whole]
  unfold stAt
  generalize (outsAt0 m c (↑t - 1) _).2.1 = xs0
  generalize (outsAt0 m c (↑t - 1) _).2.2.1 = xs1
  generalize (outsAt0 m c (↑t - 1) _).2.2.2 = xs2
  unfold inAt
  generalize iblk m c 0 t = X0 at *
  generalize iblk m c 1 t = X1 at *
  generalize iblk m c 2 t = X2 at *
  generalize iblk m c 3 t = X3 at *
  generalize iblk m c 4 t = X4 at *
  generalize iblk m c 5 t = X5 at *
  obtain ⟨hX3, hX5⟩ := hg
  rw [View.read_writes_apply_eq _ _ (View.whole cc0_scratch1) (View.whole cc0_scratch1).junk _ _ (cover_row _ _ _ _ h d), View.read_writes_junk_eq_canon]
  refine View.canon_append_of_piecesOf _ [] [_, _, _, _] ⟨?_, ?_, ?_, ?_, trivial⟩ _ (cover_row _ _ _ _ h d)
  all_goals
    intro x
    dsimp only
    idx_vars x
    unfold_payloads
    pointwise
    simp only [Ml.select_sle, Ml.select_last, Ml.select_sge, Ml.lsig_kernel, Ml.ninf]
    simp only [Ml.cum_split3 Ml.fwd _ (fun _ => Ml.lsig_ne_top _), zero_sub, hX3, hX5]
  · rw [kM_emb _ 3 3 rfl]
    simp only [Ml.next, Ml.mt, Ml.dmat, Ml.fwd, kIn, kSt]
    rfl
  · rw [kM_emb _ 2 2 rfl]
    simp only [Ml.next, Ml.mt, Ml.dmat, Ml.fwd, kIn, kSt]
    rfl
  · rw [kM_emb _ 1 1 rfl]
    simp only [Ml.next, Ml.mt, Ml.dmat, Ml.fwd, kIn, kSt]
    rfl
  · rw [kM_emb _ 0 0 rfl]
    simp only [Ml.next, Ml.mt, Ml.dmat, Ml.fwd, kIn, kSt, Fin.val_zero, Nat.mul_zero, Nat.zero_add, Nat.add_zero]
    rfl

/-- The stabilisers at a point that opens a sample. -/
theorem m_A (c : Dev nD) (t : Fin cfg0.N) (h0 : t.val % 68 = 0) (hg : RowsAgree (iblk m c 2 t) (iblk m c 3 t) (iblk m c 4 t) (iblk m c 5 t)) (h : Fin 4) (d : Fin 128) :
    (outsAt0 m c t.val t.isLt).2.2.2 (ix2 (⟨h, by omega⟩ : Fin 8) d) = kM (fun h => Ml.next Ml.fwd 63 (inAt m c t h) (stZero h)) (ix2 (⟨h, by omega⟩ : Fin 8) d) := by
  rw [outsAt0_A m c t h0]
  dsimp only
  frame_open
  simp (disch := decide) only [↓ View.readCov_skip, ↓ View.readCov_cons_toLoadRect, ↓ View.readCov_fill]
  frame_out
  unfold stZero
  generalize k0_pay3 (F := Ideal) = xs0
  generalize k0_pay4 (F := Ideal) = xs1
  generalize k0_pay5 (F := Ideal) = xs2
  unfold inAt
  generalize iblk m c 0 t = X0 at *
  generalize iblk m c 1 t = X1 at *
  generalize iblk m c 2 t = X2 at *
  generalize iblk m c 3 t = X3 at *
  generalize iblk m c 4 t = X4 at *
  generalize iblk m c 5 t = X5 at *
  obtain ⟨hX3, hX5⟩ := hg
  refine View.canon_append_of_piecesOf _ [_] [_, _, _, _] ⟨?_, ?_, ?_, ?_, trivial⟩ _ (cover_row _ _ _ _ h d)
  all_goals
    intro x
    dsimp only
    idx_vars x
    unfold_payloads
    pointwise
    simp only [Ml.select_sle, Ml.select_last, Ml.select_sge, Ml.lsig_kernel, Ml.ninf]
    simp only [Ml.cum_split3 Ml.fwd _ (fun _ => Ml.lsig_ne_top _), zero_sub, hX3, hX5]
  · rw [kM_emb _ 3 3 rfl]
    simp only [Ml.next, Ml.mt, Ml.dmat, Ml.fwd, kIn, kSt]
    rfl
  · rw [kM_emb _ 2 2 rfl]
    simp only [Ml.next, Ml.mt, Ml.dmat, Ml.fwd, kIn, kSt]
    rfl
  · rw [kM_emb _ 1 1 rfl]
    simp only [Ml.next, Ml.mt, Ml.dmat, Ml.fwd, kIn, kSt]
    rfl
  · rw [kM_emb _ 0 0 rfl]
    simp only [Ml.next, Ml.mt, Ml.dmat, Ml.fwd, kIn, kSt, Fin.val_zero, Nat.mul_zero, Nat.zero_add, Nat.add_zero]
    rfl

end Cert.Proof

end
-- ==== Proof.Rows.lean ====
/- WHERE THE RECURRENCE READS ITS ARGUMENTS: a sample's tokens are its 256 context rows and then its 4096 latent rows, 68 chunks of 64; what a head reads of a
   chunk, the state before a chunk, the read-outs of a chunk. -/
module

public import proofs.«01_k».proof.Proof.Spec

@[expose] public section

noncomputable section

namespace Cert.Proof.Ml

open Idealize.ShloMosaic

/-- The row of token `t` of chunk `c` of sample `b`: the context rows lie behind the latent rows of all samples. -/
def row (b : Fin 4) (c : Fin 68) (t : Fin 64) : Fin 17408 :=
  ⟨if c.val < 4 then 16384 + (b.val * 256 + (c.val * 64 + t.val)) else b.val * 4096 + (c.val * 64 + t.val - 256), by split <;> omega⟩

/-- Every row is a token of a chunk of a sample. -/
theorem row_surj (r : Fin 17408) : ∃ b c t, row b c t = r := by
  by_cases h : r.val < 16384
  · refine ⟨⟨r.val / 4096, by omega⟩, ⟨r.val % 4096 / 64 + 4, by omega⟩, ⟨r.val % 64, by omega⟩, Fin.ext ?_⟩
    simp only [row]
    rw [if_neg (by omega)]
    omega
  · refine ⟨⟨(r.val - 16384) / 256, by omega⟩, ⟨(r.val - 16384) % 256 / 64, by omega⟩, ⟨(r.val - 16384) % 64, by omega⟩, Fin.ext ?_⟩
    simp only [row]
    rw [if_pos (by omega)]
    omega

/-- Every one of the 512 columns is a channel of a head. -/
theorem col_surj (x : Fin 512) : ∃ (h : Fin 4) (e : Fin 128), (⟨128 * h.val + e.val, by omega⟩ : Fin 512) = x :=
  ⟨⟨x.val / 128, by omega⟩, ⟨x.val % 128, by omega⟩, Fin.ext (by simp only []; omega)⟩

variable (X : Fin 17408 → Fin 1024 → EReal) (P : Fin 17408 → Fin 14336 → EReal) (G : Fin 4 → Fin 4 → EReal)

/-- What head `h` of sample `b` reads of chunk `c`. -/
def argIn (b h : Fin 4) (c : Fin 68) : HeadIn where
  q t d := X (row b c t) ⟨128 * h.val + d.val, by omega⟩
  k t d := X (row b c t) ⟨512 + (128 * h.val + d.val), by omega⟩
  v t e := P (row b c t) ⟨2560 + (128 * h.val + e.val), by omega⟩
  ig t := P (row b c t) ⟨13824 + h.val, by omega⟩ + G 0 h
  lf t := lsig (P (row b c t) ⟨13824 + (4 + h.val), by omega⟩ + G 1 h)

/-- The chunk of a trip's number. -/
def chunk (n : ℕ) : Fin 68 := ⟨n % 68, Nat.mod_lt _ (by decide)⟩

theorem chunk_val (c : Fin 68) : chunk c.val = c := Fin.ext (Nat.mod_eq_of_lt c.isLt)

/-- The state of head `h` of sample `b` before chunk `n`. -/
def stateAt (b h : Fin 4) : ℕ → HeadSt
  | 0 => zeroSt
  | n + 1 => next fwd 63 (argIn X P G b h (chunk n)) (stateAt b h n)

/-- The read-out of token `t` of chunk `c`, channel `e`. -/
def outAt (b h : Fin 4) (c : Fin 68) (t : Fin 64) (e : Fin 128) : EReal := hOut fwd (argIn X P G b h c) (stateAt X P G b h c.val) t e

end Cert.Proof.Ml

end
-- ==== Proof.KBlocks.lean ====
/- WHAT THE KERNEL'S BLOCKS HOLD: grid point `t` reads the rows of one chunk of one sample, and what it reads is what `Rows.lean` says head `h` of that
   sample reads of that chunk. -/
module

public import proofs.«01_k».proof.Proof.KBlock
public import proofs.«01_k».proof.Proof.Rows

@[expose] public section

set_option maxRecDepth 16384

noncomputable section

namespace Cert.Proof

open Idealize.ShloMosaic Idealize.ShloMosaic.TcCoe Cert.KernelIdeal Cert.KernelIdeal.Gen Idealize.ShloMosaic.Pipeline

variable (m : (ℓ : Loc nD τ sig) → Buf (Elt Ideal) ℓ)

/-- The number of the block of 64 rows that grid point `n` works on. -/
def rowBlk (n : ℕ) : ℕ := if n % 68 < 4 then 256 + (4 * (n / 68) + n % 68) else 64 * (n / 68) + (n % 68 - 4)

/-- The sample of a grid point. -/
def bOf (t : Fin cfg0.N) : Fin 4 := ⟨t.val / 68, by have : t.val < 272 := t.isLt; omega⟩

/-- The row that token `i` of the point's chunk is. -/
theorem row_at (t : Fin cfg0.N) (i : Fin 64) : (Ml.row (bOf t) (Ml.chunk t.val) i).val = rowBlk t.val * 64 + i.val := by
  have : t.val < 272 := t.isLt
  show (if t.val % 68 < 4 then 16384 + (t.val / 68 * 256 + (t.val % 68 * 64 + i.val)) else t.val / 68 * 4096 + (t.val % 68 * 64 + i.val - 256)) = rowBlk t.val * 64 + i.val
  unfold rowBlk
  by_cases h : t.val % 68 < 4
  · rw [if_pos h, if_pos h]; omega
  · rw [if_neg h, if_neg h]; omega

/-- The blocks that each window takes at each point. -/
theorem idx : ∀ t : Fin grid0.N,
    win0_0.index t = ![rowBlk t.val, 0] ∧ win0_1.index t = ![rowBlk t.val, 5] ∧ win0_2.index t = ![rowBlk t.val, 108] ∧
    win0_3.index t = ![rowBlk t.val, 0, 0] ∧ win0_4.index t = ![0, 0] ∧ win0_5.index t = ![0, 0] ∧ win0_6.index t = ![rowBlk t.val, 0] := by
  decide +kernel

theorem blk0 (c : Dev nD) (t : Fin cfg0.N) (i : Fin 64) (j : Fin 1024) :
    iblk m c 0 t (ix2 i j) = (m ((c : Thread nD τ).loc main_arg0)) (ix2 (Ml.row (bOf t) (Ml.chunk t.val) i) j) := by
  have hr := row_at t i
  generalize Ml.row (bOf t) (Ml.chunk t.val) i = r at hr ⊢
  blk_ext [iblk, V_main_arg0, idx t]

theorem blk1 (c : Dev nD) (t : Fin cfg0.N) (i : Fin 64) (j : Fin 512) :
    iblk m c 1 t (ix2 i j) = (m ((c : Thread nD τ).loc main_arg1)) (ix2 (Ml.row (bOf t) (Ml.chunk t.val) i) ⟨2560 + j.val, by omega⟩) := by
  have hr := row_at t i
  generalize Ml.row (bOf t) (Ml.chunk t.val) i = r at hr ⊢
  blk_ext [iblk, V_main_arg1, idx t]

theorem blk2 (c : Dev nD) (t : Fin cfg0.N) (i : Fin 64) (j : Fin 128) :
    iblk m c 2 t (ix2 i j) = (m ((c : Thread nD τ).loc main_arg1)) (ix2 (Ml.row (bOf t) (Ml.chunk t.val) i) ⟨13824 + j.val, by omega⟩) := by
  have hr := row_at t i
  generalize Ml.row (bOf t) (Ml.chunk t.val) i = r at hr ⊢
  blk_ext [iblk, V_main_arg1, idx t]

theorem blk3 (c : Dev nD) (t : Fin cfg0.N) (r : Fin 16) (i : Fin 64) :
    iblk m c 3 t (ix3 0 r i) = (m ((c : Thread nD τ).loc main_arg1)) (ix2 (Ml.row (bOf t) (Ml.chunk t.val) i) ⟨13824 + r.val, by omega⟩) := by
  have hr := row_at t i
  generalize Ml.row (bOf t) (Ml.chunk t.val) i = r at hr ⊢
  blk_simp [iblk, idx t]
  entry_read
  pointwise
  blk_ext [idx t]

theorem blk4 (c : Dev nD) (t : Fin cfg0.N) (g h : Fin 4) :
    iblk m c 4 t (ix2 (0 : Fin 1) (⟨4 * g.val + h.val, by omega⟩ : Fin 16)) = (m ((c : Thread nD τ).loc main_arg2)) (ix2 g h) := by
  blk_simp [iblk, idx t]
  entry_read
  pointwise
  blk_ext [idx t]

theorem blk5 (c : Dev nD) (t : Fin cfg0.N) (g h : Fin 4) :
    iblk m c 5 t (ix2 (⟨4 * g.val + h.val, by omega⟩ : Fin 16) (0 : Fin 1)) = (m ((c : Thread nD τ).loc main_arg2)) (ix2 g h) := by
  blk_simp [iblk, idx t]
  entry_read
  pointwise
  blk_ext [idx t]

/-- The gate rows are the gate columns turned over, and so with their biases. -/
theorem rowsAgree (c : Dev nD) (t : Fin cfg0.N) : RowsAgree (iblk m c 2 t) (iblk m c 3 t) (iblk m c 4 t) (iblk m c 5 t) := by
  refine ⟨fun r s => (blk3 m c t r s).trans (blk2 m c t s ⟨r.val, by omega⟩).symm, fun r => ?_⟩
  have e : (⟨4 * (⟨r.val / 4, by omega⟩ : Fin 4).val + (⟨r.val % 4, by omega⟩ : Fin 4).val, by simp only []; omega⟩ : Fin 16) = r := Fin.ext (by simp only []; omega)
  have h5 := blk5 m c t ⟨r.val / 4, by omega⟩ ⟨r.val % 4, by omega⟩
  have h4 := blk4 m c t ⟨r.val / 4, by omega⟩ ⟨r.val % 4, by omega⟩
  rw [e] at h5 h4
  exact h5.trans h4.symm

/-- The queries and keys as the program was given them. -/
abbrev kX (c : Dev nD) : Fin 17408 → Fin 1024 → EReal := fun r j => (m ((c : Thread nD τ).loc main_arg0)) (ix2 r j)
/-- The projections as the program was given them. -/
abbrev kP (c : Dev nD) : Fin 17408 → Fin 14336 → EReal := fun r j => (m ((c : Thread nD τ).loc main_arg1)) (ix2 r j)
/-- The gate biases as the program was given them. -/
abbrev kG (c : Dev nD) : Fin 4 → Fin 4 → EReal := fun g h => (m ((c : Thread nD τ).loc main_arg2)) (ix2 g h)

/-- What head `h` reads at a point is what it reads of the point's chunk of its sample. -/
theorem inAt_eq (c : Dev nD) (t : Fin cfg0.N) (h : Fin 4) :
    inAt m c t h = Ml.argIn (kX m c) (kP m c) (kG m c) (bOf t) h (Ml.chunk t.val) := by
  have g0 : iblk m c 4 t (ix2 (0 : Fin 1) (⟨h.val, by omega⟩ : Fin 16)) = kG m c 0 h := by
    have h4 := blk4 m c t 0 h
    rw [show (⟨4 * (0 : Fin 4).val + h.val, by omega⟩ : Fin 16) = ⟨h.val, by omega⟩ from Fin.ext (by simp)] at h4
    exact h4
  have g1 : iblk m c 4 t (ix2 (0 : Fin 1) (⟨4 + h.val, by omega⟩ : Fin 16)) = kG m c 1 h := by
    have h4 := blk4 m c t 1 h
    rw [show (⟨4 * (1 : Fin 4).val + h.val, by omega⟩ : Fin 16) = ⟨4 + h.val, by omega⟩ from Fin.ext (by simp)] at h4
    exact h4
  unfold inAt kIn Ml.argIn
  refine Ml.HeadIn.mk.injEq .. |>.mpr ⟨?_, ?_, ?_, ?_, ?_⟩
  · funext i d; exact blk0 m c t i _
  · funext i d
    refine (blk0 m c t i _).trans (congrArg (kX m c _) (Fin.ext ?_))
    show 512 + 128 * h.val + d.val = 512 + (128 * h.val + d.val)
    omega
  · funext i d; exact blk1 m c t i _
  · funext i
    exact congrArg₂ (· + ·) (blk2 m c t i _) g0
  · funext i
    exact congrArg Ml.lsig (congrArg₂ (· + ·) (blk2 m c t i _) g1)

end Cert.Proof

end
-- ==== Proof.KRun.lean ====
/- THE KERNEL OVER ITS WHOLE GRID: point by point the scratches carry each sample's states along its chunks, and the blocks of read-outs tile the result. -/
module

public import proofs.«01_k».proof.Proof.KBlocks

@[expose] public section

set_option maxRecDepth 16384

noncomputable section

namespace Cert.Proof

open Idealize.ShloMosaic Idealize.ShloMosaic.TcCoe Cert.KernelIdeal Cert.KernelIdeal.Gen Idealize.ShloMosaic.Pipeline

variable (m : (ℓ : Loc nD τ sig) → Buf (Elt Ideal) ℓ)

/-- The state of head `h` of the point's sample before the point's chunk. -/
abbrev before (c : Dev nD) (n : ℕ) (b : Fin 4) (h : Fin 4) : Ml.HeadSt := Ml.stateAt (kX m c) (kP m c) (kG m c) b h (n % 68)

/-- What a point that opens a sample's scan leaves in the scratches. -/
theorem stAt_A (c : Dev nD) (t : Fin cfg0.N) (h0 : t.val % 68 = 0) (h : Fin 4) :
    stAt m c t.val t.isLt h = Ml.next Ml.fwd 63 (inAt m c t h) Ml.zeroSt := by
  have hg := rowsAgree m c t
  rw [← stZero_eq h]
  refine Ml.HeadSt.ext ?_ ?_ ?_
  · funext d e; exact congrFun (C_A m c t h0 hg) (ix3 h d e)
  · funext d; exact (n_A m c t h0 hg h d).trans (kN_row _ h d)
  · exact (m_A m c t h0 hg h 0).trans (kM_row _ h 0)

/-- What any other point leaves in the scratches. -/
theorem stAt_B (c : Dev nD) (t : Fin cfg0.N) (h0 : ¬ t.val % 68 = 0) (h : Fin 4) :
    stAt m c t.val t.isLt h = Ml.next Ml.fwd 63 (inAt m c t h) (stAt m c (t.val - 1) (Nat.lt_of_le_of_lt (Nat.sub_le _ _) t.isLt) h) := by
  have hg := rowsAgree m c t
  refine Ml.HeadSt.ext ?_ ?_ ?_
  · funext d e; exact congrFun (C_B m c t h0 hg) (ix3 h d e)
  · funext d; exact (n_B m c t h0 hg h d).trans (kN_row _ h d)
  · exact (m_B m c t h0 hg h 0).trans (kM_row _ h 0)

/-- After point `n` the scratches hold the states after the point's chunk. -/
theorem stAt_eq (c : Dev nD) (n : ℕ) (hn : n < cfg0.N) (h : Fin 4) :
    stAt m c n hn h = Ml.stateAt (kX m c) (kP m c) (kG m c) (bOf ⟨n, hn⟩) h (n % 68 + 1) := by
  induction n with
  | zero =>
    rw [stAt_A m c ⟨0, hn⟩ rfl h, inAt_eq]
    rfl
  | succ n ih =>
    have hc : Ml.chunk ((n + 1) % 68) = Ml.chunk (n + 1) := Fin.ext (Nat.mod_mod _ _)
    show _ = Ml.next Ml.fwd 63 (Ml.argIn _ _ _ _ h (Ml.chunk ((n + 1) % 68))) (Ml.stateAt _ _ _ _ h ((n + 1) % 68))
    rw [hc]
    by_cases h0 : (n + 1) % 68 = 0
    · rw [stAt_A m c ⟨n + 1, hn⟩ h0 h, inAt_eq, h0]
      rfl
    · have hb : bOf ⟨n, Nat.lt_of_succ_lt hn⟩ = bOf ⟨n + 1, hn⟩ := Fin.ext (by show n / 68 = (n + 1) / 68; omega)
      have hm : (n + 1) % 68 = n % 68 + 1 := by omega
      rw [stAt_B m c ⟨n + 1, hn⟩ h0 h, inAt_eq, hm, ← hb]
      exact congrArg _ (ih (Nat.lt_of_succ_lt hn))

/-- The block of read-outs that a point leaves. -/
theorem out_eq (c : Dev nD) (t : Fin cfg0.N) (i : Fin 64) (h : Fin 4) (e : Fin 128) :
    (outsAt0 m c t.val t.isLt).1 (ix2 i (⟨128 * h.val + e.val, by omega⟩ : Fin 512))
      = Ml.outAt (kX m c) (kP m c) (kG m c) (bOf t) h (Ml.chunk t.val) i e := by
  have hg := rowsAgree m c t
  have hh : hd (⟨128 * h.val + e.val, by omega⟩ : Fin 512) = h := Fin.ext (by show (128 * h.val + e.val) / 128 = h.val; omega)
  have he : ch (⟨128 * h.val + e.val, by omega⟩ : Fin 512) = e := Fin.ext (by show (128 * h.val + e.val) % 128 = e.val; omega)
  have key : ∀ st : Fin 4 → Ml.HeadSt, st h = Ml.stateAt (kX m c) (kP m c) (kG m c) (bOf t) h (t.val % 68) →
      kOut (inAt m c t) st (ix2 i (⟨128 * h.val + e.val, by omega⟩ : Fin 512)) = Ml.outAt (kX m c) (kP m c) (kG m c) (bOf t) h (Ml.chunk t.val) i e := by
    intro st hs
    show Ml.hOut Ml.fwd (inAt m c t (hd (⟨128 * h.val + e.val, by omega⟩ : Fin 512))) (st (hd (⟨128 * h.val + e.val, by omega⟩ : Fin 512))) i (ch (⟨128 * h.val + e.val, by omega⟩ : Fin 512)) = _
    rw [hh, he, inAt_eq, hs]
    rfl
  by_cases h0 : t.val % 68 = 0
  · rw [out_A m c t h0 hg]
    refine key _ ?_
    rw [stZero_eq, h0]
    rfl
  · rw [out_B m c t h0 hg]
    refine key _ ?_
    have ht : t.val < 272 := t.isLt
    rw [stAt_eq]
    have hb : bOf ⟨t.val - 1, Nat.lt_of_le_of_lt (Nat.sub_le _ _) t.isLt⟩ = bOf t := Fin.ext (by show (t.val - 1) / 68 = t.val / 68; omega)
    rw [hb, show (t.val - 1) % 68 + 1 = t.val % 68 by omega]

/-- The point that works on chunk `k` of sample `b`. -/
def ptOf (b : Fin 4) (k : Fin 68) : Fin cfg0.N := ⟨68 * b.val + k.val, by show 68 * b.val + k.val < 272; omega⟩

theorem bOf_ptOf (b : Fin 4) (k : Fin 68) : bOf (ptOf b k) = b := Fin.ext (by show (68 * b.val + k.val) / 68 = b.val; omega)
theorem chunk_ptOf (b : Fin 4) (k : Fin 68) : Ml.chunk (ptOf b k).val = k := Fin.ext (by show (68 * b.val + k.val) % 68 = k.val; omega)

/-- No two points write the same block. -/
theorem idx_inj (t t' : Fin grid0.N) (_ : (cfg0.win 6).flush t = true) (_ : (cfg0.win 6).flush t' = true) (h : (cfg0.win 6).index t = (cfg0.win 6).index t') : t = t' := by
  have h6 : rowBlk t.val = rowBlk t'.val := by
    have e := congrFun h 0
    rw [show (cfg0.win 6).index t = ![rowBlk t.val, 0] from (idx t).2.2.2.2.2.2, show (cfg0.win 6).index t' = ![rowBlk t'.val, 0] from (idx t').2.2.2.2.2.2] at e
    exact e
  have ht : t.val < 272 := t.isLt
  have ht' : t'.val < 272 := t'.isLt
  apply Fin.ext
  unfold rowBlk at h6
  split at h6 <;> split at h6 <;> omega

/-- The kernel's result array: every token's read-out in its row, head and channel. -/
theorem arr_eq (c : Dev nD) (b : Fin 4) (k : Fin 68) (i : Fin 64) (h : Fin 4) (e : Fin 128) :
    (dats m 0 c).arrAt 6 cfg0.N (ix2 (Ml.row b k i) (⟨128 * h.val + e.val, by omega⟩ : Fin 512))
      = Ml.outAt (kX m c) (kP m c) (kG m c) b h k i e := by
  have hr := row_at (ptOf b k) i
  rw [bOf_ptOf, chunk_ptOf] at hr
  have emb : (((cfg0.win 6).blk (ptOf b k)).view.emb (ix2 i (⟨128 * h.val + e.val, by omega⟩ : Fin 512))) = ix2 (Ml.row b k i) (⟨128 * h.val + e.val, by omega⟩ : Fin 512) := by
    generalize Ml.row b k i = r at hr ⊢
    blk_ext [idx (ptOf b k)]
  have h1 := (dats m 0 c).arrAt_emb_eq_flushed 6 ((cfg0.win 6).hdisj_of_index_inj idx_inj) (ptOf b k) (flush0_6 _) (ix2 i (⟨128 * h.val + e.val, by omega⟩ : Fin 512))
  rw [emb] at h1
  refine h1.trans ?_
  rw [Value.flushed6]
  have h2 := out_eq m c (ptOf b k) i h e
  rw [bOf_ptOf, chunk_ptOf] at h2
  exact h2

end Cert.Proof

end
-- ==== Proof.Layer.lean ====
/- THE LAYER'S PRODUCTS AS FORMULAS: what the merge, the output product, the expert products and the input product compute, entry by entry, over the
   extended reals. -/
module

public import Idealize.ShloMosaic.Lib.Pipeline.ValueKit

@[expose] public section

noncomputable section

namespace Cert.Proof

open Idealize.ShloMosaic

/-- The logistic function. -/
def gate (x : EReal) : EReal := Ideal.div 1 (1 + Ideal.exp (-x))

theorem gate_eq (x : EReal) : Ideal.div 1 (1 + Ideal.exp (0 - x)) = gate x := by rw [gate, zero_sub]

/-- One branch's part of the merge: the gate of the row's gate column times the branch's row through its weights. -/
def branch (Y : Fin 17408 → Fin 512 → EReal) (g : EReal) (W : Fin 512 → EReal) (r : Fin 17408) : EReal := gate g * ∑ k, Y r k * W k

/-- The merge: the four branches' parts added in order. -/
def merged (Y0 Y1 Y2 Y3 : Fin 17408 → Fin 512 → EReal) (P : Fin 17408 → Fin 14336 → EReal) (W : Fin 4 → Fin 512 → Fin 2048 → EReal)
    (r : Fin 17408) (d : Fin 2048) : EReal :=
  branch Y0 (P r ⟨5632 + d.val, by omega⟩) (fun k => W 0 k d) r + branch Y1 (P r ⟨7680 + d.val, by omega⟩) (fun k => W 1 k d) r
    + branch Y2 (P r ⟨9728 + d.val, by omega⟩) (fun k => W 2 k d) r + branch Y3 (P r ⟨11776 + d.val, by omega⟩) (fun k => W 3 k d) r

/-- The modulation row of a token: its sample's for a latent token, the context's own for a context token. -/
def modRow (r : Fin 17408) : Fin 8 := if h : r.val < 16384 then ⟨r.val / 4096, by omega⟩ else 4

theorem modRow_lat (r : Fin 17408) (h : r.val < 16384) : modRow r = ⟨r.val / 4096, by omega⟩ := dif_pos h
theorem modRow_ctx (r : Fin 17408) (h : ¬ r.val < 16384) : modRow r = 4 := dif_neg h

/-- A token's entry among the latent tokens followed by the context tokens. -/
def tok (XL : Fin 16384 → Fin 2048 → EReal) (XC : Fin 1024 → Fin 2048 → EReal) (r : Fin 17408) (d : Fin 2048) : EReal :=
  if h : r.val < 16384 then XL ⟨r.val, h⟩ d else XC ⟨r.val - 16384, by omega⟩ d

theorem tok_lat (XL : Fin 16384 → Fin 2048 → EReal) (XC : Fin 1024 → Fin 2048 → EReal) (r : Fin 17408) (d : Fin 2048) (h : r.val < 16384) :
    tok XL XC r d = XL ⟨r.val, h⟩ d := dif_pos h
theorem tok_ctx (XL : Fin 16384 → Fin 2048 → EReal) (XC : Fin 1024 → Fin 2048 → EReal) (r : Fin 17408) (d : Fin 2048) (h : ¬ r.val < 16384) :
    tok XL XC r d = XC ⟨r.val - 16384, by omega⟩ d := dif_neg h

/-- The output product: the token plus its row through the weights, scaled by the modulation's third row. -/
def mixed (A : Fin 17408 → Fin 2048 → EReal) (W : Fin 2048 → Fin 2048 → EReal) (XL : Fin 16384 → Fin 2048 → EReal)
    (XC : Fin 1024 → Fin 2048 → EReal) (M : Fin 8 → Fin 6 → Fin 2048 → EReal) (r : Fin 17408) (d : Fin 2048) : EReal :=
  tok XL XC r d + M (modRow r) 2 d * ∑ k, A r k * W k d

/-- One hidden unit of an expert for a row: the gated column's product times the up column's. -/
def hid (X G U : Fin 2048 → EReal) : EReal := ((∑ k, X k * G k) * gate (∑ k, X k * G k)) * ∑ k, X k * U k

/-- An expert's entry for a row: its hidden units through the down column, times the row's routing weight. -/
def expert (X : Fin 2048 → EReal) (G U : Fin 2048 → Fin 1536 → EReal) (D : Fin 1536 → EReal) (g : EReal) : EReal :=
  (∑ f, hid X (fun k => G k f) (fun k => U k f) * D f) * g

/-- One over the root of a row's mean square plus the small constant. -/
def scaleOf (X : Fin 2048 → EReal) : EReal :=
  Ideal.rsqrt (Ideal.div (∑ k, X k * X k) (Ideal.ofBits FTy.f32 1157627904#32) + Ideal.ofBits FTy.f32 897988541#32)

/-- An entry of a normalised and modulated row: scaled by the row's root mean square and the gain, then by one plus `sc`, and shifted by `sh`. -/
def normed (X : Fin 2048 → EReal) (g sh sc : EReal) (k : Fin 2048) : EReal := X k * scaleOf X * g * (1 + sc) + sh

/-- The input product: the token's normalised and modulated row through the weights. -/
def projected (XL : Fin 16384 → Fin 2048 → EReal) (XC : Fin 1024 → Fin 2048 → EReal) (g : Fin 2048 → EReal) (M : Fin 8 → Fin 6 → Fin 2048 → EReal)
    (W : Fin 2048 → Fin 14336 → EReal) (r : Fin 17408) (d : Fin 14336) : EReal :=
  ∑ k, normed (tok XL XC r) (g k) (M (modRow r) 0 k) (M (modRow r) 1 k) k * W k d

/-- An entry of a row after the last norm: scaled by the row's root mean square and the gain. -/
def rooted (X : Fin 2048 → EReal) (g : EReal) (k : Fin 2048) : EReal := X k * scaleOf X * g

/-- The tanh form of the smoothed rectifier, its two constants the nearest single-precision numbers. -/
def gelu (y : EReal) : EReal :=
  y * (Ideal.ofBits FTy.f32 1056964608#32 * (1 + Ideal.tanh (Ideal.ofBits FTy.f32 1061962282#32 * (y + Ideal.ofBits FTy.f32 1027024659#32 * (y * y * y)))))

/-- The S5 branch's end: both directions and the skip through the rectifier, times the gate of that row's product with the gate weights. -/
def glued (Y : Fin 512 → EReal) (W : Fin 512 → EReal) (b : EReal) (d : Fin 512) : EReal :=
  gelu (Y d) * gate (∑ k, gelu (Y k) * W k + b)

/-- One over the root of a branch row's mean square plus the small constant. -/
def scaleOfBranch (Y : Fin 512 → EReal) : EReal :=
  Ideal.rsqrt (Ideal.div (∑ k, Y k * Y k) (Ideal.ofBits FTy.f32 1140850688#32) + Ideal.ofBits FTy.f32 897988541#32)

/-- The SSD branch's end: the gated row scaled by its root mean square and the gain. -/
def rootedBranch (Y : Fin 512 → EReal) (g : EReal) (d : Fin 512) : EReal := Y d * scaleOfBranch Y * g

/-- One over the root of the mean square of head `h`'s 128 entries of a row plus the small constant. -/
def headScale (Y : Fin 512 → EReal) (h : Fin 4) : EReal :=
  Ideal.rsqrt (Ideal.div (∑ j : Fin 128, Y ⟨h.val * 128 + j.val, by omega⟩ * Y ⟨h.val * 128 + j.val, by omega⟩) (Ideal.ofBits FTy.f32 1124073472#32)
    + Ideal.ofBits FTy.f32 897988541#32)

/-- The mLSTM branch's end: the row scaled head by head, times the gain, gated. -/
def headed (Y : Fin 512 → EReal) (g o : EReal) (d : Fin 512) : EReal := Y d * headScale Y ⟨d.val / 128, by omega⟩ * g * gate o

theorem headed_at (Y : Fin 512 → EReal) (g o : EReal) (h : Fin 4) (d : Fin 128) :
    headed Y g o ⟨h.val * 128 + d.val, by omega⟩ = Y ⟨h.val * 128 + d.val, by omega⟩ * headScale Y h * g * gate o := by
  have e : (⟨(h.val * 128 + d.val) / 128, by omega⟩ : Fin 4) = h := Fin.ext (by show (h.val * 128 + d.val) / 128 = h.val; omega)
  unfold headed
  rw [e]

end Cert.Proof
-- ==== Proof.S5EndK.lean ====
/- THE S5 BRANCH'S END'S KERNEL: a block's entries, and the result array after the whole grid. -/
module

public import proofs.«01_k».proof.Proof.Gen.Kernel8Ideal.Value
public import proofs.«01_k».proof.Proof.Layer

@[expose] public section

set_option maxRecDepth 16384

noncomputable section

namespace Cert.Proof.S5End

open Idealize.ShloMosaic Idealize.ShloMosaic.TcCoe Cert.Kernel8Ideal Cert.Kernel8Ideal.Gen Idealize.ShloMosaic.Pipeline

variable (m : (ℓ : Loc nD τ sig) → Buf (Elt Ideal) ℓ)

/-- The blocks a grid point reads and writes. -/
theorem idx : ∀ t : Fin grid0.N,
    win0_0.index t = ![t.val, 0] ∧ win0_1.index t = ![t.val, 0] ∧ win0_2.index t = ![t.val, 7] ∧ win0_3.index t = ![0, 0] ∧
    win0_4.index t = ![0, 0] ∧ win0_5.index t = ![0, 0] ∧ win0_6.index t = ![t.val, 0] := by
  decide +kernel

/-- The skip weights as the grid finds them: the argument laid out as one row. -/
theorem V_skip (c : Dev nD) : V m c main_v0 = shapeCast S1x512 (m ((c : Thread nD τ).loc main_arg3)) shapeCasts_S512_S1x512 := by
  unfold V; after_results_simp; rfl

/-- The gate biases as the grid finds them: the argument laid out as one row. -/
theorem V_bias (c : Dev nD) : V m c main_v1 = shapeCast S1x512 (m ((c : Thread nD τ).loc main_arg5)) shapeCasts_S512_S1x512 := by
  unfold V; after_results_simp; rfl

theorem gelu_eq (y : EReal) : Ideal.ofBits FTy.f32 1056964608#32 * y
      * (1 + Ideal.tanh (Ideal.ofBits FTy.f32 1061962282#32 * (y + Ideal.ofBits FTy.f32 1027024659#32 * (y * y * y)))) = gelu y := by
  rw [gelu, mul_comm (Ideal.ofBits FTy.f32 1056964608#32) y, mul_assoc]

theorem pay1_at (x0 x1 : Vec Ideal S512x512 .f32) (s : Vec Ideal S1x512 .f32) (u w : Vec Ideal S512x512 .f32) (b : Vec Ideal S1x512 .f32) (i d : Fin 512) :
    k0_pay1 (F := Ideal) x0 x1 s u w b (ix2 i d)
      = glued (fun k => x0 (ix2 i k) + x1 (ix2 i k) + s (ix2 0 k) * u (ix2 i k)) (fun k => w (ix2 k d)) (b (ix2 0 d)) d := by
  simp only [glued, ← gelu_eq, ← gate_eq]
  pointwise [k0_pay1]

/-- The kernel's arguments as functions of their indices. -/
def kF (c : Dev nD) : Fin 17408 → Fin 512 → EReal := fun r k => (m ((c : Thread nD τ).loc main_arg0)) (ix2 r k)
def kB (c : Dev nD) : Fin 17408 → Fin 512 → EReal := fun r k => (m ((c : Thread nD τ).loc main_arg1)) (ix2 r k)
def kP (c : Dev nD) : Fin 17408 → Fin 14336 → EReal := fun r k => (m ((c : Thread nD τ).loc main_arg2)) (ix2 r k)
def kS (c : Dev nD) : Fin 512 → EReal := fun k => (m ((c : Thread nD τ).loc main_arg3)) (ix1 k)
def kW (c : Dev nD) : Fin 512 → Fin 512 → EReal := fun k d => (m ((c : Thread nD τ).loc main_arg4)) (ix2 k d)
def kC (c : Dev nD) : Fin 512 → EReal := fun k => (m ((c : Thread nD τ).loc main_arg5)) (ix1 k)

/-- The row that enters the rectifier: both directions and the skip. -/
def row (c : Dev nD) (r : Fin 17408) : Fin 512 → EReal := fun k =>
  kF m c r k + kB m c r k
    + kS m c k * kP m c r ⟨3584 + k.val, by omega⟩

/-- The result array as one function of the arguments. -/
def res (c : Dev nD) : FVec Ideal S17408x512 .f32 := fun i =>
  glued (row m c (i 0)) (fun k => kW m c k (i 1)) (kC m c (i 1)) (i 1)

/-- After the whole grid the result array holds the gated rows. -/
theorem final (c : Dev nD) : (dats m 0 c).arrAt 6 cfg0.N = res m c := by
  refine (dats m 0 c).arrAt_eq_of_covers 6 _ (by decide +kernel) fun t hf y => ?_
  blk_simp
  rw [after0_6]
  obtain ⟨i, j, rfl⟩ : ∃ (i j : Fin 512), y = ix2 i j := ⟨y 0, y 1, by blk_ext⟩
  frame_out
  rw [pay1_at]
  simp only [res, row, kF, kB, kP, kS, kW, kC, glued]
  blk_point [iblk, V_main_arg0, V_main_arg1, V_main_arg2, V_main_arg4, V_skip, V_bias, idx t]

end Cert.Proof.S5End
-- ==== Proof.S5EndRef.lean ====
/- THE S5 BRANCH'S END'S REFERENCE: its result as one term of the arguments, and that term's entries. -/
module

public import proofs.«01_k».proof.Proof.Gen.Reference8Ideal.Run
public import proofs.«01_k».proof.Proof.Layer

@[expose] public section

set_option maxRecDepth 16384

noncomputable section

namespace Cert.Proof.S5End

open Idealize.ShloMosaic Idealize.ShloMosaic.TcCoe Cert.Reference8Ideal Cert.Reference8Ideal.Gen

/-- The reference's result as one term of its arguments. -/
def ref (x0 x1 : FVec Ideal S17408x512 .f32) (x2 : FVec Ideal S17408x14336 .f32) (x3 : FVec Ideal S512 .f32) (x4 : FVec Ideal S512x512 .f32) (x5 : FVec Ideal S512 .f32) : FVec Ideal S17408x512 .f32 :=
  mulf (mulf (addf (addf x0 x1) (mulf (broadcastInDim S17408x512 ![0, 1] bcast_S1x512_S17408x512_0_1 (broadcastInDim S1x512 ![1] bcast_S512_S1x512_1 x3)) (extractStridedSlice S17408x512 ![0, 3584] x2 slices_S17408x14336_S17408x512_0_3584))) (mulf (broadcastInDim S17408x512 ![] bcast_S_S17408x512 (constant S_ .f32 0x3F000000#32)) (addf (broadcastInDim S17408x512 ![] bcast_S_S17408x512 (constant S_ .f32 0x3F800000#32)) (Host.tanh (mulf (broadcastInDim S17408x512 ![] bcast_S_S17408x512 (constant S_ .f32 0x3F4C422A#32)) (addf (addf (addf x0 x1) (mulf (broadcastInDim S17408x512 ![0, 1] bcast_S1x512_S17408x512_0_1 (broadcastInDim S1x512 ![1] bcast_S512_S1x512_1 x3)) (extractStridedSlice S17408x512 ![0, 3584] x2 slices_S17408x14336_S17408x512_0_3584))) (mulf (broadcastInDim S17408x512 ![] bcast_S_S17408x512 (constant S_ .f32 0x3D372713#32)) (mulf (mulf (addf (addf x0 x1) (mulf (broadcastInDim S17408x512 ![0, 1] bcast_S1x512_S17408x512_0_1 (broadcastInDim S1x512 ![1] bcast_S512_S1x512_1 x3)) (extractStridedSlice S17408x512 ![0, 3584] x2 slices_S17408x14336_S17408x512_0_3584))) (addf (addf x0 x1) (mulf (broadcastInDim S17408x512 ![0, 1] bcast_S1x512_S17408x512_0_1 (broadcastInDim S1x512 ![1] bcast_S512_S1x512_1 x3)) (extractStridedSlice S17408x512 ![0, 3584] x2 slices_S17408x14336_S17408x512_0_3584)))) (addf (addf x0 x1) (mulf (broadcastInDim S17408x512 ![0, 1] bcast_S1x512_S17408x512_0_1 (broadcastInDim S1x512 ![1] bcast_S512_S1x512_1 x3)) (extractStridedSlice S17408x512 ![0, 3584] x2 slices_S17408x14336_S17408x512_0_3584))))))))))) (Host.divf (broadcastInDim S17408x512 ![] bcast_S_S17408x512 (constant S_ .f32 0x3F800000#32)) (addf (broadcastInDim S17408x512 ![] bcast_S_S17408x512 (constant S_ .f32 0x3F800000#32)) (Host.exp (Host.negf (addf (Host.dotGeneral dot_S17408x512_S512x512_S17408x512_1_0_0_1_n_n none (mulf (addf (addf x0 x1) (mulf (broadcastInDim S17408x512 ![0, 1] bcast_S1x512_S17408x512_0_1 (broadcastInDim S1x512 ![1] bcast_S512_S1x512_1 x3)) (extractStridedSlice S17408x512 ![0, 3584] x2 slices_S17408x14336_S17408x512_0_3584))) (mulf (broadcastInDim S17408x512 ![] bcast_S_S17408x512 (constant S_ .f32 0x3F000000#32)) (addf (broadcastInDim S17408x512 ![] bcast_S_S17408x512 (constant S_ .f32 0x3F800000#32)) (Host.tanh (mulf (broadcastInDim S17408x512 ![] bcast_S_S17408x512 (constant S_ .f32 0x3F4C422A#32)) (addf (addf (addf x0 x1) (mulf (broadcastInDim S17408x512 ![0, 1] bcast_S1x512_S17408x512_0_1 (broadcastInDim S1x512 ![1] bcast_S512_S1x512_1 x3)) (extractStridedSlice S17408x512 ![0, 3584] x2 slices_S17408x14336_S17408x512_0_3584))) (mulf (broadcastInDim S17408x512 ![] bcast_S_S17408x512 (constant S_ .f32 0x3D372713#32)) (mulf (mulf (addf (addf x0 x1) (mulf (broadcastInDim S17408x512 ![0, 1] bcast_S1x512_S17408x512_0_1 (broadcastInDim S1x512 ![1] bcast_S512_S1x512_1 x3)) (extractStridedSlice S17408x512 ![0, 3584] x2 slices_S17408x14336_S17408x512_0_3584))) (addf (addf x0 x1) (mulf (broadcastInDim S17408x512 ![0, 1] bcast_S1x512_S17408x512_0_1 (broadcastInDim S1x512 ![1] bcast_S512_S1x512_1 x3)) (extractStridedSlice S17408x512 ![0, 3584] x2 slices_S17408x14336_S17408x512_0_3584)))) (addf (addf x0 x1) (mulf (broadcastInDim S17408x512 ![0, 1] bcast_S1x512_S17408x512_0_1 (broadcastInDim S1x512 ![1] bcast_S512_S1x512_1 x3)) (extractStridedSlice S17408x512 ![0, 3584] x2 slices_S17408x14336_S17408x512_0_3584))))))))))) x4) (broadcastInDim S17408x512 ![0, 1] bcast_S1x512_S17408x512_0_1 (broadcastInDim S1x512 ![1] bcast_S512_S1x512_1 x5)))))))

/-- An entry of the reference's result: the gated entry of the row. -/
theorem ref_at (x0 x1 : FVec Ideal S17408x512 .f32) (x2 : FVec Ideal S17408x14336 .f32) (x3 : FVec Ideal S512 .f32) (x4 : FVec Ideal S512x512 .f32) (x5 : FVec Ideal S512 .f32) (r : Fin 17408) (d : Fin 512) :
    ref x0 x1 x2 x3 x4 x5 (ix2 r d)
      = glued (fun k => x0 (ix2 r k) + x1 (ix2 r k) + x3 (ix1 k) * x2 (ix2 r ⟨3584 + k.val, by omega⟩)) (fun k => x4 (ix2 k d)) (x5 (ix1 d)) d := by
  simp only [glued, gelu, gate]
  pointwise [ref]

end Cert.Proof.S5End
-- ==== Proof.SsdEndK.lean ====
/- THE SSD BRANCH'S END'S KERNEL: a block's entries, and the result array after the whole grid. -/
module

public import proofs.«01_k».proof.Proof.Gen.Kernel9Ideal.Value
public import proofs.«01_k».proof.Proof.Layer

@[expose] public section

set_option maxRecDepth 16384

noncomputable section

namespace Cert.Proof.SsdEnd

open Idealize.ShloMosaic Idealize.ShloMosaic.TcCoe Cert.Kernel9Ideal Cert.Kernel9Ideal.Gen Idealize.ShloMosaic.Pipeline

variable (m : (ℓ : Loc nD τ sig) → Buf (Elt Ideal) ℓ)

/-- The blocks a grid point reads and writes. -/
theorem idx : ∀ t : Fin grid0.N,
    win0_0.index t = ![t.val, 0] ∧ win0_1.index t = ![t.val, 0] ∧ win0_2.index t = ![t.val, 0] ∧ win0_3.index t = ![t.val, 8] ∧
    win0_4.index t = ![0, 0] ∧ win0_5.index t = ![0, 0] ∧ win0_6.index t = ![t.val, 0] := by
  decide +kernel

/-- The skip weights as the grid finds them: each head's weight repeated along its 64 columns. -/
theorem V_skip (c : Dev nD) : V m c main_v2
    = shapeCast S1x512 (shapeCast S512 (broadcastInDim S8x64 ![0] bcast_S8_S8x64_0 (m ((c : Thread nD τ).loc main_arg4))) shapeCasts_S8x64_S512) shapeCasts_S512_S1x512 := by
  unfold V; after_results_simp; rfl

theorem pay1_at (x0 x1 : Vec Ideal S512x512 .f32) (s : Vec Ideal S1x512 .f32) (u z : Vec Ideal S512x512 .f32) (g : Vec Ideal S1x512 .f32) (i d : Fin 512) :
    k0_pay1 (F := Ideal) x0 x1 s u z g (ix2 i d)
      = rootedBranch (fun k => (x0 (ix2 i k) + x1 (ix2 i k) + s (ix2 0 k) * u (ix2 i k)) * (z (ix2 i k) * gate (z (ix2 i k)))) (g (ix2 0 d)) d := by
  simp only [rootedBranch, scaleOfBranch, ← gate_eq]
  pointwise [k0_pay1]

/-- The kernel's arguments as functions of their indices. -/
def kF (c : Dev nD) : Fin 17408 → Fin 512 → EReal := fun r k => (m ((c : Thread nD τ).loc main_arg0)) (ix2 r k)
def kB (c : Dev nD) : Fin 17408 → Fin 512 → EReal := fun r k => (m ((c : Thread nD τ).loc main_arg1)) (ix2 r k)
def kX (c : Dev nD) : Fin 17408 → Fin 1024 → EReal := fun r k => (m ((c : Thread nD τ).loc main_arg2)) (ix2 r k)
def kP (c : Dev nD) : Fin 17408 → Fin 14336 → EReal := fun r k => (m ((c : Thread nD τ).loc main_arg3)) (ix2 r k)
def kS (c : Dev nD) : Fin 8 → EReal := fun h => (m ((c : Thread nD τ).loc main_arg4)) (ix1 h)
def kG (c : Dev nD) : Fin 512 → EReal := fun k => (m ((c : Thread nD τ).loc main_arg5)) (ix2 0 k)

/-- The row that is normalised: both directions and the skip, gated. -/
def row (c : Dev nD) (r : Fin 17408) : Fin 512 → EReal := fun k =>
  (kF m c r k + kB m c r k
    + kS m c ⟨k.val / 64, by omega⟩ * kX m c r ⟨k.val, by omega⟩)
  * (kP m c r ⟨4096 + k.val, by omega⟩ * gate (kP m c r ⟨4096 + k.val, by omega⟩))

/-- The result array as one function of the arguments. -/
def res (c : Dev nD) : FVec Ideal S17408x512 .f32 := fun i =>
  rootedBranch (row m c (i 0)) (kG m c (i 1)) (i 1)

/-- After the whole grid the result array holds the normalised rows. -/
theorem final (c : Dev nD) : (dats m 0 c).arrAt 6 cfg0.N = res m c := by
  refine (dats m 0 c).arrAt_eq_of_covers 6 _ (by decide +kernel) fun t hf y => ?_
  blk_simp
  rw [after0_6]
  obtain ⟨i, j, rfl⟩ : ∃ (i j : Fin 512), y = ix2 i j := ⟨y 0, y 1, by blk_ext⟩
  frame_out
  rw [pay1_at]
  simp only [res, row, kF, kB, kX, kP, kS, kG, rootedBranch, scaleOfBranch]
  blk_point [iblk, V_main_arg0, V_main_arg1, V_main_arg2, V_main_arg3, V_main_arg5, V_skip, idx t]

end Cert.Proof.SsdEnd
-- ==== Proof.SsdEndRef.lean ====
/- THE SSD BRANCH'S END'S REFERENCE: its result as one term of the arguments, and that term's entries. -/
module

public import proofs.«01_k».proof.Proof.Gen.Reference9Ideal.Run
public import proofs.«01_k».proof.Proof.Layer

@[expose] public section

set_option maxRecDepth 16384

noncomputable section

namespace Cert.Proof.SsdEnd

open Idealize.ShloMosaic Idealize.ShloMosaic.TcCoe Cert.Reference9Ideal Cert.Reference9Ideal.Gen

/-- The reference's result as one term of its arguments. -/
def ref (x0 x1 : FVec Ideal S17408x512 .f32) (x2 : FVec Ideal S17408x1024 .f32) (x3 : FVec Ideal S17408x14336 .f32) (x4 : FVec Ideal S8 .f32) (x5 : FVec Ideal S1x512 .f32) : FVec Ideal S17408x512 .f32 :=
  mulf (mulf (mulf (shapeCast _ (addf (addf (shapeCast _ x0 shapeCasts_S17408x512_S17408x8x64) (shapeCast _ x1 shapeCasts_S17408x512_S17408x8x64)) (mulf (broadcastInDim S17408x8x64 ![0, 1, 2] bcast_S1x8x1_S17408x8x64_0_1_2 (broadcastInDim S1x8x1 ![1, 2] bcast_S8x1_S1x8x1_1_2 (broadcastInDim S8x1 ![0] bcast_S8_S8x1_0 x4))) (shapeCast _ (extractStridedSlice S17408x512 ![0, 0] x2 slices_S17408x1024_S17408x512_0_0) shapeCasts_S17408x512_S17408x8x64))) shapeCasts_S17408x8x64_S17408x512) (mulf (extractStridedSlice S17408x512 ![0, 4096] x3 slices_S17408x14336_S17408x512_0_4096) (Host.divf (broadcastInDim S17408x512 ![] bcast_S_S17408x512 (constant S_ .f32 0x3F800000#32)) (addf (broadcastInDim S17408x512 ![] bcast_S_S17408x512 (constant S_ .f32 0x3F800000#32)) (Host.exp (Host.negf (extractStridedSlice S17408x512 ![0, 4096] x3 slices_S17408x14336_S17408x512_0_4096))))))) (broadcastInDim S17408x512 ![0, 1] bcast_S17408x1_S17408x512_0_1 (Host.rsqrt (addf (Host.divf (broadcastInDim S17408x1 ![0] bcast_S17408_S17408x1_0 (Host.reduceAdd (mulf (mulf (shapeCast _ (addf (addf (shapeCast _ x0 shapeCasts_S17408x512_S17408x8x64) (shapeCast _ x1 shapeCasts_S17408x512_S17408x8x64)) (mulf (broadcastInDim S17408x8x64 ![0, 1, 2] bcast_S1x8x1_S17408x8x64_0_1_2 (broadcastInDim S1x8x1 ![1, 2] bcast_S8x1_S1x8x1_1_2 (broadcastInDim S8x1 ![0] bcast_S8_S8x1_0 x4))) (shapeCast _ (extractStridedSlice S17408x512 ![0, 0] x2 slices_S17408x1024_S17408x512_0_0) shapeCasts_S17408x512_S17408x8x64))) shapeCasts_S17408x8x64_S17408x512) (mulf (extractStridedSlice S17408x512 ![0, 4096] x3 slices_S17408x14336_S17408x512_0_4096) (Host.divf (broadcastInDim S17408x512 ![] bcast_S_S17408x512 (constant S_ .f32 0x3F800000#32)) (addf (broadcastInDim S17408x512 ![] bcast_S_S17408x512 (constant S_ .f32 0x3F800000#32)) (Host.exp (Host.negf (extractStridedSlice S17408x512 ![0, 4096] x3 slices_S17408x14336_S17408x512_0_4096))))))) (mulf (shapeCast _ (addf (addf (shapeCast _ x0 shapeCasts_S17408x512_S17408x8x64) (shapeCast _ x1 shapeCasts_S17408x512_S17408x8x64)) (mulf (broadcastInDim S17408x8x64 ![0, 1, 2] bcast_S1x8x1_S17408x8x64_0_1_2 (broadcastInDim S1x8x1 ![1, 2] bcast_S8x1_S1x8x1_1_2 (broadcastInDim S8x1 ![0] bcast_S8_S8x1_0 x4))) (shapeCast _ (extractStridedSlice S17408x512 ![0, 0] x2 slices_S17408x1024_S17408x512_0_0) shapeCasts_S17408x512_S17408x8x64))) shapeCasts_S17408x8x64_S17408x512) (mulf (extractStridedSlice S17408x512 ![0, 4096] x3 slices_S17408x14336_S17408x512_0_4096) (Host.divf (broadcastInDim S17408x512 ![] bcast_S_S17408x512 (constant S_ .f32 0x3F800000#32)) (addf (broadcastInDim S17408x512 ![] bcast_S_S17408x512 (constant S_ .f32 0x3F800000#32)) (Host.exp (Host.negf (extractStridedSlice S17408x512 ![0, 4096] x3 slices_S17408x14336_S17408x512_0_4096)))))))) (constant S_ .f32 0x00000000#32) reducesTo_S17408x512_S17408_d1 h_S_)) (broadcastInDim S17408x1 ![] bcast_S_S17408x1 (constant S_ .f32 0x44000000#32))) (broadcastInDim S17408x1 ![] bcast_S_S17408x1 (constant S_ .f32 0x358637BD#32)))))) (broadcastInDim S17408x512 ![0, 1] bcast_S1x512_S17408x512_0_1 (broadcastInDim S1x512 ![1] bcast_S512_S1x512_1 (shapeCast _ x5 shapeCasts_S1x512_S512)))

/-- An entry of the reference's result: the normalised row's entry. -/
theorem ref_at (x0 x1 : FVec Ideal S17408x512 .f32) (x2 : FVec Ideal S17408x1024 .f32) (x3 : FVec Ideal S17408x14336 .f32) (x4 : FVec Ideal S8 .f32) (x5 : FVec Ideal S1x512 .f32) (r : Fin 17408) (d : Fin 512) :
    ref x0 x1 x2 x3 x4 x5 (ix2 r d)
      = rootedBranch (fun k => (x0 (ix2 r k) + x1 (ix2 r k) + x4 (ix1 ⟨k.val / 64, by omega⟩) * x2 (ix2 r ⟨k.val, by omega⟩))
          * (x3 (ix2 r ⟨4096 + k.val, by omega⟩) * gate (x3 (ix2 r ⟨4096 + k.val, by omega⟩)))) (x5 (ix2 0 d)) d := by
  simp only [rootedBranch, scaleOfBranch, gate]
  pointwise [ref]

end Cert.Proof.SsdEnd
-- ==== Proof.MlEndK.lean ====
/- THE MLSTM BRANCH'S END'S KERNEL: a block's entries, and the result array after the whole grid. -/
module

public import proofs.«01_k».proof.Proof.Gen.Kernel10Ideal.Value
public import Idealize.ShloMosaic.Lib.Pipeline.ReadBack
public import proofs.«01_k».proof.Proof.Layer

@[expose] public section

set_option maxRecDepth 16384

noncomputable section

namespace Cert.Proof.MlEnd

open Idealize.ShloMosaic Idealize.ShloMosaic.TcCoe Cert.Kernel10Ideal Cert.Kernel10Ideal.Gen Idealize.ShloMosaic.Pipeline

variable (m : (ℓ : Loc nD τ sig) → Buf (Elt Ideal) ℓ)

/-- The blocks a grid point reads and writes. -/
theorem idx : ∀ t : Fin grid0.N,
    win0_0.index t = ![t.val, 0] ∧ win0_1.index t = ![t.val, 0] ∧ win0_2.index t = ![t.val, 6] ∧ win0_3.index t = ![0, 0] ∧ win0_4.index t = ![t.val, 0] := by
  decide +kernel

/-- What a point leaves in its block, from the blocks it reads. -/
def blockOut (x0 x1 x2 : Vec Ideal S512x512 .f32) (x3 : Vec Ideal S1x512 .f32) : Vec Ideal S512x512 .f32 := fun y =>
  headed (fun k => x0 (ix2 (y 0) k) + x1 (ix2 (y 0) k)) (x3 (ix2 0 (y 1))) (x2 (ix2 (y 0) (y 1))) (y 1)

/-- An entry of a head's columns of that block. -/
theorem blockOut_emb (x0 x1 x2 : Vec Ideal S512x512 .f32) (x3 : Vec Ideal S1x512 .f32) (h : Fin 4) (o : ℕ) (ho : o = h.val * 128)
    (inb : ∀ a, ![0, o] a + ![512, 128] a ≤ S512x512.size a) (i : Fin 512) (d : Fin 128) :
    blockOut x0 x1 x2 x3 ((Rect.unit (s := S512x512) ![0, o] ![512, 128] inb).emb (ix2 i d))
      = (x0 (ix2 i ⟨h.val * 128 + d.val, by omega⟩) + x1 (ix2 i ⟨h.val * 128 + d.val, by omega⟩)) * headScale (fun k => x0 (ix2 i k) + x1 (ix2 i k)) h
        * x3 (ix2 0 ⟨h.val * 128 + d.val, by omega⟩) * gate (x2 (ix2 i ⟨h.val * 128 + d.val, by omega⟩)) := by
  have e : (Rect.unit (s := S512x512) ![0, o] ![512, 128] inb).emb (ix2 i d) = ix2 i ⟨h.val * 128 + d.val, by omega⟩ := by
    subst ho
    blk_ext
  rw [e]
  exact headed_at (fun k => x0 (ix2 i k) + x1 (ix2 i k)) _ _ h d

/-- The four stores leave that block. -/
theorem out_eq (x0 x1 x2 : Vec Ideal S512x512 .f32) (x3 : Vec Ideal S1x512 .f32) : out0_4 x0 x1 x2 x3 = blockOut x0 x1 x2 x3 := by
  unfold out0_4
  funext y
  refine View.canon_append_of_piecesOf _ [] [_, _, _, _] ⟨?_, ?_, ?_, ?_, trivial⟩ y (cover0_4 _ _ _ _ y)
  all_goals
    intro x
    dsimp only
    idx_vars x
  · rw [blockOut_emb _ _ _ _ 3 384 rfl]
    simp only [headScale, ← gate_eq]
    pointwise [k0_pay1, k0_pay7, k0_pay8, k0_pay2]
  · rw [blockOut_emb _ _ _ _ 2 256 rfl]
    simp only [headScale, ← gate_eq]
    pointwise [k0_pay6, k0_pay8, k0_pay2]
  · rw [blockOut_emb _ _ _ _ 1 128 rfl]
    simp only [headScale, ← gate_eq]
    pointwise [k0_pay5, k0_pay4, k0_pay2]
  · rw [blockOut_emb _ _ _ _ 0 0 rfl]
    simp only [headScale, ← gate_eq]
    pointwise [k0_pay3, k0_pay2]

/-- The kernel's arguments as functions of their indices. -/
def kF (c : Dev nD) : Fin 17408 → Fin 512 → EReal := fun r k => (m ((c : Thread nD τ).loc main_arg0)) (ix2 r k)
def kB (c : Dev nD) : Fin 17408 → Fin 512 → EReal := fun r k => (m ((c : Thread nD τ).loc main_arg1)) (ix2 r k)
def kP (c : Dev nD) : Fin 17408 → Fin 14336 → EReal := fun r k => (m ((c : Thread nD τ).loc main_arg2)) (ix2 r k)
def kG (c : Dev nD) : Fin 512 → EReal := fun k => (m ((c : Thread nD τ).loc main_arg3)) (ix2 0 k)

/-- The result array as one function of the arguments. -/
def res (c : Dev nD) : FVec Ideal S17408x512 .f32 := fun i =>
  headed (fun k => kF m c (i 0) k + kB m c (i 0) k) (kG m c (i 1)) (kP m c (i 0) ⟨3072 + (i 1).val, by have h : (i 1).val < 512 := (i 1).isLt; omega⟩) (i 1)

theorem res_at (c : Dev nD) (r : Fin 17408) (d : Fin 512) : res m c (ix2 r d)
    = headed (fun k => kF m c r k + kB m c r k) (kG m c d) (kP m c r ⟨3072 + d.val, by omega⟩) d := rfl

/-- The two directions' blocks of a point. -/
def bF (c : Dev nD) (t : Fin cfg0.N) : Vec Ideal S512x512 .f32 := iblk m c 0 t
def bB (c : Dev nD) (t : Fin cfg0.N) : Vec Ideal S512x512 .f32 := iblk m c 1 t

section Point

variable (c : Dev nD) (t : Fin cfg0.N) (i : Fin 512) (r : Fin 17408) (hr : r.val = t.val * 512 + i.val)

include hr in
theorem blkF (k : Fin 512) : iblk m c 0 t (ix2 i k) = kF m c r k := by
  unfold kF; blk_ext [iblk, V_main_arg0, idx t]

include hr in
theorem blkB (k : Fin 512) : iblk m c 1 t (ix2 i k) = kB m c r k := by
  unfold kB; blk_ext [iblk, V_main_arg1, idx t]

include hr in
theorem blkP (k : Fin 512) : iblk m c 2 t (ix2 i k) = kP m c r ⟨3072 + k.val, by omega⟩ := by
  unfold kP; blk_ext [iblk, V_main_arg2, idx t]

theorem blkG (k : Fin 512) : iblk m c 3 t (ix2 0 k) = kG m c k := by
  unfold kG; blk_ext [iblk, V_main_arg3, idx t]

include hr in
theorem emb_eq (d : Fin 512) : ((cfg0.win 4).blk t).view.emb (ix2 i d) = ix2 r d := by
  blk_ext [idx t]

end Point

/-- After the whole grid the result array holds the rows scaled head by head and gated. -/
theorem final (c : Dev nD) : (dats m 0 c).arrAt 4 cfg0.N = res m c := by
  refine (dats m 0 c).arrAt_eq_of_covers 4 _ (by decide +kernel) fun t hf y => ?_
  have ht : t.val < 34 := lt_of_lt_of_eq t.isLt N_0
  obtain ⟨i, d, rfl⟩ : ∃ (i d : Fin 512), y = ix2 i d := ⟨y 0, y 1, by blk_ext⟩
  obtain ⟨r, hr⟩ : ∃ r : Fin 17408, r.val = t.val * 512 + i.val := ⟨⟨t.val * 512 + i.val, by omega⟩, rfl⟩
  have hF : ∀ k, bF m c t (ix2 i k) = kF m c r k := blkF m c t i r hr
  have hB : ∀ k, bB m c t (ix2 i k) = kB m c r k := blkB m c t i r hr
  rw [emb_eq t i r hr d, res_at]
  blk_simp
  rw [after0_4, out_eq]
  show headed (fun k => bF m c t (ix2 i k) + bB m c t (ix2 i k)) (iblk m c 3 t (ix2 0 d)) (iblk m c 2 t (ix2 i d)) d = _
  rw [blkG m c t d, blkP m c t i r hr d]
  simp only [hF, hB]

end Cert.Proof.MlEnd
-- ==== Proof.MlEndRef.lean ====
/- THE MLSTM BRANCH'S END'S REFERENCE: its result as one term of the arguments, and that term's entries. -/
module

public import proofs.«01_k».proof.Proof.Gen.Reference10Ideal.Run
public import proofs.«01_k».proof.Proof.Layer

@[expose] public section

set_option maxRecDepth 16384

noncomputable section

namespace Cert.Proof.MlEnd

open Idealize.ShloMosaic Idealize.ShloMosaic.TcCoe Cert.Reference10Ideal Cert.Reference10Ideal.Gen

/-- The reference's result as one term of its arguments. -/
def ref (x0 x1 : FVec Ideal S17408x512 .f32) (x2 : FVec Ideal S17408x14336 .f32) (x3 : FVec Ideal S1x512 .f32) : FVec Ideal S17408x512 .f32 :=
  mulf (mulf (shapeCast _ (mulf (shapeCast _ (addf x0 x1) shapeCasts_S17408x512_S17408x4x128) (broadcastInDim S17408x4x128 ![0, 1, 2] bcast_S17408x4x1_S17408x4x128_0_1_2 (Host.rsqrt (addf (Host.divf (broadcastInDim S17408x4x1 ![0, 1] bcast_S17408x4_S17408x4x1_0_1 (Host.reduceAdd (mulf (shapeCast _ (addf x0 x1) shapeCasts_S17408x512_S17408x4x128) (shapeCast _ (addf x0 x1) shapeCasts_S17408x512_S17408x4x128)) (constant S_ .f32 0x00000000#32) reducesTo_S17408x4x128_S17408x4_d2 h_S_)) (broadcastInDim S17408x4x1 ![] bcast_S_S17408x4x1 (constant S_ .f32 0x43000000#32))) (broadcastInDim S17408x4x1 ![] bcast_S_S17408x4x1 (constant S_ .f32 0x358637BD#32)))))) shapeCasts_S17408x4x128_S17408x512) (broadcastInDim S17408x512 ![0, 1] bcast_S1x512_S17408x512_0_1 (broadcastInDim S1x512 ![1] bcast_S512_S1x512_1 (shapeCast _ x3 shapeCasts_S1x512_S512)))) (Host.divf (broadcastInDim S17408x512 ![] bcast_S_S17408x512 (constant S_ .f32 0x3F800000#32)) (addf (broadcastInDim S17408x512 ![] bcast_S_S17408x512 (constant S_ .f32 0x3F800000#32)) (Host.exp (Host.negf (extractStridedSlice S17408x512 ![0, 3072] x2 slices_S17408x14336_S17408x512_0_3072)))))

/-- An entry of the reference's result: the row's entry scaled by its head, gated. -/
theorem ref_at (x0 x1 : FVec Ideal S17408x512 .f32) (x2 : FVec Ideal S17408x14336 .f32) (x3 : FVec Ideal S1x512 .f32) (r : Fin 17408) (h : Fin 4) (d : Fin 128) :
    ref x0 x1 x2 x3 (ix2 r ⟨h.val * 128 + d.val, by omega⟩)
      = headed (fun k => x0 (ix2 r k) + x1 (ix2 r k)) (x3 (ix2 0 ⟨h.val * 128 + d.val, by omega⟩)) (x2 (ix2 r ⟨3072 + (h.val * 128 + d.val), by omega⟩))
          ⟨h.val * 128 + d.val, by omega⟩ := by
  rw [headed_at]
  simp only [headScale, gate]
  pointwise [ref]

end Cert.Proof.MlEnd
-- ==== Proof.LastFfnK.lean ====
/- THE LAST LAYER'S EXPERT PRODUCTS' KERNEL: the accumulator at a run's last point, and the result array after the whole grid. -/
module

public import proofs.«01_k».proof.Proof.Gen.Kernel6Ideal.Value
public import proofs.«01_k».proof.Proof.Layer
public import Idealize.ShloMosaic.Lib.Pipeline.ReadBack

@[expose] public section

set_option maxRecDepth 16384

noncomputable section

namespace Cert.Proof.LastFfn

open Idealize.ShloMosaic Idealize.ShloMosaic.TcCoe Cert.Kernel6Ideal Cert.Kernel6Ideal.Gen Idealize.ShloMosaic.Pipeline

variable (m : (ℓ : Loc nD τ sig) → Buf (Elt Ideal) ℓ)

/-- The blocks a grid point reads and writes. -/
theorem idx : ∀ t : Fin grid0.N,
    win0_0.index t = ![t.val / 12, t.val / 6 % 2, 0] ∧ win0_1.index t = ![t.val / 12, t.val / 6 % 2, 0] ∧
    win0_2.index t = ![t.val / 12, 0, t.val % 6] ∧ win0_3.index t = ![t.val / 12, 0, t.val % 6] ∧ win0_4.index t = ![t.val / 12, t.val % 6, 0] ∧
    win0_5.index t = ![t.val / 12, t.val / 6 % 2, 0] := by
  decide +kernel

/-- What a point adds to an entry of the accumulator: the point's hidden units of the row through the down column. -/
def part (X : Vec Ideal S1x1024x2048 .bf16) (G U : Vec Ideal S1x2048x256 .f32) (D : Vec Ideal S1x256x2048 .f32) (y : Fin 1024 × Fin 2048) : EReal :=
  ∑ f : Fin 256, hid (fun k => X (ix3 0 y.1 k)) (fun k => G (ix3 0 k f)) (fun k => U (ix3 0 k f)) * D (ix3 0 f y.2)

theorem pay3_at (X : Vec Ideal S1x1024x2048 .bf16) (G U : Vec Ideal S1x2048x256 .f32) (A : Vec Ideal S1024x2048 .f32) (D : Vec Ideal S1x256x2048 .f32)
    (i : Fin 1024) (d : Fin 2048) : k0_pay3 (F := Ideal) X G U A D (ix2 i d) = A (ix2 i d) + part X G U D (i, d) := by
  simp only [part, hid, ← gate_eq]
  pointwise [k0_pay3]

theorem pay2_at (i : Fin 1024) (d : Fin 2048) : k0_pay2 (F := Ideal) (ix2 i d) = 0 := by
  pointwise [k0_pay2]

theorem pay1_at (A : Vec Ideal S1024x2048 .f32) (g : Vec Ideal S1x1024x1 .f32) (i : Fin 1024) (d : Fin 2048) :
    k0_pay1 (F := Ideal) A g (ix3 0 i d) = A (ix2 i d) * g (ix3 0 i 0) := by
  pointwise [k0_pay1]

/-- The accumulator after a point. -/
def accAt (c : Dev nD) (n : ℕ) (hn : n < cfg0.N) (y : Fin 1024 × Fin 2048) : EReal := (outsAt0 m c n hn).2 (ix2 y.1 y.2)

/-- What a point adds to the accumulator. -/
def term (c : Dev nD) (t : Fin cfg0.N) (y : Fin 1024 × Fin 2048) : EReal := part (iblk m c 0 t) (iblk m c 2 t) (iblk m c 3 t) (iblk m c 4 t) y

theorem acc_A (c : Dev nD) (t : Fin cfg0.N) (h : t.val % 6 = 0) (y) : accAt m c t.val t.isLt y = 0 + term m c t y := by
  obtain ⟨i, d⟩ := y
  unfold accAt term
  rw [outsAt0_A m c t h (by omega)]
  frame_out
  rw [pay3_at, pay2_at]

theorem acc_B (c : Dev nD) (t : Fin cfg0.N) (h : ¬ t.val % 6 = 0) (y) :
    accAt m c t.val t.isLt y = accAt m c (t.val - 1) (Nat.lt_of_le_of_lt (Nat.sub_le _ _) t.isLt) y + term m c t y := by
  obtain ⟨i, d⟩ := y
  unfold accAt term
  by_cases h5 : t.val % 6 = 5
  · rw [outsAt0_C m c t h h5]
    frame_out
    rw [pay3_at, read_unread_whole]
  · rw [outsAt0_B m c t h h5]
    frame_out
    rw [pay3_at, read_unread_whole]

/-- The accumulator at a run's last point: the run's six parts. -/
theorem acc_last (c : Dev nD) (t : Fin cfg0.N) (h : t.val % 6 = 5) (y) :
    accAt m c t.val t.isLt y = ∑ s : Fin 6, term m c ⟨6 * (t.val / 6) + s.val, Pipeline.run_point_lt_of_flush t h s⟩ y :=
  (Pipeline.eq_sum_fin_of_reset_step_apply_of_flush (accAt m c) 6 (fun _ => 0) (term m c) (acc_A m c) (acc_B m c) t h y).trans (zero_add _)

/-- The block a run's last point writes. -/
theorem out_at (c : Dev nD) (t : Fin cfg0.N) (h : t.val % 6 = 5) (i : Fin 1024) (d : Fin 2048) :
    (outsAt0 m c t.val t.isLt).1 (ix3 0 i d) = accAt m c t.val t.isLt (i, d) * iblk m c 1 t (ix3 0 i 0) := by
  unfold accAt
  rw [outsAt0_C m c t (by omega) h]
  frame_out
  rw [pay1_at]

/-- The kernel's arguments as functions of their indices. -/
def kX (c : Dev nD) : Fin 16 → Fin 2048 → Fin 2048 → EReal := fun e r k => (m ((c : Thread nD τ).loc main_arg0)) (ix3 e r k)
def kGX (c : Dev nD) : Fin 16 → Fin 2048 → EReal := fun e r => (m ((c : Thread nD τ).loc main_arg1)) (ix3 e r 0)
def kG (c : Dev nD) : Fin 16 → Fin 2048 → Fin 1536 → EReal := fun e k f => (m ((c : Thread nD τ).loc main_arg2)) (ix3 e k f)
def kU (c : Dev nD) : Fin 16 → Fin 2048 → Fin 1536 → EReal := fun e k f => (m ((c : Thread nD τ).loc main_arg3)) (ix3 e k f)
def kD (c : Dev nD) : Fin 16 → Fin 1536 → Fin 2048 → EReal := fun e f d => (m ((c : Thread nD τ).loc main_arg4)) (ix3 e f d)

/-- The result as one function of the arguments. -/
def res (c : Dev nD) : FVec Ideal S16x2048x2048 .bf16 := fun i => expert (kX m c (i 0) (i 1)) (kG m c (i 0)) (kU m c (i 0)) (fun f => kD m c (i 0) f (i 2)) (kGX m c (i 0) (i 1))

theorem res_at (c : Dev nD) (e : Fin 16) (r d : Fin 2048) : res m c (ix3 e r d)
    = (∑ f, hid (kX m c e r) (fun k => kG m c e k f) (fun k => kU m c e k f) * kD m c e f d) * kGX m c e r := rfl

section Point

variable (c : Dev nD) (t : Fin cfg0.N) (e : Fin 16) (he : e.val = t.val / 12)
include he

theorem blkG (k : Fin 2048) (f : Fin 256) (f' : Fin 1536) (hf : f'.val = t.val % 6 * 256 + f.val) : iblk m c 2 t (ix3 0 k f) = kG m c e k f' := by
  unfold kG; blk_ext [iblk, V_main_arg2, idx t]

theorem blkU (k : Fin 2048) (f : Fin 256) (f' : Fin 1536) (hf : f'.val = t.val % 6 * 256 + f.val) : iblk m c 3 t (ix3 0 k f) = kU m c e k f' := by
  unfold kU; blk_ext [iblk, V_main_arg3, idx t]

theorem blkD (d : Fin 2048) (f : Fin 256) (f' : Fin 1536) (hf : f'.val = t.val % 6 * 256 + f.val) : iblk m c 4 t (ix3 0 f d) = kD m c e f' d := by
  unfold kD; blk_ext [iblk, V_main_arg4, idx t]

theorem blkX (i : Fin 1024) (k : Fin 2048) (r : Fin 2048) (hr : r.val = t.val / 6 % 2 * 1024 + i.val) : iblk m c 0 t (ix3 0 i k) = kX m c e r k := by
  unfold kX; blk_ext [iblk, V_main_arg0, idx t]

theorem blkGX (i : Fin 1024) (r : Fin 2048) (hr : r.val = t.val / 6 % 2 * 1024 + i.val) : iblk m c 1 t (ix3 0 i 0) = kGX m c e r := by
  unfold kGX; blk_ext [iblk, V_main_arg1, idx t]

theorem emb_eq (i : Fin 1024) (d r : Fin 2048) (hr : r.val = t.val / 6 % 2 * 1024 + i.val) : ((cfg0.win 5).blk t).view.emb (ix3 0 i d) = ix3 e r d := by
  blk_ext [idx t]

/-- What a point adds, over the arguments: the point's 256 hidden units of the expert. -/
theorem term_eq (i : Fin 1024) (d r : Fin 2048) (hr : r.val = t.val / 6 % 2 * 1024 + i.val) :
    term m c t (i, d) = ∑ f : Fin 256, hid (kX m c e r) (fun k => kG m c e k ⟨t.val % 6 * 256 + f.val, by omega⟩)
      (fun k => kU m c e k ⟨t.val % 6 * 256 + f.val, by omega⟩) * kD m c e ⟨t.val % 6 * 256 + f.val, by omega⟩ d := by
  have hX : (fun k => iblk m c 0 t (ix3 0 i k)) = kX m c e r := funext fun k => blkX m c t e he i k r hr
  unfold term part
  refine Finset.sum_congr rfl fun f _ => ?_
  rw [blkD m c t e he d f ⟨t.val % 6 * 256 + f.val, by omega⟩ rfl]
  congr 1
  refine (congrArg (fun X => hid X _ _) hX).trans ?_
  exact congrArg₂ (hid (kX m c e r)) (funext fun k => blkG m c t e he k f _ rfl) (funext fun k => blkU m c t e he k f _ rfl)

end Point

/-- The accumulator at a run's last point, over the arguments: all the expert's hidden units of the row. -/
theorem acc_last_eq (c : Dev nD) (t : Fin cfg0.N) (h : t.val % 6 = 5) (e : Fin 16) (he : e.val = t.val / 12) (i : Fin 1024) (d r : Fin 2048)
    (hr : r.val = t.val / 6 % 2 * 1024 + i.val) :
    accAt m c t.val t.isLt (i, d) = ∑ f, hid (kX m c e r) (fun k => kG m c e k f) (fun k => kU m c e k f) * kD m c e f d := by
  rw [acc_last m c t h]
  have hs : ∀ s : Fin 6, term m c ⟨6 * (t.val / 6) + s.val, Pipeline.run_point_lt_of_flush t h s⟩ (i, d)
      = ∑ f : Fin 256, hid (kX m c e r) (fun k => kG m c e k ⟨s.val * 256 + f.val, by omega⟩) (fun k => kU m c e k ⟨s.val * 256 + f.val, by omega⟩)
        * kD m c e ⟨s.val * 256 + f.val, by omega⟩ d := fun s => by
    have e1 : (6 * (t.val / 6) + s.val) % 6 = s.val := by omega
    rw [term_eq m c _ e (by show e.val = (6 * (t.val / 6) + s.val) / 12; omega) i d r (by show r.val = (6 * (t.val / 6) + s.val) / 6 % 2 * 1024 + _; omega)]
    simp only [e1]
  rw [Finset.sum_congr rfl fun s _ => hs s]
  exact Fin.sum_mul_add_congr (fun s f hl => rfl)

/-- After the whole grid the result array holds the rows through their experts. -/
theorem final (c : Dev nD) : (dats m 0 c).arrAt 5 cfg0.N = res m c := by
  refine (dats m 0 c).arrAt_eq_of_covers 5 _ (by decide +kernel) fun t hf y => ?_
  have ht : t.val < 192 := lt_of_lt_of_eq t.isLt N_0
  have h5 := (flush0_5 t).mp hf
  obtain ⟨i, d, rfl⟩ : ∃ (i : Fin 1024) (d : Fin 2048), y = ix3 0 i d := ⟨y 1, y 2, by blk_ext⟩
  obtain ⟨r, hr⟩ : ∃ r : Fin 2048, r.val = t.val / 6 % 2 * 1024 + i.val := ⟨⟨t.val / 6 % 2 * 1024 + i.val, by omega⟩, rfl⟩
  obtain ⟨e, he⟩ : ∃ e : Fin 16, e.val = t.val / 12 := ⟨⟨t.val / 12, by omega⟩, rfl⟩
  rw [emb_eq t e he i d r hr, res_at]
  blk_simp
  rw [after0_5, out_at m c t h5, blkGX m c t e he i r hr, acc_last_eq m c t h5 e he i d r hr]

end Cert.Proof.LastFfn
-- ==== Proof.LastFfnRef.lean ====
/- THE LAST LAYER'S EXPERT PRODUCTS' REFERENCE: its result as one term of the arguments, and that term's entries. -/
module

public import proofs.«01_k».proof.Proof.Gen.Reference6Ideal.Run
public import proofs.«01_k».proof.Proof.Layer

@[expose] public section

set_option maxRecDepth 16384

noncomputable section

namespace Cert.Proof.LastFfn

open Idealize.ShloMosaic Idealize.ShloMosaic.TcCoe Cert.Reference6Ideal Cert.Reference6Ideal.Gen

/-- The reference's result as one term of its arguments. -/
def ref (x0 : FVec Ideal S16x2048x2048 .bf16) (x1 : FVec Ideal S16x2048x1 .f32) (x2 x3 : FVec Ideal S16x2048x1536 .f32) (x4 : FVec Ideal S16x1536x2048 .f32) : FVec Ideal S16x2048x2048 .bf16 :=
  truncf .bf16 (mulf (Host.dotGeneral dot_S16x2048x1536_S16x1536x2048_S16x2048x2048_2_1_1_2_0_0 none (mulf (mulf (Host.dotGeneral dot_S16x2048x2048_S16x2048x1536_S16x2048x1536_2_1_1_2_0_0 none (extf .f32 x0 bitsLt_bf16_f32) x2) (Host.divf (broadcastInDim S16x2048x1536 ![] bcast_S_S16x2048x1536 (constant S_ .f32 0x3F800000#32)) (addf (broadcastInDim S16x2048x1536 ![] bcast_S_S16x2048x1536 (constant S_ .f32 0x3F800000#32)) (Host.exp (Host.negf (Host.dotGeneral dot_S16x2048x2048_S16x2048x1536_S16x2048x1536_2_1_1_2_0_0 none (extf .f32 x0 bitsLt_bf16_f32) x2)))))) (Host.dotGeneral dot_S16x2048x2048_S16x2048x1536_S16x2048x1536_2_1_1_2_0_0 none (extf .f32 x0 bitsLt_bf16_f32) x3)) x4) (broadcastInDim S16x2048x2048 ![0, 1, 2] bcast_S16x2048x1_S16x2048x2048_0_1_2 x1)) bitsLt_bf16_f32

/-- An entry of the reference's result is the expert's entry for that row. -/
theorem ref_at (x0 : FVec Ideal S16x2048x2048 .bf16) (x1 : FVec Ideal S16x2048x1 .f32) (x2 x3 : FVec Ideal S16x2048x1536 .f32) (x4 : FVec Ideal S16x1536x2048 .f32) (e : Fin 16) (r d : Fin 2048) :
    ref x0 x1 x2 x3 x4 (ix3 e r d)
      = expert (fun k => x0 (ix3 e r k)) (fun k f => x2 (ix3 e k f)) (fun k f => x3 (ix3 e k f)) (fun f => x4 (ix3 e f d)) (x1 (ix3 e r 0)) := by
  simp only [expert, hid, gate]
  pointwise [ref]

end Cert.Proof.LastFfn
-- ==== Proof.NormK.lean ====
/- THE LAST NORM'S KERNEL: a block's entries, and the result array after the whole grid. -/
module

public import proofs.«01_k».proof.Proof.Gen.Kernel7Ideal.Value
public import proofs.«01_k».proof.Proof.Layer

@[expose] public section

set_option maxRecDepth 16384

noncomputable section

namespace Cert.Proof.Norm

open Idealize.ShloMosaic Idealize.ShloMosaic.TcCoe Cert.Kernel7Ideal Cert.Kernel7Ideal.Gen Idealize.ShloMosaic.Pipeline

variable (m : (ℓ : Loc nD τ sig) → Buf (Elt Ideal) ℓ)

/-- The blocks a grid point reads and writes. -/
theorem idx : ∀ t : Fin grid0.N, win0_0.index t = ![t.val, 0] ∧ win0_1.index t = ![0, 0] ∧ win0_2.index t = ![t.val, 0] := by
  decide +kernel

theorem pay1_at (X : Vec Ideal S512x2048 .f32) (g : Vec Ideal S1x2048 .f32) (i : Fin 512) (k : Fin 2048) :
    k0_pay1 (F := Ideal) X g (ix2 i k) = rooted (fun k => X (ix2 i k)) (g (ix2 0 k)) k := by
  simp only [rooted, scaleOf]
  pointwise [k0_pay1]

/-- The kernel's arguments as functions of their indices. -/
def kX (c : Dev nD) : Fin 16384 → Fin 2048 → EReal := fun r k => (m ((c : Thread nD τ).loc main_arg0)) (ix2 r k)
def kG (c : Dev nD) : Fin 2048 → EReal := fun k => (m ((c : Thread nD τ).loc main_arg1)) (ix2 0 k)

/-- The result array as one function of the arguments. -/
def res (c : Dev nD) : FVec Ideal S16384x2048 .f32 := fun i => rooted (kX m c (i 0)) (kG m c (i 1)) (i 1)

theorem res_at (c : Dev nD) (r : Fin 16384) (d : Fin 2048) : res m c (ix2 r d) = rooted (kX m c r) (kG m c d) d := rfl

section Blocks

variable (c : Dev nD) (t : Fin cfg0.N)

theorem blkX (i : Fin 512) (k : Fin 2048) (r : Fin 16384) (hr : r.val = t.val * 512 + i.val) : iblk m c 0 t (ix2 i k) = kX m c r k := by
  unfold kX; blk_ext [iblk, V_main_arg0, idx t]

theorem blkG (k : Fin 2048) : iblk m c 1 t (ix2 0 k) = kG m c k := by
  unfold kG; blk_ext [iblk, V_main_arg1, idx t]

theorem emb_eq (i : Fin 512) (d : Fin 2048) (r : Fin 16384) (hr : r.val = t.val * 512 + i.val) :
    ((cfg0.win 2).blk t).view.emb (ix2 i d) = ix2 r d := by
  blk_ext [idx t]

end Blocks

/-- After the whole grid the result array holds the arguments' rows normalised. -/
theorem final (c : Dev nD) : (dats m 0 c).arrAt 2 cfg0.N = res m c := by
  refine (dats m 0 c).arrAt_eq_of_covers 2 _ (by decide +kernel) fun t hf y => ?_
  have ht : t.val < 32 := lt_of_lt_of_eq t.isLt N_0
  obtain ⟨i, d, rfl⟩ : ∃ (i : Fin 512) (d : Fin 2048), y = ix2 i d := ⟨y 0, y 1, by blk_ext⟩
  obtain ⟨r, hr⟩ : ∃ r : Fin 16384, r.val = t.val * 512 + i.val := ⟨⟨t.val * 512 + i.val, by omega⟩, rfl⟩
  have hX : (fun k => iblk m c 0 t (ix2 i k)) = kX m c r := funext fun k => blkX m c t i k r hr
  rw [emb_eq t i d r hr, res_at]
  blk_simp
  rw [after0_2]
  frame_out
  rw [pay1_at, blkG]
  exact congrArg (fun X => rooted X _ d) hX

end Cert.Proof.Norm
-- ==== Proof.NormRef.lean ====
/- THE LAST NORM'S REFERENCE: its result as one term of the arguments, and that term's entries. -/
module

public import proofs.«01_k».proof.Proof.Gen.Reference7Ideal.Run
public import proofs.«01_k».proof.Proof.Layer

@[expose] public section

set_option maxRecDepth 16384

noncomputable section

namespace Cert.Proof.Norm

open Idealize.ShloMosaic Idealize.ShloMosaic.TcCoe Cert.Reference7Ideal Cert.Reference7Ideal.Gen

/-- The reference's result as one term of its arguments. -/
def ref (x0 : FVec Ideal S16384x2048 .f32) (x1 : FVec Ideal S1x2048 .f32) : FVec Ideal S16384x2048 .f32 :=
  shapeCast _ (mulf (mulf (shapeCast _ x0 shapeCasts_S16384x2048_S4x4096x2048) (broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf (shapeCast _ x0 shapeCasts_S16384x2048_S4x4096x2048) (shapeCast _ x0 shapeCasts_S16384x2048_S4x4096x2048)) (constant S_ .f32 0x00000000#32) reducesTo_S4x4096x2048_S4x4096_d2 h_S_)) (broadcastInDim S4x4096x1 ![] bcast_S_S4x4096x1 (constant S_ .f32 0x45000000#32))) (broadcastInDim S4x4096x1 ![] bcast_S_S4x4096x1 (constant S_ .f32 0x358637BD#32)))))) (broadcastInDim S4x4096x2048 ![0, 1, 2] bcast_S1x1x2048_S4x4096x2048_0_1_2 (broadcastInDim S1x1x2048 ![2] bcast_S2048_S1x1x2048_2 (shapeCast _ x1 shapeCasts_S1x2048_S2048)))) shapeCasts_S4x4096x2048_S16384x2048

/-- An entry of the reference's result is the normalised row's entry. -/
theorem ref_at (x0 : FVec Ideal S16384x2048 .f32) (x1 : FVec Ideal S1x2048 .f32) (r : Fin 16384) (d : Fin 2048) :
    ref x0 x1 (ix2 r d) = rooted (fun k => x0 (ix2 r k)) (x1 (ix2 0 d)) d := by
  simp only [rooted, scaleOf]
  pointwise [ref]

end Cert.Proof.Norm
-- ==== Proof.MergeK.lean ====
/- THE MERGE'S KERNEL: a block's entries, and the result array after the whole grid. -/
module

public import proofs.«01_k».proof.Proof.Gen.Kernel5Ideal.Value
public import proofs.«01_k».proof.Proof.Layer

@[expose] public section

set_option maxRecDepth 16384

noncomputable section

namespace Cert.Proof.Merge

open Idealize.ShloMosaic Idealize.ShloMosaic.TcCoe Cert.Kernel5Ideal Cert.Kernel5Ideal.Gen Idealize.ShloMosaic.Pipeline

variable (m : (ℓ : Loc nD τ sig) → Buf (Elt Ideal) ℓ)

/-- The blocks a grid point reads and writes. -/
theorem idx : ∀ t : Fin grid0.N,
    win0_0.index t = ![t.val / 4, 0] ∧ win0_1.index t = ![t.val / 4, 0] ∧ win0_2.index t = ![t.val / 4, 0] ∧ win0_3.index t = ![t.val / 4, 0] ∧
    win0_4.index t = ![t.val / 4, 11 + t.val % 4] ∧ win0_5.index t = ![t.val / 4, 15 + t.val % 4] ∧ win0_6.index t = ![t.val / 4, 19 + t.val % 4] ∧
    win0_7.index t = ![t.val / 4, 23 + t.val % 4] ∧ win0_8.index t = ![0, 0, t.val % 4] ∧ win0_9.index t = ![1, 0, t.val % 4] ∧
    win0_10.index t = ![2, 0, t.val % 4] ∧ win0_11.index t = ![3, 0, t.val % 4] ∧ win0_12.index t = ![t.val / 4, t.val % 4] := by
  decide +kernel

/-- An entry of the block a point writes, from the entries of the blocks it reads. -/
theorem pay_at (x0 x1 x2 x3 x4 x5 x6 x7 : Vec Ideal S512x512 .f32) (x8 x9 x10 x11 : Vec Ideal S1x512x512 .bf16) (i j : Fin 512) :
    out0_12 x0 x1 x2 x3 x4 x5 x6 x7 x8 x9 x10 x11 (ix2 i j)
      = gate (x4 (ix2 i j)) * ∑ k : Fin 512, x0 (ix2 i k) * x8 (ix3 0 k j) + gate (x5 (ix2 i j)) * ∑ k : Fin 512, x1 (ix2 i k) * x9 (ix3 0 k j)
        + gate (x6 (ix2 i j)) * ∑ k : Fin 512, x2 (ix2 i k) * x10 (ix3 0 k j) + gate (x7 (ix2 i j)) * ∑ k : Fin 512, x3 (ix2 i k) * x11 (ix3 0 k j) := by
  unfold out0_12
  frame_out
  simp only [← gate_eq]
  pointwise [k0_pay1, k0_pay2, k0_pay3]

/-- The result array as one function of the arguments. -/
def res (c : Dev nD) : FVec Ideal S17408x2048 .bf16 := fun i =>
  merged (fun r k => (m ((c : Thread nD τ).loc main_arg0)) (ix2 r k)) (fun r k => (m ((c : Thread nD τ).loc main_arg1)) (ix2 r k))
    (fun r k => (m ((c : Thread nD τ).loc main_arg2)) (ix2 r k)) (fun r k => (m ((c : Thread nD τ).loc main_arg3)) (ix2 r k))
    (fun r k => (m ((c : Thread nD τ).loc main_arg4)) (ix2 r k)) (fun n k d => (m ((c : Thread nD τ).loc main_arg5)) (ix3 n k d)) (i 0) (i 1)

/-- After the whole grid the result array holds the merge of the arguments' rows. -/
theorem final (c : Dev nD) : (dats m 0 c).arrAt 12 cfg0.N = res m c := by
  refine (dats m 0 c).arrAt_eq_of_covers 12 _ (by decide +kernel) fun t hf y => ?_
  blk_simp
  rw [after0_12]
  obtain ⟨i, j, rfl⟩ : ∃ (i j : Fin 512), y = ix2 i j := ⟨y 0, y 1, by blk_ext⟩
  rw [pay_at]
  simp only [res, merged, branch]
  blk_point [iblk, V, idx t]

end Cert.Proof.Merge
-- ==== Proof.MergeRef.lean ====
/- THE MERGE'S REFERENCE: its result as one term of the arguments, and that term's entries. -/
module

public import proofs.«01_k».proof.Proof.Gen.Reference5Ideal.Run
public import proofs.«01_k».proof.Proof.Layer

@[expose] public section

set_option maxRecDepth 16384

noncomputable section

namespace Cert.Proof.Merge

open Idealize.ShloMosaic Idealize.ShloMosaic.TcCoe Cert.Reference5Ideal Cert.Reference5Ideal.Gen

/-- The reference's result as one term of its arguments. -/
def ref (x0 x1 x2 x3 : FVec Ideal S17408x512 .f32) (x4 : FVec Ideal S17408x14336 .f32) (x5 : FVec Ideal S4x512x2048 .bf16) :
    FVec Ideal S17408x2048 .bf16 :=
  truncf .bf16 (addf (addf (addf (mulf (Host.divf (broadcastInDim S17408x2048 ![] bcast_S_S17408x2048 (constant S_ .f32 0x3F800000#32)) (addf (broadcastInDim S17408x2048 ![] bcast_S_S17408x2048 (constant S_ .f32 0x3F800000#32)) (Host.exp (Host.negf (extractStridedSlice S17408x2048 ![0, 5632] x4 slices_S17408x14336_S17408x2048_0_5632))))) (Host.dotGeneral dot_S17408x512_S512x2048_S17408x2048_1_0_0_1_n_n none x0 (extf .f32 (shapeCast _ (extractStridedSlice S1x512x2048 ![0, 0, 0] x5 slices_S4x512x2048_S1x512x2048_0_0_0) shapeCasts_S1x512x2048_S512x2048) bitsLt_bf16_f32))) (mulf (Host.divf (broadcastInDim S17408x2048 ![] bcast_S_S17408x2048 (constant S_ .f32 0x3F800000#32)) (addf (broadcastInDim S17408x2048 ![] bcast_S_S17408x2048 (constant S_ .f32 0x3F800000#32)) (Host.exp (Host.negf (extractStridedSlice S17408x2048 ![0, 7680] x4 slices_S17408x14336_S17408x2048_0_7680))))) (Host.dotGeneral dot_S17408x512_S512x2048_S17408x2048_1_0_0_1_n_n none x1 (extf .f32 (shapeCast _ (extractStridedSlice S1x512x2048 ![1, 0, 0] x5 slices_S4x512x2048_S1x512x2048_1_0_0) shapeCasts_S1x512x2048_S512x2048) bitsLt_bf16_f32)))) (mulf (Host.divf (broadcastInDim S17408x2048 ![] bcast_S_S17408x2048 (constant S_ .f32 0x3F800000#32)) (addf (broadcastInDim S17408x2048 ![] bcast_S_S17408x2048 (constant S_ .f32 0x3F800000#32)) (Host.exp (Host.negf (extractStridedSlice S17408x2048 ![0, 9728] x4 slices_S17408x14336_S17408x2048_0_9728))))) (Host.dotGeneral dot_S17408x512_S512x2048_S17408x2048_1_0_0_1_n_n none x2 (extf .f32 (shapeCast _ (extractStridedSlice S1x512x2048 ![2, 0, 0] x5 slices_S4x512x2048_S1x512x2048_2_0_0) shapeCasts_S1x512x2048_S512x2048) bitsLt_bf16_f32)))) (mulf (Host.divf (broadcastInDim S17408x2048 ![] bcast_S_S17408x2048 (constant S_ .f32 0x3F800000#32)) (addf (broadcastInDim S17408x2048 ![] bcast_S_S17408x2048 (constant S_ .f32 0x3F800000#32)) (Host.exp (Host.negf (extractStridedSlice S17408x2048 ![0, 11776] x4 slices_S17408x14336_S17408x2048_0_11776))))) (Host.dotGeneral dot_S17408x512_S512x2048_S17408x2048_1_0_0_1_n_n none x3 (extf .f32 (shapeCast _ (extractStridedSlice S1x512x2048 ![3, 0, 0] x5 slices_S4x512x2048_S1x512x2048_3_0_0) shapeCasts_S1x512x2048_S512x2048) bitsLt_bf16_f32)))) bitsLt_bf16_f32

/-- An entry of the reference's result is the merge of the arguments' rows. -/
theorem ref_at (x0 x1 x2 x3 : FVec Ideal S17408x512 .f32) (x4 : FVec Ideal S17408x14336 .f32) (x5 : FVec Ideal S4x512x2048 .bf16)
    (r : Fin 17408) (d : Fin 2048) :
    ref x0 x1 x2 x3 x4 x5 (ix2 r d)
      = merged (fun r k => x0 (ix2 r k)) (fun r k => x1 (ix2 r k)) (fun r k => x2 (ix2 r k)) (fun r k => x3 (ix2 r k)) (fun r k => x4 (ix2 r k))
          (fun n k d => x5 (ix3 n k d)) r d := by
  simp only [merged, branch, gate]
  pointwise [ref]

end Cert.Proof.Merge
-- ==== Proof.OutProjK.lean ====
/- THE OUTPUT PRODUCT'S KERNEL: a block's entries, and the result array after the whole grid. -/
module

public import proofs.«01_k».proof.Proof.Gen.Kernel4Ideal.Value
public import proofs.«01_k».proof.Proof.Layer

@[expose] public section

set_option maxRecDepth 16384

noncomputable section

namespace Cert.Proof.OutProj

open Idealize.ShloMosaic Idealize.ShloMosaic.TcCoe Cert.Kernel4Ideal Cert.Kernel4Ideal.Gen Idealize.ShloMosaic.Pipeline

variable (m : (ℓ : Loc nD τ sig) → Buf (Elt Ideal) ℓ)

/-- The blocks a grid point reads and writes. -/
theorem idx : ∀ t : Fin grid0.N,
    win0_0.index t = ![t.val / 4, 0] ∧ win0_1.index t = ![0, t.val % 4] ∧ win0_2.index t = ![min (t.val / 4) 31, t.val % 4] ∧
    win0_3.index t = ![t.val / 4 - 32, t.val % 4] ∧ win0_5.index t = ![t.val / 4, t.val % 4] := by
  decide +kernel

/-- The modulation row of a point on latent tokens. -/
theorem idx4_lat : ∀ t : Fin grid0.N, t.val < 128 → win0_4.index t = ![t.val / 32, 0, t.val % 4] := by decide +kernel

/-- The modulation row of a point on context tokens. -/
theorem idx4_ctx : ∀ t : Fin grid0.N, 128 ≤ t.val → win0_4.index t = ![4, 0, t.val % 4] := by decide +kernel

/-- The kernel's arguments as functions of their indices. -/
def kA (c : Dev nD) : Fin 17408 → Fin 2048 → EReal := fun r k => (m ((c : Thread nD τ).loc main_arg0)) (ix2 r k)
def kW (c : Dev nD) : Fin 2048 → Fin 2048 → EReal := fun k d => (m ((c : Thread nD τ).loc main_arg1)) (ix2 k d)
def kL (c : Dev nD) : Fin 16384 → Fin 2048 → EReal := fun r k => (m ((c : Thread nD τ).loc main_arg2)) (ix2 r k)
def kC (c : Dev nD) : Fin 1024 → Fin 2048 → EReal := fun r k => (m ((c : Thread nD τ).loc main_arg3)) (ix2 r k)
def kM (c : Dev nD) : Fin 8 → Fin 6 → Fin 2048 → EReal := fun b s k => (m ((c : Thread nD τ).loc main_arg4)) (ix3 b s k)

/-- The result array as one function of the arguments. -/
def res (c : Dev nD) : FVec Ideal S17408x2048 .f32 := fun i => mixed (kA m c) (kW m c) (kL m c) (kC m c) (kM m c) (i 0) (i 1)

theorem res_at (c : Dev nD) (r : Fin 17408) (d : Fin 2048) :
    res m c (ix2 r d) = tok (kL m c) (kC m c) r d + kM m c (modRow r) 2 d * ∑ k : Fin 2048, kA m c r k * kW m c k d := rfl

/-- Where a block's entry lies in the result array. -/
theorem emb_eq (t : Fin cfg0.N) (i j : Fin 512) (r : Fin 17408) (d : Fin 2048) (hr : r.val = t.val / 4 * 512 + i.val) (hd : d.val = t.val % 4 * 512 + j.val) :
    ((cfg0.win 5).blk t).view.emb (ix2 i j) = ix2 r d := by
  blk_ext [idx t]

/-- After the whole grid the result array holds the output product of the arguments' rows. -/
theorem final (c : Dev nD) : (dats m 0 c).arrAt 5 cfg0.N = res m c := by
  refine (dats m 0 c).arrAt_eq_of_covers 5 _ (by decide +kernel) fun t hf y => ?_
  have ht : t.val < 136 := lt_of_lt_of_eq t.isLt N_0
  obtain ⟨i, j, rfl⟩ : ∃ (i j : Fin 512), y = ix2 i j := ⟨y 0, y 1, by blk_ext⟩
  obtain ⟨r, hr⟩ : ∃ r : Fin 17408, r.val = t.val / 4 * 512 + i.val := ⟨⟨t.val / 4 * 512 + i.val, by omega⟩, rfl⟩
  obtain ⟨d, hd⟩ : ∃ d : Fin 2048, d.val = t.val % 4 * 512 + j.val := ⟨⟨t.val % 4 * 512 + j.val, by omega⟩, rfl⟩
  rw [emb_eq t i j r d hr hd, res_at]
  blk_simp
  rw [after0_5]
  by_cases h : t.val < 128
  · rw [tok_lat _ _ _ _ (by omega), modRow_lat _ (by omega), outsAt0_A m c t h (by omega)]
    frame_out
    dsimp only [kA, kW, kL, kC, kM]
    pointwise [k0_pay1, k0_pay2]
    blk_point [iblk, V, idx t, idx4_lat t h]
  · rw [tok_ctx _ _ _ _ (by omega), modRow_ctx _ (by omega), outsAt0_B m c t h (by omega)]
    frame_out
    dsimp only [kA, kW, kL, kC, kM]
    pointwise [k0_pay1, k0_pay3]
    blk_point [iblk, V, idx t, idx4_ctx t (by omega)]

end Cert.Proof.OutProj
-- ==== Proof.OutProjRef.lean ====
/- THE OUTPUT PRODUCT'S REFERENCE: its result as one term of the arguments, and that term's entries. -/
module

public import proofs.«01_k».proof.Proof.Gen.Reference4Ideal.Run
public import proofs.«01_k».proof.Proof.Layer

@[expose] public section

set_option maxRecDepth 16384

noncomputable section

namespace Cert.Proof.OutProj

open Idealize.ShloMosaic Idealize.ShloMosaic.TcCoe Cert.Reference4Ideal Cert.Reference4Ideal.Gen

/-- The reference's result as one term of its arguments. -/
def ref (x0 : FVec Ideal S17408x2048 .bf16) (x1 : FVec Ideal S2048x2048 .bf16) (x2 : FVec Ideal S16384x2048 .f32) (x3 : FVec Ideal S1024x2048 .f32)
    (x4 : FVec Ideal S8x6x2048 .f32) : FVec Ideal S17408x2048 .f32 :=
  concatenate S17408x2048 0 [⟨S16384x2048, (shapeCast _ (addf (shapeCast _ x2 shapeCasts_S16384x2048_S4x4096x2048) (mulf (broadcastInDim S4x4096x2048 ![0, 1, 2] bcast_S4x1x2048_S4x4096x2048_0_1_2 (shapeCast _ (extractStridedSlice S4x1x1x2048 ![0, 2, 0, 0] (shapeCast _ (extractStridedSlice S4x6x2048 ![0, 0, 0] x4 slices_S8x6x2048_S4x6x2048_0_0_0) shapeCasts_S4x6x2048_S4x6x1x2048) slices_S4x6x1x2048_S4x1x1x2048_0_2_0_0) shapeCasts_S4x1x1x2048_S4x1x2048)) (Host.dotGeneral dot_S4x4096x2048_S2048x2048_S4x4096x2048_2_0_01_1_n_n none (extf .f32 (shapeCast _ (extractStridedSlice S16384x2048 ![0, 0] x0 slices_S17408x2048_S16384x2048_0_0) shapeCasts_S16384x2048_S4x4096x2048) bitsLt_bf16_f32) (extf .f32 x1 bitsLt_bf16_f32)))) shapeCasts_S4x4096x2048_S16384x2048)⟩, ⟨S1024x2048, (shapeCast _ (addf (shapeCast _ x3 shapeCasts_S1024x2048_S4x256x2048) (mulf (broadcastInDim S4x256x2048 ![0, 1, 2] bcast_S1x1x2048_S4x256x2048_0_1_2 (shapeCast _ (extractStridedSlice S1x1x1x2048 ![2, 0, 0, 0] (shapeCast _ (shapeCast _ (extractStridedSlice S1x6x2048 ![4, 0, 0] x4 slices_S8x6x2048_S1x6x2048_4_0_0) shapeCasts_S1x6x2048_S6x2048) shapeCasts_S6x2048_S6x1x1x2048) slices_S6x1x1x2048_S1x1x1x2048_2_0_0_0) shapeCasts_S1x1x1x2048_S1x1x2048)) (Host.dotGeneral dot_S4x256x2048_S2048x2048_S4x256x2048_2_0_01_1_n_n none (extf .f32 (shapeCast _ (extractStridedSlice S1024x2048 ![16384, 0] x0 slices_S17408x2048_S1024x2048_16384_0) shapeCasts_S1024x2048_S4x256x2048) bitsLt_bf16_f32) (extf .f32 x1 bitsLt_bf16_f32)))) shapeCasts_S4x256x2048_S1024x2048)⟩] concatenates_S16384x2048_S1024x2048_S17408x2048_d0

/-- An entry of the reference's result is the output product of the arguments' rows. -/
theorem ref_at (x0 : FVec Ideal S17408x2048 .bf16) (x1 : FVec Ideal S2048x2048 .bf16) (x2 : FVec Ideal S16384x2048 .f32) (x3 : FVec Ideal S1024x2048 .f32)
    (x4 : FVec Ideal S8x6x2048 .f32) (r : Fin 17408) (d : Fin 2048) :
    ref x0 x1 x2 x3 x4 (ix2 r d)
      = mixed (fun r k => x0 (ix2 r k)) (fun k d => x1 (ix2 k d)) (fun r k => x2 (ix2 r k)) (fun r k => x3 (ix2 r k)) (fun b s k => x4 (ix3 b s k)) r d := by
  unfold mixed
  by_cases h : r.val < 16384
  · rw [tok_lat _ _ _ _ h, modRow_lat _ h]
    pointwise [ref]
    rw [dif_pos h]
    blk_point
  · rw [tok_ctx _ _ _ _ h, modRow_ctx _ h]
    pointwise [ref]
    rw [dif_neg h]
    blk_point

end Cert.Proof.OutProj
-- ==== Proof.FfnK.lean ====
/- THE EXPERT PRODUCTS' KERNEL: what a grid point adds to the accumulator, the accumulator at a run's last point, and the result arrays after the
   whole grid. -/
module

public import proofs.«01_k».proof.Proof.Gen.Kernel3Ideal.Value
public import proofs.«01_k».proof.Proof.Layer
public import Idealize.ShloMosaic.Lib.Pipeline.ReadBack

@[expose] public section

set_option maxRecDepth 16384

noncomputable section

namespace Cert.Proof.Ffn

open Idealize.ShloMosaic Idealize.ShloMosaic.TcCoe Cert.Kernel3Ideal Cert.Kernel3Ideal.Gen Idealize.ShloMosaic.Pipeline

variable (m : (ℓ : Loc nD τ sig) → Buf (Elt Ideal) ℓ)

/-- The blocks a grid point reads and writes. -/
theorem idx : ∀ t : Fin grid0.N,
    win0_0.index t = ![t.val / 12, t.val / 6 % 2, 0] ∧ win0_1.index t = ![t.val / 12, t.val / 6 % 2, 0] ∧
    win0_2.index t = ![t.val / 12, t.val / 6 % 2, 0] ∧ win0_3.index t = ![t.val / 12, t.val / 6 % 2, 0] ∧
    win0_4.index t = ![t.val / 12, 0, t.val % 6] ∧ win0_5.index t = ![t.val / 12, 0, t.val % 6] ∧ win0_6.index t = ![t.val / 12, t.val % 6, 0] ∧
    win0_7.index t = ![t.val / 12, t.val / 6 % 2, 0] ∧ win0_8.index t = ![t.val / 12, t.val / 6 % 2, 0] := by
  decide +kernel

/-- A row of the latent rows followed by the context rows. -/
def row (X : Vec Ideal S1x1024x2048 .bf16) (C : Vec Ideal S1x64x2048 .bf16) (i : Fin 1088) (k : Fin 2048) : EReal :=
  if h : i.val < 1024 then X (ix3 0 ⟨i.val, h⟩ k) else C (ix3 0 ⟨i.val - 1024, by omega⟩ k)

/-- What a point adds to an entry of the accumulator: the point's hidden units through the down column. -/
def part (X : Fin 2048 → EReal) (G U : Vec Ideal S1x2048x256 .f32) (D : Vec Ideal S1x256x2048 .f32) (d : Fin 2048) : EReal :=
  ∑ f : Fin 256, hid X (fun k => G (ix3 0 k f)) (fun k => U (ix3 0 k f)) * D (ix3 0 f d)

theorem pay5_at (X : Vec Ideal S1x1024x2048 .bf16) (C : Vec Ideal S1x64x2048 .bf16) (G U : Vec Ideal S1x2048x256 .f32) (D : Vec Ideal S1x256x2048 .f32)
    (i : Fin 1088) (d : Fin 2048) : k0_pay5 (F := Ideal) X C G U D (ix2 i d) = part (row X C i) G U D d := by
  simp only [part, row, hid, ← gate_eq]
  pointwise [k0_pay5]

theorem pay1_at (A P : Vec Ideal S1088x2048 .f32) (i : Fin 1088) (d : Fin 2048) : k0_pay1 (F := Ideal) A P (ix2 i d) = A (ix2 i d) + P (ix2 i d) := by
  pointwise [k0_pay1]

theorem pay4_at (i : Fin 1088) (d : Fin 2048) : k0_pay4 (F := Ideal) (ix2 i d) = 0 := by
  pointwise [k0_pay4]

theorem pay2_at (A : Vec Ideal S1024x2048 .f32) (g : Vec Ideal S1x1024x1 .f32) (i : Fin 1024) (d : Fin 2048) :
    k0_pay2 (F := Ideal) A g (ix3 0 i d) = A (ix2 i d) * g (ix3 0 i 0) := by
  pointwise [k0_pay2]

theorem pay3_at (A : Vec Ideal S64x2048 .f32) (g : Vec Ideal S1x64x1 .f32) (i : Fin 64) (d : Fin 2048) :
    k0_pay3 (F := Ideal) A g (ix3 0 i d) = A (ix2 i d) * g (ix3 0 i 0) := by
  pointwise [k0_pay3]

/-- The accumulator after a point. -/
def accAt (c : Dev nD) (n : ℕ) (hn : n < cfg0.N) (y : Fin 1088 × Fin 2048) : EReal := (outsAt0 m c n hn).2.2 (ix2 y.1 y.2)

/-- What a point adds to the accumulator. -/
def term (c : Dev nD) (t : Fin cfg0.N) (y : Fin 1088 × Fin 2048) : EReal :=
  part (row (iblk m c 0 t) (iblk m c 2 t) y.1) (iblk m c 4 t) (iblk m c 5 t) (iblk m c 6 t) y.2

theorem acc_A (c : Dev nD) (t : Fin cfg0.N) (h : t.val % 6 = 0) (y) : accAt m c t.val t.isLt y = 0 + term m c t y := by
  obtain ⟨i, d⟩ := y
  unfold accAt term
  rw [outsAt0_A m c t h (by omega)]
  frame_out
  rw [pay1_at, pay5_at, pay4_at]

theorem acc_B (c : Dev nD) (t : Fin cfg0.N) (h : ¬ t.val % 6 = 0) (y) :
    accAt m c t.val t.isLt y = accAt m c (t.val - 1) (Nat.lt_of_le_of_lt (Nat.sub_le _ _) t.isLt) y + term m c t y := by
  obtain ⟨i, d⟩ := y
  unfold accAt term
  by_cases h5 : t.val % 6 = 5
  · rw [outsAt0_C m c t h h5]
    frame_out
    rw [pay1_at, pay5_at, read_unread_whole]
  · rw [outsAt0_B m c t h h5]
    frame_out
    rw [pay1_at, pay5_at, read_unread_whole]

/-- The accumulator at a run's last point: the run's six parts. -/
theorem acc_last (c : Dev nD) (t : Fin cfg0.N) (h : t.val % 6 = 5) (y) :
    accAt m c t.val t.isLt y = ∑ s : Fin 6, term m c ⟨6 * (t.val / 6) + s.val, Pipeline.run_point_lt_of_flush t h s⟩ y :=
  (Pipeline.eq_sum_fin_of_reset_step_apply_of_flush (accAt m c) 6 (fun _ => 0) (term m c) (acc_A m c) (acc_B m c) t h y).trans (zero_add _)

/-- The rectangle of the whole accumulator holds every index. -/
theorem mem_whole (y : S1088x2048.Idx) : y ∈ (Rect.unit (s := S1088x2048) ![0, 0] ![1088, 2048] inb_S1088x2048_S1088x2048_0_0).set :=
  View.mem_set_unit_zero (S := S1088x2048) (by decide) inb_S1088x2048_S1088x2048_0_0 y

/-- One store of the whole accumulator covers it. -/
theorem covered (A : Vec Ideal S1088x2048 .f32) (y : S1088x2048.Idx) :
    ∃ p ∈ [(⟨Rect.unit (s := S1088x2048) ![0, 0] ![1088, 2048] inb_S1088x2048_S1088x2048_0_0, A⟩ : View.Piece (Elt Ideal) S1088x2048 .f32)], y ∈ p.1.set := by
  refine ⟨⟨Rect.unit (s := S1088x2048) ![0, 0] ![1088, 2048] inb_S1088x2048_S1088x2048_0_0, A⟩, List.mem_singleton_self _, ?_⟩
  dsimp only
  exact mem_whole y

/-- The accumulator's latent rows, read back after it is stored. -/
theorem readL (A : Vec Ideal S1088x2048 .f32) (i : Fin 1024) (d : Fin 2048) :
    (View.whole cc0_scratch0).readCov [⟨Rect.unit (s := S1088x2048) ![0, 0] ![1088, 2048] inb_S1088x2048_S1088x2048_0_0, A⟩]
      (Rect.unit (s := S1088x2048) ![0, 0] ![1024, 2048] inb_S1088x2048_S1024x2048_0_0).toLoadRect (ix2 i d) = A (ix2 ⟨i.val, by omega⟩ d) := by
  rw [View.readCov_eq_canon_ld _ _ _ (covered A)]
  refine (congrFun (congrArg (fun C => View.ld C _) (View.canon_unit_zero (S := S1088x2048) (by decide) _ A)) _).trans ?_
  refine congrArg A (?_ : (Rect.unit (s := S1088x2048) ![0, 0] ![1024, 2048] inb_S1088x2048_S1024x2048_0_0).emb (ix2 i d) = _)
  blk_ext

/-- The accumulator's context rows, read back after it is stored. -/
theorem readC (A : Vec Ideal S1088x2048 .f32) (i : Fin 64) (d : Fin 2048) :
    (View.whole cc0_scratch0).readCov [⟨Rect.unit (s := S1088x2048) ![0, 0] ![1088, 2048] inb_S1088x2048_S1088x2048_0_0, A⟩]
      (Rect.unit (s := S1088x2048) ![1024, 0] ![64, 2048] inb_S1088x2048_S64x2048_1024_0).toLoadRect (ix2 i d) = A (ix2 ⟨1024 + i.val, by omega⟩ d) := by
  rw [View.readCov_eq_canon_ld _ _ _ (covered A)]
  refine (congrFun (congrArg (fun C => View.ld C _) (View.canon_unit_zero (S := S1088x2048) (by decide) _ A)) _).trans ?_
  refine congrArg A (?_ : (Rect.unit (s := S1088x2048) ![1024, 0] ![64, 2048] inb_S1088x2048_S64x2048_1024_0).emb (ix2 i d) = _)
  blk_ext

/-- The latent block a run's last point writes. -/
theorem outL_at (c : Dev nD) (t : Fin cfg0.N) (h : t.val % 6 = 5) (i : Fin 1024) (d : Fin 2048) :
    (outsAt0 m c t.val t.isLt).1 (ix3 0 i d) = accAt m c t.val t.isLt (⟨i.val, by omega⟩, d) * iblk m c 1 t (ix3 0 i 0) := by
  unfold accAt
  rw [outsAt0_C m c t (by omega) h]
  frame_out
  rw [pay2_at]
  generalize k0_pay1 (F := Ideal) _ _ = A
  rw [readL]

/-- The context block a run's last point writes. -/
theorem outC_at (c : Dev nD) (t : Fin cfg0.N) (h : t.val % 6 = 5) (i : Fin 64) (d : Fin 2048) :
    (outsAt0 m c t.val t.isLt).2.1 (ix3 0 i d) = accAt m c t.val t.isLt (⟨1024 + i.val, by omega⟩, d) * iblk m c 3 t (ix3 0 i 0) := by
  unfold accAt
  rw [outsAt0_C m c t (by omega) h]
  frame_out
  rw [pay3_at]
  generalize k0_pay1 (F := Ideal) _ _ = A
  rw [readC]

/-- The kernel's arguments as functions of their indices. -/
def kX (c : Dev nD) : Fin 16 → Fin 2048 → Fin 2048 → EReal := fun e r k => (m ((c : Thread nD τ).loc main_arg0)) (ix3 e r k)
def kGX (c : Dev nD) : Fin 16 → Fin 2048 → EReal := fun e r => (m ((c : Thread nD τ).loc main_arg1)) (ix3 e r 0)
def kC (c : Dev nD) : Fin 16 → Fin 128 → Fin 2048 → EReal := fun e r k => (m ((c : Thread nD τ).loc main_arg2)) (ix3 e r k)
def kGC (c : Dev nD) : Fin 16 → Fin 128 → EReal := fun e r => (m ((c : Thread nD τ).loc main_arg3)) (ix3 e r 0)
def kG (c : Dev nD) : Fin 16 → Fin 2048 → Fin 1536 → EReal := fun e k f => (m ((c : Thread nD τ).loc main_arg4)) (ix3 e k f)
def kU (c : Dev nD) : Fin 16 → Fin 2048 → Fin 1536 → EReal := fun e k f => (m ((c : Thread nD τ).loc main_arg5)) (ix3 e k f)
def kD (c : Dev nD) : Fin 16 → Fin 1536 → Fin 2048 → EReal := fun e f d => (m ((c : Thread nD τ).loc main_arg6)) (ix3 e f d)

/-- The result for the latent rows as one function of the arguments. -/
def resL (c : Dev nD) : FVec Ideal S16x2048x2048 .bf16 := fun i => expert (kX m c (i 0) (i 1)) (kG m c (i 0)) (kU m c (i 0)) (fun f => kD m c (i 0) f (i 2)) (kGX m c (i 0) (i 1))

/-- The result for the context rows as one function of the arguments. -/
def resC (c : Dev nD) : FVec Ideal S16x128x2048 .bf16 := fun i => expert (kC m c (i 0) (i 1)) (kG m c (i 0)) (kU m c (i 0)) (fun f => kD m c (i 0) f (i 2)) (kGC m c (i 0) (i 1))

theorem resL_at (c : Dev nD) (e : Fin 16) (r d : Fin 2048) : resL m c (ix3 e r d)
    = (∑ f, hid (kX m c e r) (fun k => kG m c e k f) (fun k => kU m c e k f) * kD m c e f d) * kGX m c e r := rfl

theorem resC_at (c : Dev nD) (e : Fin 16) (r : Fin 128) (d : Fin 2048) : resC m c (ix3 e r d)
    = (∑ f, hid (kC m c e r) (fun k => kG m c e k f) (fun k => kU m c e k f) * kD m c e f d) * kGC m c e r := rfl

section Point

variable (c : Dev nD) (t : Fin cfg0.N) (e : Fin 16) (he : e.val = t.val / 12)
include he

theorem blkG (k : Fin 2048) (f : Fin 256) (f' : Fin 1536) (hf : f'.val = t.val % 6 * 256 + f.val) :
    iblk m c 4 t (ix3 0 k f) = kG m c e k f' := by
  unfold kG; blk_ext [iblk, V_main_arg4, idx t]

theorem blkU (k : Fin 2048) (f : Fin 256) (f' : Fin 1536) (hf : f'.val = t.val % 6 * 256 + f.val) :
    iblk m c 5 t (ix3 0 k f) = kU m c e k f' := by
  unfold kU; blk_ext [iblk, V_main_arg5, idx t]

theorem blkD (d : Fin 2048) (f : Fin 256) (f' : Fin 1536) (hf : f'.val = t.val % 6 * 256 + f.val) :
    iblk m c 6 t (ix3 0 f d) = kD m c e f' d := by
  unfold kD; blk_ext [iblk, V_main_arg6, idx t]

theorem blkX (i : Fin 1024) (k : Fin 2048) (r : Fin 2048) (hr : r.val = t.val / 6 % 2 * 1024 + i.val) : iblk m c 0 t (ix3 0 i k) = kX m c e r k := by
  unfold kX; blk_ext [iblk, V_main_arg0, idx t]

theorem blkGX (i : Fin 1024) (r : Fin 2048) (hr : r.val = t.val / 6 % 2 * 1024 + i.val) : iblk m c 1 t (ix3 0 i 0) = kGX m c e r := by
  unfold kGX; blk_ext [iblk, V_main_arg1, idx t]

theorem blkC (i : Fin 64) (k : Fin 2048) (r : Fin 128) (hr : r.val = t.val / 6 % 2 * 64 + i.val) : iblk m c 2 t (ix3 0 i k) = kC m c e r k := by
  unfold kC; blk_ext [iblk, V_main_arg2, idx t]

theorem blkGC (i : Fin 64) (r : Fin 128) (hr : r.val = t.val / 6 % 2 * 64 + i.val) : iblk m c 3 t (ix3 0 i 0) = kGC m c e r := by
  unfold kGC; blk_ext [iblk, V_main_arg3, idx t]

theorem embL (i : Fin 1024) (d r : Fin 2048) (hr : r.val = t.val / 6 % 2 * 1024 + i.val) :
    ((cfg0.win 7).blk t).view.emb (ix3 0 i d) = ix3 e r d := by
  blk_ext [idx t]

theorem embC (i : Fin 64) (d : Fin 2048) (r : Fin 128) (hr : r.val = t.val / 6 % 2 * 64 + i.val) :
    ((cfg0.win 8).blk t).view.emb (ix3 0 i d) = ix3 e r d := by
  blk_ext [idx t]

/-- What a point adds, over the arguments: the point's 256 hidden units of the expert. -/
theorem term_of_row (y : Fin 1088 × Fin 2048) (X : Fin 2048 → EReal) (hX : row (iblk m c 0 t) (iblk m c 2 t) y.1 = X) :
    term m c t y = ∑ f : Fin 256, hid X (fun k => kG m c e k ⟨t.val % 6 * 256 + f.val, by omega⟩) (fun k => kU m c e k ⟨t.val % 6 * 256 + f.val, by omega⟩)
      * kD m c e ⟨t.val % 6 * 256 + f.val, by omega⟩ y.2 := by
  unfold term part
  rw [hX]
  refine Finset.sum_congr rfl fun f _ => ?_
  rw [blkD m c t e he y.2 f ⟨t.val % 6 * 256 + f.val, by omega⟩ rfl]
  congr 1
  exact congrArg₂ (hid X) (funext fun k => blkG m c t e he k f _ rfl) (funext fun k => blkU m c t e he k f _ rfl)

theorem row_lat (i : Fin 1024) (r : Fin 2048) (hr : r.val = t.val / 6 % 2 * 1024 + i.val) (y : Fin 1088) (hy : y.val = i.val) :
    row (iblk m c 0 t) (iblk m c 2 t) y = kX m c e r := by
  funext k
  unfold row
  rw [dif_pos (by omega)]
  exact blkX m c t e he _ k r (by rw [hr]; simp only [hy])

theorem row_ctx (i : Fin 64) (r : Fin 128) (hr : r.val = t.val / 6 % 2 * 64 + i.val) (y : Fin 1088) (hy : y.val = 1024 + i.val) :
    row (iblk m c 0 t) (iblk m c 2 t) y = kC m c e r := by
  funext k
  unfold row
  rw [dif_neg (by omega)]
  exact blkC m c t e he _ k r (by rw [hr]; simp only [hy]; omega)

end Point

/-- The accumulator at a run's last point, over the arguments: all the expert's hidden units of the row. -/
theorem acc_last_of_row (c : Dev nD) (t : Fin cfg0.N) (h : t.val % 6 = 5) (e : Fin 16) (he : e.val = t.val / 12) (y : Fin 1088 × Fin 2048)
    (X : Fin 2048 → EReal) (hX : ∀ t' : Fin cfg0.N, t'.val / 6 = t.val / 6 → row (iblk m c 0 t') (iblk m c 2 t') y.1 = X) :
    accAt m c t.val t.isLt y = ∑ f, hid X (fun k => kG m c e k f) (fun k => kU m c e k f) * kD m c e f y.2 := by
  rw [acc_last m c t h y]
  have hs : ∀ s : Fin 6, term m c ⟨6 * (t.val / 6) + s.val, Pipeline.run_point_lt_of_flush t h s⟩ y
      = ∑ f : Fin 256, hid X (fun k => kG m c e k ⟨s.val * 256 + f.val, by omega⟩) (fun k => kU m c e k ⟨s.val * 256 + f.val, by omega⟩)
        * kD m c e ⟨s.val * 256 + f.val, by omega⟩ y.2 := fun s => by
    have e1 : (6 * (t.val / 6) + s.val) % 6 = s.val := by omega
    rw [term_of_row m c _ e (by show e.val = (6 * (t.val / 6) + s.val) / 12; omega) y X (hX _ (by show (6 * (t.val / 6) + s.val) / 6 = _; omega))]
    simp only [e1]
  rw [Finset.sum_congr rfl fun s _ => hs s]
  exact Fin.sum_mul_add_congr (fun s f hl => rfl)

/-- After the whole grid the first result array holds the latent rows through their experts. -/
theorem finalL (c : Dev nD) : (dats m 0 c).arrAt 7 cfg0.N = resL m c := by
  refine (dats m 0 c).arrAt_eq_of_covers 7 _ (by decide +kernel) fun t hf y => ?_
  have ht : t.val < 192 := lt_of_lt_of_eq t.isLt N_0
  have h5 := (flush0_7 t).mp hf
  obtain ⟨i, d, rfl⟩ : ∃ (i : Fin 1024) (d : Fin 2048), y = ix3 0 i d := ⟨y 1, y 2, by blk_ext⟩
  obtain ⟨r, hr⟩ : ∃ r : Fin 2048, r.val = t.val / 6 % 2 * 1024 + i.val := ⟨⟨t.val / 6 % 2 * 1024 + i.val, by omega⟩, rfl⟩
  obtain ⟨e, he⟩ : ∃ e : Fin 16, e.val = t.val / 12 := ⟨⟨t.val / 12, by omega⟩, rfl⟩
  rw [embL t e he i d r hr, resL_at]
  blk_simp
  rw [after0_7, outL_at m c t h5, blkGX m c t e he i r hr,
    acc_last_of_row m c t h5 e he (⟨i.val, by omega⟩, d) (kX m c e r) fun t' h' => row_lat m c t' e (by omega) i r (by omega) _ rfl]

/-- After the whole grid the second result array holds the context rows through their experts. -/
theorem finalC (c : Dev nD) : (dats m 0 c).arrAt 8 cfg0.N = resC m c := by
  refine (dats m 0 c).arrAt_eq_of_covers 8 _ (by decide +kernel) fun t hf y => ?_
  have ht : t.val < 192 := lt_of_lt_of_eq t.isLt N_0
  have h5 := (flush0_8 t).mp hf
  obtain ⟨i, d, rfl⟩ : ∃ (i : Fin 64) (d : Fin 2048), y = ix3 0 i d := ⟨y 1, y 2, by blk_ext⟩
  obtain ⟨r, hr⟩ : ∃ r : Fin 128, r.val = t.val / 6 % 2 * 64 + i.val := ⟨⟨t.val / 6 % 2 * 64 + i.val, by omega⟩, rfl⟩
  obtain ⟨e, he⟩ : ∃ e : Fin 16, e.val = t.val / 12 := ⟨⟨t.val / 12, by omega⟩, rfl⟩
  rw [embC t e he i d r hr, resC_at]
  blk_simp
  rw [after0_8, outC_at m c t h5, blkGC m c t e he i r hr,
    acc_last_of_row m c t h5 e he (⟨1024 + i.val, by omega⟩, d) (kC m c e r) fun t' h' => row_ctx m c t' e (by omega) i r (by omega) _ rfl]

end Cert.Proof.Ffn
-- ==== Proof.FfnRef.lean ====
/- THE EXPERT PRODUCTS' REFERENCE: its two results as terms of the arguments, and the terms' entries. -/
module

public import proofs.«01_k».proof.Proof.Gen.Reference3Ideal.Run
public import proofs.«01_k».proof.Proof.Layer

@[expose] public section

set_option maxRecDepth 16384

noncomputable section

namespace Cert.Proof.Ffn

open Idealize.ShloMosaic Idealize.ShloMosaic.TcCoe Cert.Reference3Ideal Cert.Reference3Ideal.Gen

/-- The reference's result for the latent rows as one term of its arguments. -/
def refL (x0 : FVec Ideal S16x2048x2048 .bf16) (x1 : FVec Ideal S16x2048x1 .f32) (x4 x5 : FVec Ideal S16x2048x1536 .f32) (x6 : FVec Ideal S16x1536x2048 .f32) : FVec Ideal S16x2048x2048 .bf16 :=
  truncf .bf16 (mulf (Host.dotGeneral dot_S16x2048x1536_S16x1536x2048_S16x2048x2048_2_1_1_2_0_0 none (mulf (mulf (Host.dotGeneral dot_S16x2048x2048_S16x2048x1536_S16x2048x1536_2_1_1_2_0_0 none (extf .f32 x0 bitsLt_bf16_f32) x4) (Host.divf (broadcastInDim S16x2048x1536 ![] bcast_S_S16x2048x1536 (constant S_ .f32 0x3F800000#32)) (addf (broadcastInDim S16x2048x1536 ![] bcast_S_S16x2048x1536 (constant S_ .f32 0x3F800000#32)) (Host.exp (Host.negf (Host.dotGeneral dot_S16x2048x2048_S16x2048x1536_S16x2048x1536_2_1_1_2_0_0 none (extf .f32 x0 bitsLt_bf16_f32) x4)))))) (Host.dotGeneral dot_S16x2048x2048_S16x2048x1536_S16x2048x1536_2_1_1_2_0_0 none (extf .f32 x0 bitsLt_bf16_f32) x5)) x6) (broadcastInDim S16x2048x2048 ![0, 1, 2] bcast_S16x2048x1_S16x2048x2048_0_1_2 x1)) bitsLt_bf16_f32

/-- The reference's result for the context rows as one term of its arguments. -/
def refC (x2 : FVec Ideal S16x128x2048 .bf16) (x3 : FVec Ideal S16x128x1 .f32) (x4 x5 : FVec Ideal S16x2048x1536 .f32) (x6 : FVec Ideal S16x1536x2048 .f32) : FVec Ideal S16x128x2048 .bf16 :=
  truncf .bf16 (mulf (Host.dotGeneral dot_S16x128x1536_S16x1536x2048_S16x128x2048_2_1_1_2_0_0 none (mulf (mulf (Host.dotGeneral dot_S16x128x2048_S16x2048x1536_S16x128x1536_2_1_1_2_0_0 none (extf .f32 x2 bitsLt_bf16_f32) x4) (Host.divf (broadcastInDim S16x128x1536 ![] bcast_S_S16x128x1536 (constant S_ .f32 0x3F800000#32)) (addf (broadcastInDim S16x128x1536 ![] bcast_S_S16x128x1536 (constant S_ .f32 0x3F800000#32)) (Host.exp (Host.negf (Host.dotGeneral dot_S16x128x2048_S16x2048x1536_S16x128x1536_2_1_1_2_0_0 none (extf .f32 x2 bitsLt_bf16_f32) x4)))))) (Host.dotGeneral dot_S16x128x2048_S16x2048x1536_S16x128x1536_2_1_1_2_0_0 none (extf .f32 x2 bitsLt_bf16_f32) x5)) x6) (broadcastInDim S16x128x2048 ![0, 1, 2] bcast_S16x128x1_S16x128x2048_0_1_2 x3)) bitsLt_bf16_f32

/-- An entry of the reference's result for the latent rows is the expert's entry for that row. -/
theorem refL_at (x0 : FVec Ideal S16x2048x2048 .bf16) (x1 : FVec Ideal S16x2048x1 .f32) (x4 x5 : FVec Ideal S16x2048x1536 .f32) (x6 : FVec Ideal S16x1536x2048 .f32) (e : Fin 16) (r d : Fin 2048) :
    refL x0 x1 x4 x5 x6 (ix3 e r d)
      = expert (fun k => x0 (ix3 e r k)) (fun k f => x4 (ix3 e k f)) (fun k f => x5 (ix3 e k f)) (fun f => x6 (ix3 e f d)) (x1 (ix3 e r 0)) := by
  simp only [expert, hid, gate]
  pointwise [refL]

/-- An entry of the reference's result for the context rows is the expert's entry for that row. -/
theorem refC_at (x2 : FVec Ideal S16x128x2048 .bf16) (x3 : FVec Ideal S16x128x1 .f32) (x4 x5 : FVec Ideal S16x2048x1536 .f32) (x6 : FVec Ideal S16x1536x2048 .f32) (e : Fin 16) (r : Fin 128) (d : Fin 2048) :
    refC x2 x3 x4 x5 x6 (ix3 e r d)
      = expert (fun k => x2 (ix3 e r k)) (fun k f => x4 (ix3 e k f)) (fun k f => x5 (ix3 e k f)) (fun f => x6 (ix3 e f d)) (x3 (ix3 e r 0)) := by
  simp only [expert, hid, gate]
  pointwise [refC]

end Cert.Proof.Ffn
-- ==== Proof.InProjK.lean ====
/- THE INPUT PRODUCT'S KERNEL: the normalised rows held in the scratch, a block's entries, and the result array after the whole grid. -/
module

public import proofs.«01_k».proof.Proof.Gen.Kernel2Ideal.Value
public import proofs.«01_k».proof.Proof.Layer
public import Idealize.ShloMosaic.Lib.Pipeline.ReadBack
public import Idealize.ShloMosaic.Lib.Pipeline.ValueKit.Held
public import Idealize.ShloMosaic.Lib.Pipeline.Covers

@[expose] public section

set_option maxRecDepth 16384

noncomputable section

namespace Cert.Proof.InProj

open Idealize.ShloMosaic Idealize.ShloMosaic.TcCoe Cert.Kernel2Ideal Cert.Kernel2Ideal.Gen Idealize.ShloMosaic.Pipeline

variable (m : (ℓ : Loc nD τ sig) → Buf (Elt Ideal) ℓ)

/-- The blocks a grid point reads and writes. -/
theorem idx : ∀ t : Fin grid0.N,
    win0_0.index t = ![min (t.val / 28) 15, 0] ∧ win0_1.index t = ![t.val / 28 - 16, 0] ∧ win0_2.index t = ![0, 0] ∧
    win0_4.index t = ![0, t.val % 28] ∧ win0_5.index t = ![t.val / 28, t.val % 28] := by
  decide +kernel

/-- The modulation row of a point on latent tokens. -/
theorem idx3_lat : ∀ t : Fin grid0.N, t.val < 448 → win0_3.index t = ![t.val / 112, 0, 0] := by decide +kernel

/-- The modulation row of a point on context tokens. -/
theorem idx3_ctx : ∀ t : Fin grid0.N, 448 ≤ t.val → win0_3.index t = ![4, 0, 0] := by decide +kernel

theorem pay1_at (X : Vec Ideal S1024x2048 .f32) (g : Vec Ideal S1x2048 .f32) (sh sc : Vec Ideal S1x1x2048 .f32) (i : Fin 1024) (k : Fin 2048) :
    k0_pay1 (F := Ideal) X g sh sc (ix2 i k) = normed (fun k => X (ix2 i k)) (g (ix2 0 k)) (sh (ix3 0 0 k)) (sc (ix3 0 0 k)) k := by
  simp only [normed, scaleOf]
  pointwise [k0_pay1]

theorem pay2_at (X : Vec Ideal S1024x2048 .f32) (g : Vec Ideal S1x2048 .f32) (sh sc : Vec Ideal S1x1x2048 .f32) (i : Fin 1024) (k : Fin 2048) :
    k0_pay2 (F := Ideal) X g sh sc (ix2 i k) = normed (fun k => X (ix2 i k)) (g (ix2 0 k)) (sh (ix3 0 0 k)) (sc (ix3 0 0 k)) k := by
  simp only [normed, scaleOf]
  pointwise [k0_pay2]

theorem pay3_at (H : Vec Ideal S1024x2048 .bf16) (W : Vec Ideal S2048x512 .bf16) (i : Fin 1024) (j : Fin 512) :
    k0_pay3 (F := Ideal) H W (ix2 i j) = ∑ k : Fin 2048, H (ix2 i k) * W (ix2 k j) := by
  pointwise [k0_pay3]

theorem ldSh (M : Vec Ideal S1x6x2048 .f32) (k : Fin 2048) :
    View.ld M (Rect.unit (s := S1x6x2048) ![0, 0, 0] ![1, 1, 2048] inb_S1x6x2048_S1x1x2048_0_0_0) (ix3 0 0 k) = M (ix3 0 0 k) := by
  refine congrArg M (?_ : (Rect.unit (s := S1x6x2048) ![0, 0, 0] ![1, 1, 2048] inb_S1x6x2048_S1x1x2048_0_0_0).emb (ix3 0 0 k) = _)
  blk_ext

theorem ldSc (M : Vec Ideal S1x6x2048 .f32) (k : Fin 2048) :
    View.ld M (Rect.unit (s := S1x6x2048) ![0, 1, 0] ![1, 1, 2048] inb_S1x6x2048_S1x1x2048_0_1_0) (ix3 0 0 k) = M (ix3 0 1 k) := by
  refine congrArg M (?_ : (Rect.unit (s := S1x6x2048) ![0, 1, 0] ![1, 1, 2048] inb_S1x6x2048_S1x1x2048_0_1_0).emb (ix3 0 0 k) = _)
  blk_ext

/-- The kernel's arguments as functions of their indices. -/
def kL (c : Dev nD) : Fin 16384 → Fin 2048 → EReal := fun r k => (m ((c : Thread nD τ).loc main_arg0)) (ix2 r k)
def kC (c : Dev nD) : Fin 1024 → Fin 2048 → EReal := fun r k => (m ((c : Thread nD τ).loc main_arg1)) (ix2 r k)
def kG (c : Dev nD) : Fin 2048 → EReal := fun k => (m ((c : Thread nD τ).loc main_arg2)) (ix2 0 k)
def kM (c : Dev nD) : Fin 8 → Fin 6 → Fin 2048 → EReal := fun b s k => (m ((c : Thread nD τ).loc main_arg3)) (ix3 b s k)
def kW (c : Dev nD) : Fin 2048 → Fin 14336 → EReal := fun k d => (m ((c : Thread nD τ).loc main_arg4)) (ix2 k d)

/-- The result array as one function of the arguments. -/
def res (c : Dev nD) : FVec Ideal S17408x14336 .f32 := fun i => projected (kL m c) (kC m c) (kG m c) (kM m c) (kW m c) (i 0) (i 1)

/-- The normalised and modulated row of a token. -/
def hAt (c : Dev nD) (r : Fin 17408) (k : Fin 2048) : EReal :=
  normed (tok (kL m c) (kC m c) r) (kG m c k) (kM m c (modRow r) 0 k) (kM m c (modRow r) 1 k) k

theorem res_at (c : Dev nD) (r : Fin 17408) (d : Fin 14336) : res m c (ix2 r d) = ∑ k : Fin 2048, hAt m c r k * kW m c k d := rfl

section Blocks

variable (c : Dev nD) (t : Fin cfg0.N)

theorem blkL (i : Fin 1024) (k : Fin 2048) (h : t.val < 448) (r : Fin 16384) (hr : r.val = t.val / 28 * 1024 + i.val) :
    iblk m c 0 t (ix2 i k) = kL m c r k := by
  unfold kL; blk_ext [iblk, V_main_arg0, idx t]

theorem blkC (i : Fin 1024) (k : Fin 2048) (h : ¬ t.val < 448) (r : Fin 1024) (hr : r.val + 16384 = t.val / 28 * 1024 + i.val) :
    iblk m c 1 t (ix2 i k) = kC m c r k := by
  unfold kC; blk_ext [iblk, V_main_arg1, idx t]

theorem blkG (k : Fin 2048) : iblk m c 2 t (ix2 0 k) = kG m c k := by
  unfold kG; blk_ext [iblk, V_main_arg2, idx t]

theorem blkM_lat (s : Fin 6) (k : Fin 2048) (h : t.val < 448) (b : Fin 8) (hb : b.val = t.val / 112) : iblk m c 3 t (ix3 0 s k) = kM m c b s k := by
  unfold kM; blk_ext [iblk, V_main_arg3, idx3_lat t h]

theorem blkM_ctx (s : Fin 6) (k : Fin 2048) (h : 448 ≤ t.val) : iblk m c 3 t (ix3 0 s k) = kM m c 4 s k := by
  unfold kM; blk_ext [iblk, V_main_arg3, idx3_ctx t h]

theorem blkW (k : Fin 2048) (j : Fin 512) (d : Fin 14336) (hd : d.val = t.val % 28 * 512 + j.val) : iblk m c 4 t (ix2 k j) = kW m c k d := by
  unfold kW; blk_ext [iblk, V_main_arg4, idx t]

theorem emb_eq (i : Fin 1024) (j : Fin 512) (r : Fin 17408) (d : Fin 14336) (hr : r.val = t.val / 28 * 1024 + i.val) (hd : d.val = t.val % 28 * 512 + j.val) :
    ((cfg0.win 5).blk t).view.emb (ix2 i j) = ix2 r d := by
  blk_ext [idx t]

/-- The row of the token a scratch row belongs to. -/
def rowOf (i : Fin 1024) : Fin 17408 := ⟨t.val / 28 * 1024 + i.val, by have := lt_of_lt_of_eq t.isLt N_0; omega⟩

/-- What a point on latent tokens writes into the scratch. -/
theorem fill_lat (h : t.val < 448) (i : Fin 1024) (k : Fin 2048) :
    k0_pay1 (F := Ideal) (iblk m c 0 t) (iblk m c 2 t)
      (View.ld (iblk m c 3 t) (Rect.unit (s := S1x6x2048) ![0, 0, 0] ![1, 1, 2048] inb_S1x6x2048_S1x1x2048_0_0_0))
      (View.ld (iblk m c 3 t) (Rect.unit (s := S1x6x2048) ![0, 1, 0] ![1, 1, 2048] inb_S1x6x2048_S1x1x2048_0_1_0)) (ix2 i k) = hAt m c (rowOf t i) k := by
  have hr : (rowOf t i).val = t.val / 28 * 1024 + i.val := rfl
  have h1 : (rowOf t i).val < 16384 := by omega
  have ht : tok (kL m c) (kC m c) (rowOf t i) = kL m c ⟨(rowOf t i).val, h1⟩ := funext fun k => tok_lat _ _ _ _ h1
  have hX : (fun k => iblk m c 0 t (ix2 i k)) = kL m c ⟨(rowOf t i).val, h1⟩ := funext fun k => blkL m c t i k h _ hr
  rw [pay1_at]
  unfold hAt
  rw [ldSh, ldSc, ht, modRow_lat _ h1]
  refine (congrArg (fun X => normed X _ _ _ k) hX).trans ?_
  rw [blkG, blkM_lat m c t 0 k h ⟨(rowOf t i).val / 4096, by omega⟩ (by show (rowOf t i).val / 4096 = _; omega),
    blkM_lat m c t 1 k h ⟨(rowOf t i).val / 4096, by omega⟩ (by show (rowOf t i).val / 4096 = _; omega)]

/-- What a point on context tokens writes into the scratch. -/
theorem fill_ctx (h : ¬ t.val < 448) (i : Fin 1024) (k : Fin 2048) :
    k0_pay2 (F := Ideal) (iblk m c 1 t) (iblk m c 2 t)
      (View.ld (iblk m c 3 t) (Rect.unit (s := S1x6x2048) ![0, 0, 0] ![1, 1, 2048] inb_S1x6x2048_S1x1x2048_0_0_0))
      (View.ld (iblk m c 3 t) (Rect.unit (s := S1x6x2048) ![0, 1, 0] ![1, 1, 2048] inb_S1x6x2048_S1x1x2048_0_1_0)) (ix2 i k) = hAt m c (rowOf t i) k := by
  have hr : (rowOf t i).val = t.val / 28 * 1024 + i.val := rfl
  have h1 : ¬ (rowOf t i).val < 16384 := by omega
  have h2 : (rowOf t i).val - 16384 < 1024 := by have := (rowOf t i).isLt; omega
  have ht : tok (kL m c) (kC m c) (rowOf t i) = kC m c ⟨(rowOf t i).val - 16384, h2⟩ := funext fun k => tok_ctx _ _ _ _ h1
  have hX : (fun k => iblk m c 1 t (ix2 i k)) = kC m c ⟨(rowOf t i).val - 16384, h2⟩ :=
    funext fun k => blkC m c t i k h _ (by show (rowOf t i).val - 16384 + 16384 = _; omega)
  rw [pay2_at]
  unfold hAt
  rw [ldSh, ldSc, ht, modRow_ctx _ h1]
  refine (congrArg (fun X => normed X _ _ _ k) hX).trans ?_
  rw [blkG, blkM_ctx m c t 0 k (by omega), blkM_ctx m c t 1 k (by omega)]

end Blocks

/-- The scratch after a point. -/
def scr (c : Dev nD) (n : ℕ) (hn : n < cfg0.N) (y : Fin 1024 × Fin 2048) : EReal := (outsAt0 m c n hn).2 (ix2 y.1 y.2)

/-- A point that opens a row block fills the scratch with the block's normalised rows. -/
theorem scr_fill (c : Dev nD) (t : Fin cfg0.N) (h0 : t.val % 28 = 0) (y : Fin 1024 × Fin 2048) :
    scr m c t.val t.isLt y = hAt m c (rowOf t y.1) y.2 := by
  obtain ⟨i, k⟩ := y
  unfold scr
  by_cases h : t.val < 448
  · rw [outsAt0_A m c t h0 h (by omega)]
    frame_out
    exact fill_lat m c t h i k
  · rw [outsAt0_C m c t h0 h (by omega)]
    frame_out
    exact fill_ctx m c t h i k

/-- Any other point leaves the scratch as it was. -/
theorem scr_hold (c : Dev nD) (t : Fin cfg0.N) (h0 : ¬ t.val % 28 = 0) (y : Fin 1024 × Fin 2048) :
    scr m c t.val t.isLt y = scr m c (t.val - 1) (Nat.lt_of_le_of_lt (Nat.sub_le _ _) t.isLt) y := by
  unfold scr
  rw [outsAt0_B m c t h0]
  rfl

/-- After every point the scratch holds the normalised rows of the point's row block. -/
theorem scr_eq (c : Dev nD) (t : Fin cfg0.N) (y : Fin 1024 × Fin 2048) : scr m c t.val t.isLt y = hAt m c (rowOf t y.1) y.2 := by
  rw [Pipeline.eq_of_write_hold_apply (scr m c) 28 (fun t y => hAt m c (rowOf t y.1) y.2) (scr_fill m c) (scr_hold m c) t y]
  have e : rowOf ⟨28 * (t.val / 28), Pipeline.run_start_lt t⟩ y.1 = rowOf t y.1 := Fin.ext (by show 28 * (t.val / 28) / 28 * 1024 + _ = t.val / 28 * 1024 + _; omega)
  exact congrArg (fun r => hAt m c r y.2) e

/-- The block a point writes: the scratch's rows after the point through the weights' columns. -/
theorem out_at (c : Dev nD) (t : Fin cfg0.N) (i : Fin 1024) (j : Fin 512) :
    (outsAt0 m c t.val t.isLt).1 (ix2 i j) = ∑ k : Fin 2048, scr m c t.val t.isLt (i, k) * iblk m c 4 t (ix2 k j) := by
  unfold scr
  by_cases h0 : t.val % 28 = 0
  · by_cases h : t.val < 448
    · rw [outsAt0_A m c t h0 h (by omega)]
      frame_out
      rw [pay3_at]
    · rw [outsAt0_C m c t h0 h (by omega)]
      frame_out
      rw [pay3_at]
  · rw [outsAt0_B m c t h0]
    frame_out
    rw [pay3_at, read_unread_whole]
    rfl

/-- After the whole grid the result array holds the input product of the arguments' rows. -/
theorem final (c : Dev nD) : (dats m 0 c).arrAt 5 cfg0.N = res m c := by
  refine (dats m 0 c).arrAt_eq_of_covers 5 _ (by decide +kernel) fun t hf y => ?_
  have ht : t.val < 476 := lt_of_lt_of_eq t.isLt N_0
  obtain ⟨i, j, rfl⟩ : ∃ (i : Fin 1024) (j : Fin 512), y = ix2 i j := ⟨y 0, y 1, by blk_ext⟩
  obtain ⟨d, hd⟩ : ∃ d : Fin 14336, d.val = t.val % 28 * 512 + j.val := ⟨⟨t.val % 28 * 512 + j.val, by omega⟩, rfl⟩
  rw [emb_eq t i j (rowOf t i) d rfl hd, res_at]
  blk_simp
  rw [after0_5, out_at]
  refine Fin.sum_fin_congr fun k => ?_
  rw [scr_eq, blkW m c t k j d hd]

end Cert.Proof.InProj
-- ==== Proof.InProjRef.lean ====
/- THE INPUT PRODUCT'S REFERENCE: its result as one term of the arguments, and that term's entries. -/
module

public import proofs.«01_k».proof.Proof.Gen.Reference2Ideal.Run
public import proofs.«01_k».proof.Proof.Layer

@[expose] public section

set_option maxRecDepth 16384

noncomputable section

namespace Cert.Proof.InProj

open Idealize.ShloMosaic Idealize.ShloMosaic.TcCoe Cert.Reference2Ideal Cert.Reference2Ideal.Gen

/-- The latent tokens' normalised rows as one term of the arguments. -/
def normL (x0 : FVec Ideal S16384x2048 .f32) (x2 : FVec Ideal S1x2048 .f32) (x3 : FVec Ideal S8x6x2048 .f32) : FVec Ideal S4x4096x2048 .f32 :=
  addf (mulf (mulf (mulf (shapeCast _ x0 shapeCasts_S16384x2048_S4x4096x2048) (broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf (shapeCast _ x0 shapeCasts_S16384x2048_S4x4096x2048) (shapeCast _ x0 shapeCasts_S16384x2048_S4x4096x2048)) (constant S_ .f32 0x00000000#32) reducesTo_S4x4096x2048_S4x4096_d2 h_S_)) (broadcastInDim S4x4096x1 ![] bcast_S_S4x4096x1 (constant S_ .f32 0x45000000#32))) (broadcastInDim S4x4096x1 ![] bcast_S_S4x4096x1 (constant S_ .f32 0x358637BD#32)))))) (broadcastInDim S4x4096x2048 ![0, 1, 2] bcast_S1x1x2048_S4x4096x2048_0_1_2 (broadcastInDim S1x1x2048 ![2] bcast_S2048_S1x1x2048_2 (shapeCast _ x2 shapeCasts_S1x2048_S2048)))) (broadcastInDim S4x4096x2048 ![0, 1, 2] bcast_S4x1x2048_S4x4096x2048_0_1_2 (addf (broadcastInDim S4x1x2048 ![] bcast_S_S4x1x2048 (constant S_ .f32 0x3F800000#32)) (shapeCast _ (extractStridedSlice S4x1x1x2048 ![0, 1, 0, 0] (shapeCast _ (extractStridedSlice S4x6x2048 ![0, 0, 0] x3 slices_S8x6x2048_S4x6x2048_0_0_0) shapeCasts_S4x6x2048_S4x6x1x2048) slices_S4x6x1x2048_S4x1x1x2048_0_1_0_0) shapeCasts_S4x1x1x2048_S4x1x2048)))) (broadcastInDim S4x4096x2048 ![0, 1, 2] bcast_S4x1x2048_S4x4096x2048_0_1_2 (shapeCast _ (extractStridedSlice S4x1x1x2048 ![0, 0, 0, 0] (shapeCast _ (extractStridedSlice S4x6x2048 ![0, 0, 0] x3 slices_S8x6x2048_S4x6x2048_0_0_0) shapeCasts_S4x6x2048_S4x6x1x2048) slices_S4x6x1x2048_S4x1x1x2048_0_0_0_0) shapeCasts_S4x1x1x2048_S4x1x2048))

/-- The context tokens' normalised rows as one term of the arguments. -/
def normC (x1 : FVec Ideal S1024x2048 .f32) (x2 : FVec Ideal S1x2048 .f32) (x3 : FVec Ideal S8x6x2048 .f32) : FVec Ideal S4x256x2048 .f32 :=
  addf (mulf (mulf (mulf (shapeCast _ x1 shapeCasts_S1024x2048_S4x256x2048) (broadcastInDim S4x256x2048 ![0, 1, 2] bcast_S4x256x1_S4x256x2048_0_1_2 (Host.rsqrt (addf (Host.divf (broadcastInDim S4x256x1 ![0, 1] bcast_S4x256_S4x256x1_0_1 (Host.reduceAdd (mulf (shapeCast _ x1 shapeCasts_S1024x2048_S4x256x2048) (shapeCast _ x1 shapeCasts_S1024x2048_S4x256x2048)) (constant S_ .f32 0x00000000#32) reducesTo_S4x256x2048_S4x256_d2 h_S_)) (broadcastInDim S4x256x1 ![] bcast_S_S4x256x1 (constant S_ .f32 0x45000000#32))) (broadcastInDim S4x256x1 ![] bcast_S_S4x256x1 (constant S_ .f32 0x358637BD#32)))))) (broadcastInDim S4x256x2048 ![0, 1, 2] bcast_S1x1x2048_S4x256x2048_0_1_2 (broadcastInDim S1x1x2048 ![2] bcast_S2048_S1x1x2048_2 (shapeCast _ x2 shapeCasts_S1x2048_S2048)))) (broadcastInDim S4x256x2048 ![0, 1, 2] bcast_S1x1x2048_S4x256x2048_0_1_2 (addf (broadcastInDim S1x1x2048 ![] bcast_S_S1x1x2048 (constant S_ .f32 0x3F800000#32)) (shapeCast _ (extractStridedSlice S1x1x1x2048 ![1, 0, 0, 0] (shapeCast _ (shapeCast _ (extractStridedSlice S1x6x2048 ![4, 0, 0] x3 slices_S8x6x2048_S1x6x2048_4_0_0) shapeCasts_S1x6x2048_S6x2048) shapeCasts_S6x2048_S6x1x1x2048) slices_S6x1x1x2048_S1x1x1x2048_1_0_0_0) shapeCasts_S1x1x1x2048_S1x1x2048)))) (broadcastInDim S4x256x2048 ![0, 1, 2] bcast_S1x1x2048_S4x256x2048_0_1_2 (shapeCast _ (extractStridedSlice S1x1x1x2048 ![0, 0, 0, 0] (shapeCast _ (shapeCast _ (extractStridedSlice S1x6x2048 ![4, 0, 0] x3 slices_S8x6x2048_S1x6x2048_4_0_0) shapeCasts_S1x6x2048_S6x2048) shapeCasts_S6x2048_S6x1x1x2048) slices_S6x1x1x2048_S1x1x1x2048_0_0_0_0) shapeCasts_S1x1x1x2048_S1x1x2048))

/-- An entry of the latent tokens' normalised rows. -/
theorem normL_at (x0 : FVec Ideal S16384x2048 .f32) (x2 : FVec Ideal S1x2048 .f32) (x3 : FVec Ideal S8x6x2048 .f32) (b : Fin 4) (t : Fin 4096) (k : Fin 2048) :
    normL x0 x2 x3 (ix3 b t k) = normed (fun k => x0 (ix2 ⟨b.val * 4096 + t.val, by omega⟩ k)) (x2 (ix2 0 k)) (x3 (ix3 ⟨b.val, by omega⟩ 0 k)) (x3 (ix3 ⟨b.val, by omega⟩ 1 k)) k := by
  simp only [normed, scaleOf]
  pointwise [normL]

/-- An entry of the context tokens' normalised rows. -/
theorem normC_at (x1 : FVec Ideal S1024x2048 .f32) (x2 : FVec Ideal S1x2048 .f32) (x3 : FVec Ideal S8x6x2048 .f32) (b : Fin 4) (t : Fin 256) (k : Fin 2048) :
    normC x1 x2 x3 (ix3 b t k) = normed (fun k => x1 (ix2 ⟨b.val * 256 + t.val, by omega⟩ k)) (x2 (ix2 0 k)) (x3 (ix3 4 0 k)) (x3 (ix3 4 1 k)) k := by
  simp only [normed, scaleOf]
  pointwise [normC]

/-- The reference's result as one term of its arguments. -/
def ref (x0 : FVec Ideal S16384x2048 .f32) (x1 : FVec Ideal S1024x2048 .f32) (x2 : FVec Ideal S1x2048 .f32) (x3 : FVec Ideal S8x6x2048 .f32) (x4 : FVec Ideal S2048x14336 .bf16) : FVec Ideal S17408x14336 .f32 :=
  concatenate S17408x14336 0 [⟨S16384x14336, (shapeCast _ (Host.dotGeneral dot_S4x4096x2048_S2048x14336_S4x4096x14336_2_0_01_1_n_n none (normL x0 x2 x3) (extf .f32 x4 bitsLt_bf16_f32)) shapeCasts_S4x4096x14336_S16384x14336)⟩, ⟨S1024x14336, (shapeCast _ (Host.dotGeneral dot_S4x256x2048_S2048x14336_S4x256x14336_2_0_01_1_n_n none (normC x1 x2 x3) (extf .f32 x4 bitsLt_bf16_f32)) shapeCasts_S4x256x14336_S1024x14336)⟩] concatenates_S16384x14336_S1024x14336_S17408x14336_d0

/-- An entry of the reference's result is the input product of the arguments' rows. -/
theorem ref_at (x0 : FVec Ideal S16384x2048 .f32) (x1 : FVec Ideal S1024x2048 .f32) (x2 : FVec Ideal S1x2048 .f32) (x3 : FVec Ideal S8x6x2048 .f32) (x4 : FVec Ideal S2048x14336 .bf16) (r : Fin 17408) (d : Fin 14336) :
    ref x0 x1 x2 x3 x4 (ix2 r d)
      = projected (fun r k => x0 (ix2 r k)) (fun r k => x1 (ix2 r k)) (fun k => x2 (ix2 0 k)) (fun b s k => x3 (ix3 b s k)) (fun k d => x4 (ix2 k d)) r d := by
  unfold projected
  by_cases h : r.val < 16384
  · have ht : tok (fun r k => x0 (ix2 r k)) (fun r k => x1 (ix2 r k)) r = fun k => x0 (ix2 ⟨r.val, h⟩ k) := funext fun k => tok_lat _ _ _ _ h
    rw [ht, modRow_lat _ h]
    pointwise [ref]
    rw [dif_pos h]
    refine Finset.sum_congr rfl fun k _ => ?_
    rw [normL_at]
    have e : ∀ k, x0 (ix2 ⟨r.val / 4096 * 4096 + r.val % 4096, by omega⟩ k) = x0 (ix2 ⟨r.val, h⟩ k) := fun k =>
      congrArg (fun q => x0 (ix2 q k)) (Fin.ext (by show r.val / 4096 * 4096 + r.val % 4096 = r.val; omega))
    simp only [e]
  · have ht : tok (fun r k => x0 (ix2 r k)) (fun r k => x1 (ix2 r k)) r = fun k => x1 (ix2 ⟨r.val - 16384, by omega⟩ k) := funext fun k => tok_ctx _ _ _ _ h
    rw [ht, modRow_ctx _ h]
    pointwise [ref]
    rw [dif_neg h]
    refine Finset.sum_congr rfl fun k _ => ?_
    rw [normC_at]
    have e : ∀ k, x1 (ix2 ⟨(r.val - 16384) / 256 * 256 + (r.val - 16384) % 256, by omega⟩ k) = x1 (ix2 ⟨r.val - 16384, by omega⟩ k) := fun k =>
      congrArg (fun q => x1 (ix2 q k)) (Fin.ext (by show (r.val - 16384) / 256 * 256 + (r.val - 16384) % 256 = r.val - 16384; omega))
    simp only [e]

end Cert.Proof.InProj
-- ==== Proof.RefStep.lean ====
/- ONE TRIP OF THE REFERENCE'S SCAN, read at a sample and a head: the recurrence of Spec.lean. The trip's number picks the chunk, the running sum of the forget
   gates is a window sum over 64 tokens padded low by 63, the mask is the lower triangle. -/
module

public import proofs.«01_k».proof.Proof.Gen.ReferenceIdeal.Step
public import proofs.«01_k».proof.Proof.Spec
public import Idealize.ShloMosaic.Lib.Pointwise
public import Idealize.ShloMosaic.Lib.DynamicIndex
public import Idealize.ShloMosaic.Lib.Pipeline.Value

@[expose] public section

set_option maxRecDepth 16384

noncomputable section

namespace Cert.Proof

open Idealize.ShloMosaic Cert.ReferenceIdeal Cert.ReferenceIdeal.Gen Cert.ReferenceIdeal.Step

/-- A left fold of additions is a sum. -/
theorem foldl_add_sum {ι : Type} (g : ι → EReal) (l : List ι) (a : EReal) : l.foldl (fun r n => r + g n) a = a + (l.map g).sum := by
  induction l generalizing a with
  | nil => simp
  | cons x l ih => rw [List.foldl_cons, ih, List.map_cons, List.sum_cons, add_assoc]

/-- The sum over a window of 64 that ends at token `t`, its part before the first token empty, is the sum over the tokens up to `t`. -/
theorem window_sum (y : Fin 64 → EReal) (t : Fin 64) :
    (∑ n : Fin 64, if h : 63 ≤ t.val + n.val then y ⟨t.val + n.val - 63, by omega⟩ else 0) = ∑ s, if s ≤ t then y s else 0 := by
  have e : (∑ n : Fin 64, if h : 63 ≤ t.val + n.val then y ⟨t.val + n.val - 63, by omega⟩ else 0)
      = ∑ n ∈ Finset.univ.filter (fun n : Fin 64 => 63 ≤ t.val + n.val), if h : 63 ≤ t.val + n.val then y ⟨t.val + n.val - 63, by omega⟩ else 0 := by
    rw [Finset.sum_filter]
    exact Finset.sum_congr rfl fun n _ => by split <;> simp_all
  rw [e, ← Finset.sum_filter]
  refine Finset.sum_bij' (fun n hn => ⟨t.val + n.val - 63, by omega⟩)
    (fun s hs => ⟨s.val + 63 - t.val, by
      have h := (Finset.mem_filter.mp hs).2
      have h' : s.val ≤ t.val := h
      omega⟩) ?_ ?_ ?_ ?_ ?_
  · intro n hn
    have h := (Finset.mem_filter.mp hn).2
    refine Finset.mem_filter.mpr ⟨Finset.mem_univ _, ?_⟩
    show t.val + n.val - 63 ≤ t.val
    omega
  · intro s hs
    have h' : s.val ≤ t.val := (Finset.mem_filter.mp hs).2
    refine Finset.mem_filter.mpr ⟨Finset.mem_univ _, ?_⟩
    show 63 ≤ t.val + (s.val + 63 - t.val)
    omega
  · intro n hn
    have h := (Finset.mem_filter.mp hn).2
    refine Fin.ext ?_
    show t.val + n.val - 63 + 63 - t.val = n.val
    omega
  · intro s hs
    have h' : s.val ≤ t.val := (Finset.mem_filter.mp hs).2
    refine Fin.ext ?_
    show t.val + (s.val + 63 - t.val) - 63 = s.val
    omega
  · intro n hn
    rw [dif_pos (Finset.mem_filter.mp hn).2]

/-- The window's positions are its last coordinate. -/
theorem window_pos : ∀ n : Fin (⟨3, ![1, 1, 64]⟩ : Shape).numel, ((⟨3, ![1, 1, 64]⟩ : Shape).rowMajor.symm n 0).val = 0
    ∧ ((⟨3, ![1, 1, 64]⟩ : Shape).rowMajor.symm n 1).val = 0 ∧ ((⟨3, ![1, 1, 64]⟩ : Shape).rowMajor.symm n 2).val = n.val := by decide +kernel

/-- The reference's running sum along the tokens. -/
theorem runningSum (y : (⟨S4x4x64, .f32⟩ : BufTy).Contents (Elt Ideal)) (z : (⟨S_, .f32⟩ : BufTy).Contents (Elt Ideal)) (hz : ∀ i, z i = (0 : EReal)) (b h : Fin 4) (t : Fin 64) :
    (Host.reduceWindowAdd (F := Ideal) (φ := .f32) (s := S4x4x64) (t := S4x4x64) (u := S_) ![1, 1, 64] ![1, 1, 1] ![0, 0, 63] ![0, 0, 0] y z reduceWindows_S4x4x64_S4x4x64_w1s1p0_0_w1s1p0_0_w64s1p63_0 h_S_ (ix3 b h t) : EReal)
      = Ml.cum Ml.fwd (fun s => (y (ix3 b h s) : EReal)) t := by
  show Host.reduceWindow (fun x y : EReal => x + y) ![1, 1, 64] ![1, 1, 1] ![0, 0, 63] ![0, 0, 0] y (fun _ : (⟨0, ![]⟩ : Shape).Idx => z (Shape.Idx.first h_S_))
    reduceWindows_S4x4x64_S4x4x64_w1s1p0_0_w1s1p0_0_w64s1p63_0 (by decide) (ix3 b h t) = _
  unfold Host.reduceWindow Ml.cum
  rw [hz]
  dsimp only
  rw [foldl_add_sum, zero_add, ← Fin.sum_univ_def, ← window_sum (fun s => y (ix3 b h s)) t]
  refine Finset.sum_congr rfl fun n _ => ?_
  obtain ⟨p0, p1, p2⟩ := window_pos n
  have hn : n.val < 64 := n.isLt
  have q0 : ((ix3 b h t : S4x4x64.Idx) 0).val * (![1, 1, 1] : Fin 3 → ℕ) 0 + ((⟨3, ![1, 1, 64]⟩ : Shape).rowMajor.symm n 0).val = b.val := by
    rw [p0]; show b.val * 1 + 0 = b.val; omega
  have q1 : ((ix3 b h t : S4x4x64.Idx) 1).val * (![1, 1, 1] : Fin 3 → ℕ) 1 + ((⟨3, ![1, 1, 64]⟩ : Shape).rowMajor.symm n 1).val = h.val := by
    rw [p1]; show h.val * 1 + 0 = h.val; omega
  have q2 : ((ix3 b h t : S4x4x64.Idx) 2).val * (![1, 1, 1] : Fin 3 → ℕ) 2 + ((⟨3, ![1, 1, 64]⟩ : Shape).rowMajor.symm n 2).val = t.val + n.val := by
    rw [p2]; show t.val * 1 + n.val = _; omega
  by_cases hc : 63 ≤ t.val + n.val
  · have hc' : 63 ≤ t.val + (⟨n.val, hn⟩ : Fin 64).val := hc
    refine Eq.trans ?_ (dif_pos (c := 63 ≤ t.val + (⟨n.val, hn⟩ : Fin 64).val) hc').symm
    have hin : ∀ a : Fin S4x4x64.rank, (![0, 0, 63] : Fin 3 → ℕ) a ≤ ((ix3 b h t : S4x4x64.Idx) a).val * (![1, 1, 1] : Fin 3 → ℕ) a + ((⟨3, ![1, 1, 64]⟩ : Shape).rowMajor.symm n a).val
        ∧ ((ix3 b h t : S4x4x64.Idx) a).val * (![1, 1, 1] : Fin 3 → ℕ) a + ((⟨3, ![1, 1, 64]⟩ : Shape).rowMajor.symm n a).val - (![0, 0, 63] : Fin 3 → ℕ) a < S4x4x64.size a := by
      intro a
      fin_cases a
      · refine ⟨Nat.zero_le _, ?_⟩
        refine lt_of_eq_of_lt (congrArg (· - 0) q0) ?_
        show b.val - 0 < 4
        omega
      · refine ⟨Nat.zero_le _, ?_⟩
        refine lt_of_eq_of_lt (congrArg (· - 0) q1) ?_
        show h.val - 0 < 4
        omega
      · refine ⟨le_of_le_of_eq hc q2.symm, ?_⟩
        refine lt_of_eq_of_lt (congrArg (· - 63) q2) ?_
        show t.val + n.val - 63 < 64
        omega
    refine (dif_pos hin).trans (congrArg y (funext fun a => Fin.ext ?_))
    fin_cases a
    · exact congrArg (· - 0) q0
    · exact congrArg (· - 0) q1
    · exact congrArg (· - 63) q2
  · have hc' : ¬ 63 ≤ t.val + (⟨n.val, hn⟩ : Fin 64).val := hc
    refine Eq.trans ?_ (dif_neg (c := 63 ≤ t.val + (⟨n.val, hn⟩ : Fin 64).val) hc').symm
    refine dif_neg fun hin => hc ?_
    have h2 := (hin 2).1
    exact le_of_le_of_eq h2 q2

/-- What head `h` of sample `b` reads of chunk `c`. -/
def rIn (s : State Ideal) (c : Fin 68) (b h : Fin 4) : Ml.HeadIn where
  q t d := s.main_v65_0 (ix5 c b h t d)
  k t d := s.main_v65_1 (ix5 c b h t d)
  v t e := s.main_v65_2 (ix5 c b h t e)
  ig t := s.main_v65_3 (ix4 c b h t)
  lf t := s.main_v65_4 (ix4 c b h t)

/-- The state of head `h` of sample `b`. -/
def rSt (s : State Ideal) (b h : Fin 4) : Ml.HeadSt where
  C d e := s.main_v65_7 (ix4 b h e d)
  n d := s.main_v65_8 (ix3 b h d)
  m := s.main_v65_9 (ix2 b h)

/-- The trip's number as a start word. -/
theorem start_eq : ∀ c : Fin 68, (BitVec.ofNat 32 c.val).toInt = (c.val : ℤ) := by decide +kernel

theorem fits5 (c : Fin 68) : S68x4x4x64x128.Slices ![c.val, 0, 0, 0, 0] S1x4x4x64x128 := by
  refine ⟨rfl, fun a => ?_⟩
  have := c.isLt
  fin_cases a <;> simp [S68x4x4x64x128, S1x4x4x64x128] <;> omega

theorem fits4 (c : Fin 68) : S68x4x4x64.Slices ![c.val, 0, 0, 0] S1x4x4x64 := by
  refine ⟨rfl, fun a => ?_⟩
  have := c.isLt
  fin_cases a <;> simp [S68x4x4x64, S1x4x4x64] <;> omega

/-- A chunk picked out of the chunks of a five-axis array. -/
theorem pick5 (c : Fin 68) (X : (⟨S68x4x4x64x128, .f32⟩ : BufTy).Contents (Elt Ideal)) (start : Fin 5 → ℤ) (hs0 : start 0 = c.val) (hs : ∀ a, a ≠ 0 → start a = 0)
    (hf : S68x4x4x64x128.Slices (fun _ => 0) S1x4x4x64x128) (b h : Fin 4) (t : Fin 64) (d : Fin 128) :
    (shapeCast S4x4x64x128 (Host.dynamicSlice S1x4x4x64x128 X start hf) shapeCasts_S1x4x4x64x128_S4x4x64x128) (ix4 b h t d) = X (ix5 c b h t d) := by
  rw [Host.dynamicSlice_eq_extractStridedSlice S1x4x4x64x128 X start ![c.val, 0, 0, 0, 0] hf (fits5 c) (fun a => by
    fin_cases a
    · exact hs0
    all_goals exact hs _ (by decide))]
  pointwise

/-- A chunk picked out of the chunks of a four-axis array. -/
theorem pick4 (c : Fin 68) (X : (⟨S68x4x4x64, .f32⟩ : BufTy).Contents (Elt Ideal)) (start : Fin 4 → ℤ) (hs0 : start 0 = c.val) (hs : ∀ a, a ≠ 0 → start a = 0)
    (hf : S68x4x4x64.Slices (fun _ => 0) S1x4x4x64) (b h : Fin 4) (t : Fin 64) :
    (shapeCast S4x4x64 (Host.dynamicSlice S1x4x4x64 X start hf) shapeCasts_S1x4x4x64_S4x4x64) (ix3 b h t) = X (ix4 c b h t) := by
  rw [Host.dynamicSlice_eq_extractStridedSlice S1x4x4x64 X start ![c.val, 0, 0, 0] hf (fits4 c) (fun a => by
    fin_cases a
    · exact hs0
    all_goals exact hs _ (by decide))]
  pointwise

section Trip

variable (s : State Ideal) (c : Fin 68) (b h : Fin 4)

theorem q_at (t : Fin 64) (d : Fin 128) : b5 c.val s (ix4 b h t d) = (rIn s c b h).q t d :=
  pick5 c s.main_v65_0 _ (start_eq c) (fun a ha => by fin_cases a; exact absurd rfl ha; all_goals rfl) _ b h t d
theorem k_at (t : Fin 64) (d : Fin 128) : b11 c.val s (ix4 b h t d) = (rIn s c b h).k t d :=
  pick5 c s.main_v65_1 _ (start_eq c) (fun a ha => by fin_cases a; exact absurd rfl ha; all_goals rfl) _ b h t d
theorem v_at (t : Fin 64) (d : Fin 128) : b17 c.val s (ix4 b h t d) = (rIn s c b h).v t d :=
  pick5 c s.main_v65_2 _ (start_eq c) (fun a ha => by fin_cases a; exact absurd rfl ha; all_goals rfl) _ b h t d
theorem ig_at (t : Fin 64) : b22 c.val s (ix3 b h t) = (rIn s c b h).ig t :=
  pick4 c s.main_v65_3 _ (start_eq c) (fun a ha => by fin_cases a; exact absurd rfl ha; all_goals rfl) _ b h t
theorem lf_at (t : Fin 64) : b27 c.val s (ix3 b h t) = (rIn s c b h).lf t :=
  pick4 c s.main_v65_4 _ (start_eq c) (fun a ha => by fin_cases a; exact absurd rfl ha; all_goals rfl) _ b h t

/-- The running sum of the trip's forget gates. -/
theorem cum_at (t : Fin 64) : b30 c.val s (ix3 b h t) = Ml.cum Ml.fwd (rIn s c b h).lf t := by
  unfold b30
  rw [runningSum (b27 c.val s) (b29 c.val s) (fun i => by unfold b29 b28; pointwise) b h t]
  simp only [lf_at]

/-- The logarithms of the weights. -/
theorem dmat_at (t x : Fin 64) : b46 c.val s (ix4 b h t x) = Ml.dmat Ml.fwd (rIn s c b h) t x := by
  unfold b46 b44 b45 b41 b43 b42 b40 b39 b38 b37 b36 b35 b34 K_main_v48 K_main_call0_v4 K_main_v47 K_main_call0_v5 K_main_call0_v2 K_main_call0_v3
    K_main_call0_v0 K_main_call0_v1 K_main_call0_c K_main_call0_c_0 K_main_c
  pointwise
  rw [cum_at, cum_at, ig_at, Ml.ninf]
  have hm : Scalar.select (IntOp.cmpi CmpIPredicate.sge (IntOp.addi (BitVec.ofNat 32 ↑t) 0#32) (BitVec.ofNat 32 ↑x)) 1#1 0#1 = if x ≤ t then 1#1 else 0#1 := by
    rw [← Ml.select_sge]
    congr 1
    simp [IntOp.addi]
  rw [hm]
  unfold Ml.dmat
  by_cases hx : x ≤ t
  · rw [if_pos hx, if_pos hx]; rfl
  · rw [if_neg hx, if_neg hx]; rfl

/-- The stabiliser. -/
theorem mt_at (t : Fin 64) : b49 c.val s (ix3 b h t) = Ml.mt Ml.fwd (rIn s c b h) (rSt s b h) t := by
  unfold b49 b48 b47 b33 b32 b31
  pointwise
  simp only [cum_at, dmat_at, Ml.ninf]
  rfl

/-- The read-out. -/
theorem out_at (t : Fin 64) (e : Fin 128) : b75 c.val s (ix4 b h t e) = Ml.hOut Ml.fwd (rIn s c b h) (rSt s b h) t e := by
  unfold b75 b74 b73 b72 b71 b70 b69 b68 b67 b66 b65 b64 b63 b62 b61 b60 b59 b58 b57 b56 b55 b54 b53 b52 b51 b50 b33 b32 b31
  pointwise
  simp only [cum_at, dmat_at, mt_at, q_at, k_at, v_at, Ml.hOut, Ml.num, Ml.den, Ml.sc, Ml.inter]
  refine congrArg₂ _ rfl (congrArg₂ _ (congrArg _ (congrArg₂ _ rfl (congrArg₂ _ rfl (Finset.sum_congr rfl fun d _ => ?_)))) rfl)
  exact mul_comm _ _

/-- The new matrix memory. -/
theorem C_at (d e : Fin 128) : b98 c.val s (ix4 b h e d) = (Ml.next Ml.fwd 63 (rIn s c b h) (rSt s b h)).C d e := by
  unfold b98 b97 b96 b95 b94 b93 b92 b91 b90 b89 b88 b87 b86 b85 b84 b83 b82 b81 b80 b79 b78 b77 b76
  pointwise
  simp only [cum_at, mt_at, ig_at, k_at, v_at, Ml.next, Ml.dec, Ml.ws]
  refine congrArg₂ _ rfl (Finset.sum_congr rfl fun x _ => ?_)
  rw [mul_comm]
  exact congrArg₂ _ rfl (mul_comm _ _)

/-- The new normaliser. -/
theorem n_at (d : Fin 128) : b103 c.val s (ix3 b h d) = (Ml.next Ml.fwd 63 (rIn s c b h) (rSt s b h)).n d := by
  unfold b103 b102 b101 b100 b99 b90 b89 b88 b87 b86 b85 b84 b83 b82 b81 b80 b79 b78 b77 b76
  pointwise
  simp only [cum_at, mt_at, ig_at, k_at, Ml.next, Ml.dec, Ml.ws]
  refine congrArg₂ _ rfl (Finset.sum_congr rfl fun x _ => ?_)
  exact mul_comm _ _

/-- The new stabiliser. -/
theorem m_at : b77 c.val s (ix2 b h) = (Ml.next Ml.fwd 63 (rIn s c b h) (rSt s b h)).m := by
  unfold b77 b76
  pointwise
  rw [mt_at]
  rfl

/-- THE TRIP: the state of every head goes on by the recurrence. -/
theorem step_st : rSt (step c.val s) b h = Ml.next Ml.fwd 63 (rIn s c b h) (rSt s b h) := by
  refine Ml.HeadSt.ext ?_ ?_ ?_
  · funext d e
    exact C_at s c b h d e
  · funext d
    exact n_at s c b h d
  · exact m_at s c b h

/-- The trip writes its chunk of read-outs and leaves the others. -/
theorem step_hs (c' : Fin 68) (t : Fin 64) (e : Fin 128) : (step c.val s).main_v65_10 (ix5 c' b h t e)
    = if c' = c then Ml.hOut Ml.fwd (rIn s c b h) (rSt s b h) t e else s.main_v65_10 (ix5 c' b h t e) := by
  rw [step_main_v65_10]
  unfold b109
  rw [Host.dynamicUpdateSlice_eq_updateSlice (adj := ![c.val, 0, 0, 0, 0]) (hadj := by
    intro a
    have hc := c.isLt
    fin_cases a
    · show (min (max (BitVec.ofNat 32 c.val).toInt 0) ((68 - 1 : ℕ) : ℤ)).toNat = c.val
      rw [start_eq]
      omega
    all_goals rfl) (h' := fits5 c)]
  unfold updateSlice
  by_cases hcc : c' = c
  · subst hcc
    rw [if_pos rfl, dif_pos (by
      intro a
      fin_cases a
      · exact ⟨le_refl _, Nat.lt_succ_self _⟩
      · exact ⟨Nat.zero_le _, lt_of_lt_of_eq b.isLt (Nat.zero_add 4).symm⟩
      · exact ⟨Nat.zero_le _, lt_of_lt_of_eq h.isLt (Nat.zero_add 4).symm⟩
      · exact ⟨Nat.zero_le _, lt_of_lt_of_eq t.isLt (Nat.zero_add 64).symm⟩
      · exact ⟨Nat.zero_le _, lt_of_lt_of_eq e.isLt (Nat.zero_add 128).symm⟩)]
    rw [← out_at]
    unfold b104
    refine congrArg (b75 c'.val s) (funext fun a => Fin.ext ?_)
    fin_cases a <;> rfl
  · rw [if_neg hcc, dif_neg fun hin => hcc ?_]
    have h0 := hin 0
    have h1 : c.val ≤ c'.val := h0.1
    have h2 : c'.val < c.val + 1 := h0.2
    exact Fin.ext (by omega)

end Trip

end Cert.Proof

end
-- ==== Proof.RefIter.lean ====
/- THE REFERENCE IN CLOSED FORM: its arrays of chunks read at an index of the arguments, its scan iterated, its result at a token's row. -/
module

public import proofs.«01_k».proof.Proof.RefStep
public import proofs.«01_k».proof.Proof.Rows

@[expose] public section

set_option maxRecDepth 200000

noncomputable section

namespace Cert.Proof

open Idealize.ShloMosaic Idealize.ShloMosaic.TcCoe Idealize.SL.Sem Idealize.ShloMosaic.StableHlo
open Cert.ReferenceIdeal Cert.ReferenceIdeal.Gen Cert.ReferenceIdeal.Step

/-- The tokens of a sample out of an array of 512 columns: the context rows, then the latent rows. -/
theorem tokens512 (X : (⟨S17408x512, .f32⟩ : BufTy).Contents (Elt Ideal)) (b : Fin 4) (c : Fin 68) (t : Fin 64) (d : Fin 512) :
    concatenate S4x4352x512 1 [⟨S4x256x512, (shapeCast _ (extractStridedSlice S1024x512 ![16384, 0] X slices_S17408x512_S1024x512_16384_0) shapeCasts_S1024x512_S4x256x512)⟩,
      ⟨S4x4096x512, (shapeCast _ (extractStridedSlice S16384x512 ![0, 0] X slices_S17408x512_S16384x512_0_0) shapeCasts_S16384x512_S4x4096x512)⟩]
      concatenates_S4x256x512_S4x4096x512_S4x4352x512_d1 (ix3 b (⟨c.val * 64 + t.val, by omega⟩ : Fin 4352) d) = X (ix2 (Ml.row b c t) d) := by
  pointwise
  by_cases h : c.val < 4
  · rw [dif_pos (by omega)]
    refine congrArg (fun r => X (ix2 r d)) (Fin.ext ?_)
    simp only [Ml.row, if_pos h]
  · rw [dif_neg (by omega)]
    refine congrArg (fun r => X (ix2 r d)) (Fin.ext ?_)
    simp only [Ml.row, if_neg h]

/-- The tokens of a sample out of the 16 gate columns. -/
theorem tokens16 (X : (⟨S17408x16, .f32⟩ : BufTy).Contents (Elt Ideal)) (b : Fin 4) (c : Fin 68) (t : Fin 64) (d : Fin 16) :
    concatenate S4x4352x16 1 [⟨S4x256x16, (shapeCast _ (extractStridedSlice S1024x16 ![16384, 0] X slices_S17408x16_S1024x16_16384_0) shapeCasts_S1024x16_S4x256x16)⟩,
      ⟨S4x4096x16, (shapeCast _ (extractStridedSlice S16384x16 ![0, 0] X slices_S17408x16_S16384x16_0_0) shapeCasts_S16384x16_S4x4096x16)⟩]
      concatenates_S4x256x16_S4x4096x16_S4x4352x16_d1 (ix3 b (⟨c.val * 64 + t.val, by omega⟩ : Fin 4352) d) = X (ix2 (Ml.row b c t) d) := by
  pointwise
  by_cases h : c.val < 4
  · rw [dif_pos (by omega)]
    refine congrArg (fun r => X (ix2 r d)) (Fin.ext ?_)
    simp only [Ml.row, if_pos h]
  · rw [dif_neg (by omega)]
    refine congrArg (fun r => X (ix2 r d)) (Fin.ext ?_)
    simp only [Ml.row, if_neg h]

/-- The tokens cut into heads and chunks. -/
theorem chunks512 (X : (⟨S4x4352x512, .f32⟩ : BufTy).Contents (Elt Ideal)) (b h : Fin 4) (c : Fin 68) (t : Fin 64) (d : Fin 128) :
    transpose S68x4x4x64x128 [0, 1, 3, 2, 4] (transpose S68x4x64x4x128 [1, 0, 2, 3, 4] (shapeCast S4x68x64x4x128 (shapeCast S4x4352x4x128 X
      shapeCasts_S4x4352x512_S4x4352x4x128) shapeCasts_S4x4352x4x128_S4x68x64x4x128) transposes_S4x68x64x4x128_S68x4x64x4x128_1_0_2_3_4)
      transposes_S68x4x64x4x128_S68x4x4x64x128_0_1_3_2_4 (ix5 c b h t d) = X (ix3 b (⟨c.val * 64 + t.val, by omega⟩ : Fin 4352) (⟨128 * h.val + d.val, by omega⟩ : Fin 512)) := by
  pointwise
  exact congrArg (fun r => X (ix3 b _ r)) (Fin.ext (by simp only []; omega))

/-- The gates of a chunk, the bias added. -/
theorem gates (X : (⟨S4x4352x16, .f32⟩ : BufTy).Contents (Elt Ideal)) (g : (⟨S4x4, .f32⟩ : BufTy).Contents (Elt Ideal)) (b : Fin 4) (l : Fin 4352) (k h : Fin 4) :
    addf (F := Ideal) (φ := .f32) (shapeCast S4x4352x4x4 X shapeCasts_S4x4352x16_S4x4352x4x4) (broadcastInDim S4x4352x4x4 ![0, 1, 2, 3] bcast_S1x1x4x4_S4x4352x4x4_0_1_2_3
      (broadcastInDim S1x1x4x4 ![2, 3] bcast_S4x4_S1x1x4x4_2_3 g)) (ix4 b l k h) = (X (ix3 b l (⟨4 * k.val + h.val, by omega⟩ : Fin 16)) + g (ix2 k h) : EReal) := by
  pointwise
  refine congrArg₂ _ (congrArg (fun r => X (ix3 b _ r)) (Fin.ext (by simp only []; omega))) rfl

section Args

variable (x0 : (⟨S17408x1024, .f32⟩ : BufTy).Contents (Elt Ideal)) (x1 : (⟨S17408x14336, .f32⟩ : BufTy).Contents (Elt Ideal)) (x2 : (⟨S4x4, .f32⟩ : BufTy).Contents (Elt Ideal))

/-- The first argument by row and column. -/
abbrev rX : Fin 17408 → Fin 1024 → EReal := fun r c => x0 (ix2 r c)
/-- The second argument by row and column. -/
abbrev rP : Fin 17408 → Fin 14336 → EReal := fun r c => x1 (ix2 r c)
/-- The gates' biases by group and head. -/
abbrev rG : Fin 4 → Fin 4 → EReal := fun r c => x2 (ix2 r c)

variable (c : Fin 68) (b h : Fin 4)

theorem q_arg (t : Fin 64) (d : Fin 128) : A_main_v51 x0 x1 x2 (ix5 c b h t d) = (Ml.argIn (rX x0) (rP x1) (rG x2) b h c).q t d := by
  unfold A_main_v51 A_main_v50 A_main_v49 A_main_v6
  rw [chunks512]
  unfold A_main_v5 A_main_v4 A_main_v3 A_main_v2 A_main_v1
  rw [tokens512]
  unfold A_main_v0
  pointwise
  rfl

theorem k_arg (t : Fin 64) (d : Fin 128) : A_main_v54 x0 x1 x2 (ix5 c b h t d) = (Ml.argIn (rX x0) (rP x1) (rG x2) b h c).k t d := by
  unfold A_main_v54 A_main_v53 A_main_v52 A_main_v13
  rw [chunks512]
  unfold A_main_v12 A_main_v11 A_main_v10 A_main_v9 A_main_v8
  rw [tokens512]
  unfold A_main_v7
  pointwise
  rfl

theorem v_arg (t : Fin 64) (d : Fin 128) : A_main_v57 x0 x1 x2 (ix5 c b h t d) = (Ml.argIn (rX x0) (rP x1) (rG x2) b h c).v t d := by
  unfold A_main_v57 A_main_v56 A_main_v55 A_main_v20
  rw [chunks512]
  unfold A_main_v19 A_main_v18 A_main_v17 A_main_v16 A_main_v15
  rw [tokens512]
  unfold A_main_v14
  pointwise
  rfl

/-- The biased gates at an index. -/
theorem gate_arg (t : Fin 64) (k : Fin 4) : A_main_v30 x0 x1 x2 (ix4 b (⟨c.val * 64 + t.val, by omega⟩ : Fin 4352) k h)
    = rP x1 (Ml.row b c t) ⟨13824 + (4 * k.val + h.val), by omega⟩ + rG x2 k h := by
  unfold A_main_v30 A_main_v29 A_main_v28 A_main_v27
  rw [gates]
  unfold A_main_v26 A_main_v25 A_main_v24 A_main_v23 A_main_v22
  rw [tokens16]
  unfold A_main_v21
  pointwise

theorem ig_arg (t : Fin 64) : A_main_v60 x0 x1 x2 (ix4 c b h t) = (Ml.argIn (rX x0) (rP x1) (rG x2) b h c).ig t := by
  unfold A_main_v60 A_main_v59 A_main_v58 A_main_v35 A_main_v34
  pointwise
  rw [gate_arg x0 x1 x2 c b h t 0]
  simp only [Ml.argIn, Fin.val_zero, Nat.mul_zero, Nat.zero_add]

theorem lf_arg (t : Fin 64) : A_main_v63 x0 x1 x2 (ix4 c b h t) = (Ml.argIn (rX x0) (rP x1) (rG x2) b h c).lf t := by
  unfold A_main_v63 A_main_v62 A_main_v61 A_main_v46 A_main_v45 A_main_v44 A_main_v43 A_main_v42 A_main_v41 A_main_v40 A_main_v38 A_main_v37 A_main_v36
    K_main_v39 K_main_cst_2
  pointwise
  rw [gate_arg x0 x1 x2 c b h t 1]
  simp only [Ml.argIn, Ml.lsig, Fin.val_one, Nat.mul_one]

end Args

section Iter

variable (x0 : (⟨S17408x1024, .f32⟩ : BufTy).Contents (Elt Ideal)) (x1 : (⟨S17408x14336, .f32⟩ : BufTy).Contents (Elt Ideal)) (x2 : (⟨S4x4, .f32⟩ : BufTy).Contents (Elt Ideal))

/-- The scan's states. -/
def refIter : ℕ → State Ideal
  | 0 => init x0 x1 x2
  | n + 1 => step n (refIter n)

/-- The arrays of chunks stay what they were. -/
theorem iter_in (n : ℕ) (c : Fin 68) (b h : Fin 4) : rIn (refIter x0 x1 x2 n) c b h = Ml.argIn (rX x0) (rP x1) (rG x2) b h c := by
  induction n with
  | zero =>
    refine (show rIn (init x0 x1 x2) c b h = (⟨_, _, _, _, _⟩ : Ml.HeadIn) from ?_)
    unfold rIn
    congr 1
    · funext t d; exact q_arg x0 x1 x2 c b h t d
    · funext t d; exact k_arg x0 x1 x2 c b h t d
    · funext t d; exact v_arg x0 x1 x2 c b h t d
    · funext t; exact ig_arg x0 x1 x2 c b h t
    · funext t; exact lf_arg x0 x1 x2 c b h t
  | succ n ih => exact ih

/-- The states are the recurrence's. -/
theorem iter_st (n : ℕ) (hn : n ≤ 68) (b h : Fin 4) : rSt (refIter x0 x1 x2 n) b h = Ml.stateAt (rX x0) (rP x1) (rG x2) b h n := by
  induction n with
  | zero =>
    refine Ml.HeadSt.ext ?_ ?_ ?_
    · funext d e
      show K_main_v31 (F := Ideal) (ix4 b h e d) = 0
      unfold K_main_v31 K_main_cst
      pointwise
    · funext d
      show K_main_v32 (F := Ideal) (ix3 b h d) = 0
      unfold K_main_v32 K_main_cst_0
      pointwise
    · show K_main_v33 (F := Ideal) (ix2 b h) = 0
      unfold K_main_v33 K_main_cst_1
      pointwise
  | succ n ih =>
    show rSt (step (⟨n, hn⟩ : Fin 68).val (refIter x0 x1 x2 n)) b h = Ml.next Ml.fwd 63 (Ml.argIn _ _ _ b h (Ml.chunk (⟨n, hn⟩ : Fin 68).val)) _
    rw [step_st, iter_in, ih (Nat.le_of_succ_le hn), Ml.chunk_val]

/-- After `n` trips the first `n` chunks of read-outs are there. -/
theorem iter_hs (n : ℕ) (hn : n ≤ 68) (c : Fin 68) (hc : c.val < n) (b h : Fin 4) (t : Fin 64) (e : Fin 128) :
    (refIter x0 x1 x2 n).main_v65_10 (ix5 c b h t e) = Ml.outAt (rX x0) (rP x1) (rG x2) b h c t e := by
  induction n with
  | zero => exact absurd hc (Nat.not_lt_zero _)
  | succ n ih =>
    show (step (⟨n, hn⟩ : Fin 68).val (refIter x0 x1 x2 n)).main_v65_10 (ix5 c b h t e) = _
    rw [step_hs]
    by_cases hcn : c = ⟨n, hn⟩
    · rw [if_pos hcn, iter_in, iter_st x0 x1 x2 n (Nat.le_of_succ_le hn), ← hcn]
      subst hcn
      rfl
    · rw [if_neg hcn]
      refine ih (Nat.le_of_succ_le hn) ?_
      have : c.val ≠ n := fun h => hcn (Fin.ext h)
      omega

end Iter

/-- The chunks laid back as tokens. -/
theorem unchunk (X : (⟨S68x4x4x64x128, .f32⟩ : BufTy).Contents (Elt Ideal)) (b h : Fin 4) (c : Fin 68) (t : Fin 64) (e : Fin 128) :
    (shapeCast S4x4352x512 (shapeCast S4x4352x4x128 (transpose S4x68x64x4x128 [1, 0, 2, 3, 4] (transpose S68x4x64x4x128 [0, 1, 3, 2, 4] X
      transposes_S68x4x4x64x128_S68x4x64x4x128_0_1_3_2_4) transposes_S68x4x64x4x128_S4x68x64x4x128_1_0_2_3_4) shapeCasts_S4x68x64x4x128_S4x4352x4x128)
      shapeCasts_S4x4352x4x128_S4x4352x512) (ix3 b (⟨c.val * 64 + t.val, by omega⟩ : Fin 4352) (⟨128 * h.val + e.val, by omega⟩ : Fin 512)) = X (ix5 c b h t e) := by
  pointwise

/-- The tokens laid back as rows: the latents, then the context. -/
theorem unrows (X : (⟨S4x4352x512, .f32⟩ : BufTy).Contents (Elt Ideal)) (b : Fin 4) (c : Fin 68) (t : Fin 64) (x : Fin 512) :
    concatenate S17408x512 0 [⟨S16384x512, (shapeCast S16384x512 (extractStridedSlice S4x4096x512 ![0, 256, 0] X slices_S4x4352x512_S4x4096x512_0_256_0) shapeCasts_S4x4096x512_S16384x512)⟩,
      ⟨S1024x512, (shapeCast S1024x512 (extractStridedSlice S4x256x512 ![0, 0, 0] X slices_S4x4352x512_S4x256x512_0_0_0) shapeCasts_S4x256x512_S1024x512)⟩]
      concatenates_S16384x512_S1024x512_S17408x512_d0 (ix2 (Ml.row b c t) x) = X (ix3 b (⟨c.val * 64 + t.val, by omega⟩ : Fin 4352) x) := by
  pointwise
  by_cases h : c.val < 4
  · have hr : (Ml.row b c t).val = 16384 + (b.val * 256 + (c.val * 64 + t.val)) := by simp only [Ml.row, if_pos h]
    rw [dif_neg (by omega)]
    refine congrArg X (congr (congr (congrArg _ (Fin.ext ?_)) (Fin.ext ?_)) rfl) <;> simp only [hr] <;> omega
  · have hr : (Ml.row b c t).val = b.val * 4096 + (c.val * 64 + t.val - 256) := by simp only [Ml.row, if_neg h]
    rw [dif_pos (by omega)]
    refine congrArg X (congr (congr (congrArg _ (Fin.ext ?_)) (Fin.ext ?_)) rfl) <;> simp only [hr] <;> omega

/-- THE REFERENCE'S RESULT at a token's row and a head's channel. -/
theorem ref_result (x0 : (⟨S17408x1024, .f32⟩ : BufTy).Contents (Elt Ideal)) (x1 : (⟨S17408x14336, .f32⟩ : BufTy).Contents (Elt Ideal)) (x2 : (⟨S4x4, .f32⟩ : BufTy).Contents (Elt Ideal))
    (b h : Fin 4) (c : Fin 68) (t : Fin 64) (e : Fin 128) : R_main_v74 (refIter x0 x1 x2 68) (ix2 (Ml.row b c t) (⟨128 * h.val + e.val, by omega⟩ : Fin 512))
      = Ml.outAt (rX x0) (rP x1) (rG x2) b h c t e := by
  unfold R_main_v74
  rw [unrows, unchunk, iter_hs x0 x1 x2 68 (le_refl _) c c.isLt]

end Cert.Proof

end
-- ==== Proof.RefRun.lean ====
/- THE REFERENCE'S RUN OVER ITS STATES: the run hands its scan's valuations on by `STEP`; a valuation that holds a state and the trip's number holds, after
   `STEP`, the state that `step` makes. -/
module

public import proofs.«01_k».proof.Proof.Gen.ReferenceIdeal.Run
public import proofs.«01_k».proof.Proof.Gen.ReferenceIdeal.Step

@[expose] public section

set_option maxRecDepth 16384

noncomputable section

namespace Cert.Proof

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step hiding step_main_v65_7 step_main_v65_8 step_main_v65_9 step_main_v65_10

variable {F : FTy → Type} [FloatOps F]

/-- The state a valuation holds. -/
def stOf (V : Valuation τ sig (Elt F)) : State F where
  main_v65_7 := V (Proc.devRef .tc main_v65_7)
  main_v65_8 := V (Proc.devRef .tc main_v65_8)
  main_v65_9 := V (Proc.devRef .tc main_v65_9)
  main_v65_10 := V (Proc.devRef .tc main_v65_10)
  main_v65_0 := V (Proc.devRef .tc main_v65_0)
  main_v65_1 := V (Proc.devRef .tc main_v65_1)
  main_v65_2 := V (Proc.devRef .tc main_v65_2)
  main_v65_3 := V (Proc.devRef .tc main_v65_3)
  main_v65_4 := V (Proc.devRef .tc main_v65_4)

section Trip

variable {V : Valuation τ sig (Elt F)} {j : ℕ} (hn : V (Proc.devRef .tc main_v65_6) = constantI S_ 32 (BitVec.ofNat 32 j))
  (hk : V (Proc.devRef .tc main_v65_5) = K_main_v48 (F := F))

include hn

theorem r_q : res_main_while0b_v75 V = b5 j (stOf V) := by
  unfold res_main_while0b_v75
  rw [hn]
  rfl
theorem r_k : res_main_while0b_v76 V = b11 j (stOf V) := by
  unfold res_main_while0b_v76
  rw [hn]
  rfl
theorem r_v : res_main_while0b_v77 V = b17 j (stOf V) := by
  unfold res_main_while0b_v77
  rw [hn]
  rfl
theorem r_ig : res_main_while0b_v78 V = b22 j (stOf V) := by
  unfold res_main_while0b_v78
  rw [hn]
  rfl
theorem r_cum : res_main_while0b_v80 V = b30 j (stOf V) := by
  unfold res_main_while0b_v80
  rw [hn]
  rfl
theorem r_a : res_main_while0b_v83 V = b33 j (stOf V) := by
  unfold res_main_while0b_v83
  rw [r_cum hn]
  rfl
include hk
theorem r_dmat : res_main_while0b_v92 V = b46 j (stOf V) := by
  unfold res_main_while0b_v92
  rw [r_cum hn, r_ig hn, hk]
  rfl
theorem r_mt : res_main_while0b_v94 V = b49 j (stOf V) := by
  unfold res_main_while0b_v94
  rw [r_a hn, r_dmat hn hk]
  rfl
theorem r_inter : res_main_while0b_v96 V = b51 j (stOf V) := by
  unfold res_main_while0b_v96
  rw [r_a hn, r_mt hn hk]
  rfl
theorem r_sc : res_main_while0b_v102 V = b57 j (stOf V) := by
  unfold res_main_while0b_v102
  rw [r_q hn, r_k hn, r_dmat hn hk, r_mt hn hk]
  rfl
theorem r_m : res_main_while0b_v121 V = b77 j (stOf V) := by
  unfold res_main_while0b_v121
  rw [r_mt hn hk]
  rfl
theorem r_ws : res_main_while0b_v129 V = b85 j (stOf V) := by
  unfold res_main_while0b_v129
  rw [r_cum hn, r_ig hn, r_m hn hk]
  rfl
theorem r_dec : res_main_while0b_v134 V = b90 j (stOf V) := by
  unfold res_main_while0b_v134
  rw [r_cum hn, r_m hn hk]
  rfl

theorem s_C : step_main_v65_7 V = b98 j (stOf V) := by
  unfold step_main_v65_7
  rw [r_dec hn hk, r_ws hn hk, r_v hn, r_k hn]
  rfl
theorem s_n : step_main_v65_8 V = b103 j (stOf V) := by
  unfold step_main_v65_8
  rw [r_dec hn hk, r_ws hn hk, r_k hn]
  rfl
theorem s_m : step_main_v65_9 V = b77 j (stOf V) := by
  unfold step_main_v65_9
  rw [r_m hn hk]
  rfl
theorem s_hs : step_main_v65_10 V = b109 j (stOf V) := by
  unfold step_main_v65_10
  rw [r_sc hn hk, r_v hn, r_inter hn hk, r_q hn, r_mt hn hk, hn]
  rfl
omit hk
theorem s_ctr : step_main_v65_6 V = constantI S_ 32 (BitVec.ofNat 32 (j + 1)) := by
  unfold step_main_v65_6
  rw [hn]
  funext i
  show BitVec.ofNat 32 j + 1#32 = BitVec.ofNat 32 (j + 1)
  simp only [BitVec.ofNat_add]
include hk

/-- One trip: the state goes on by `step`. -/
theorem stOf_step : stOf (STEP V) = step j (stOf V) := by
  unfold stOf
  rw [STEP_main_v65_7, STEP_main_v65_8, STEP_main_v65_9, STEP_main_v65_10, STEP_main_v65_0, STEP_main_v65_1, STEP_main_v65_2, STEP_main_v65_3, STEP_main_v65_4,
    s_C hn hk, s_n hn hk, s_m hn hk, s_hs hn hk]
  rfl

end Trip

section Run

variable (m : (ℓ : Loc nD τ sig) → Buf (Elt F) ℓ) (c : Dev nD)

/-- The arguments' contents before the scan. -/
abbrev initAt : State F := init (m ((c.tc : Thread nD τ).loc main_arg0)) (m ((c.tc : Thread nD τ).loc main_arg1)) (m ((c.tc : Thread nD τ).loc main_arg2))

set_option maxRecDepth 65536 in
set_option maxHeartbeats 600000 in
/-- Before the scan the carried buffers hold the initial state, the counter 0 and the mask. -/
theorem entry_reads : entryContents preI m c (Proc.devRef .tc main_v65_7) = (initAt m c).main_v65_7
    ∧ entryContents preI m c (Proc.devRef .tc main_v65_8) = (initAt m c).main_v65_8
    ∧ entryContents preI m c (Proc.devRef .tc main_v65_9) = (initAt m c).main_v65_9
    ∧ entryContents preI m c (Proc.devRef .tc main_v65_10) = (initAt m c).main_v65_10
    ∧ entryContents preI m c (Proc.devRef .tc main_v65_0) = (initAt m c).main_v65_0
    ∧ entryContents preI m c (Proc.devRef .tc main_v65_1) = (initAt m c).main_v65_1
    ∧ entryContents preI m c (Proc.devRef .tc main_v65_2) = (initAt m c).main_v65_2
    ∧ entryContents preI m c (Proc.devRef .tc main_v65_3) = (initAt m c).main_v65_3
    ∧ entryContents preI m c (Proc.devRef .tc main_v65_4) = (initAt m c).main_v65_4
    ∧ entryContents preI m c (Proc.devRef .tc main_v65_6) = constantI S_ 32 (BitVec.ofNat 32 0)
    ∧ entryContents preI m c (Proc.devRef .tc main_v65_5) = K_main_v48 (F := F) := by
  refine ⟨?_, ?_, ?_, ?_, ?_, ?_, ?_, ?_, ?_, ?_, ?_⟩ <;> (simp only [entryContents, afterL_cons, afterL_nil]; after_reads_simp) <;> rfl

/-- Before the scan: the initial state, number 0, the mask. -/
theorem entry_st : stOf (entryContents preI m c) = initAt m c ∧ entryContents preI m c (Proc.devRef .tc main_v65_6) = constantI S_ 32 (BitVec.ofNat 32 0)
    ∧ entryContents preI m c (Proc.devRef .tc main_v65_5) = K_main_v48 (F := F) := by
  obtain ⟨e7, e8, e9, e10, e0, e1, e2, e3, e4, n, k⟩ := entry_reads m c
  refine ⟨?_, n, k⟩
  unfold stOf
  rw [e7, e8, e9, e10, e0, e1, e2, e3, e4]

/-- Before every trip: the iterated state, the trip's number, the mask. -/
theorem iter_holds (it : ℕ → State F) (h0 : it 0 = initAt m c) (hs : ∀ n, it (n + 1) = step n (it n)) :
    ∀ k, stOf (STEP^[k] (entryContents preI m c)) = it k ∧ (STEP^[k] (entryContents preI m c)) (Proc.devRef .tc main_v65_6) = constantI S_ 32 (BitVec.ofNat 32 k)
      ∧ (STEP^[k] (entryContents preI m c)) (Proc.devRef .tc main_v65_5) = K_main_v48 (F := F)
  | 0 => by
    rw [Function.iterate_zero, id_eq, h0]
    exact entry_st m c
  | k + 1 => by
    obtain ⟨a, b, d⟩ := iter_holds it h0 hs k
    rw [Function.iterate_succ_apply', hs k, ← a]
    exact ⟨stOf_step b d, (STEP_main_v65_6 _).trans (s_ctr b), (STEP_main_v65_5 _).trans d⟩

/-- The result is read off the state. -/
theorem out_stOf (V : Valuation τ sig (Elt F)) : out_main_v74 V = R_main_v74 (stOf V) := by
  unfold out_main_v74 R_main_v74
  rfl

/-- THE REFERENCE'S RUN: its result is read off the state after 68 trips, its arguments stay. -/
theorem ref_run (m : (ℓ : Loc nD τ sig) → Buf (Elt F) ℓ) (ρ : Dev nD → PrngReg) (it : Dev nD → ℕ → State F)
    (h0 : ∀ c, it c 0 = initAt m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v74) = R_main_v74 (it c 68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun _ h c => ⟨(h c).1.trans ?_, (h c).2.1, (h c).2.2.1, (h c).2.2.2⟩) (Value.run m ρ)
  rw [← (iter_holds m c (it c) (h0 c) (hs c) 68).1]
  exact out_stOf _

end Run

end Cert.Proof

end
-- ==== Proof.lean ====
module

public import proofs.«01_k».proof.Defs
public import proofs.«01_k».proof.Proof.Gen.Kernel.Frame
public import proofs.«01_k».proof.Proof.Gen.KernelIdeal.Frame
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.KRun
public import proofs.«01_k».proof.Proof.S5EndK
public import proofs.«01_k».proof.Proof.S5EndRef
public import proofs.«01_k».proof.Proof.SsdEndK
public import proofs.«01_k».proof.Proof.SsdEndRef
public import proofs.«01_k».proof.Proof.MlEndK
public import proofs.«01_k».proof.Proof.MlEndRef
public import proofs.«01_k».proof.Proof.LastFfnK
public import proofs.«01_k».proof.Proof.LastFfnRef
public import proofs.«01_k».proof.Proof.NormK
public import proofs.«01_k».proof.Proof.NormRef
public import proofs.«01_k».proof.Proof.MergeK
public import proofs.«01_k».proof.Proof.MergeRef
public import proofs.«01_k».proof.Proof.OutProjK
public import proofs.«01_k».proof.Proof.OutProjRef
public import proofs.«01_k».proof.Proof.FfnK
public import proofs.«01_k».proof.Proof.FfnRef
public import proofs.«01_k».proof.Proof.InProjK
public import proofs.«01_k».proof.Proof.InProjRef
public import proofs.«01_k».proof.Proof.RefIter
public import proofs.«01_k».proof.Proof.RefRun
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem

/-- The reference runs, keeps its arguments, and has no counter that could be off zero. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩) (Cert.ReferenceIdeal.Value.run m ρ)

/-- The reference's result array is the kernel's. -/
theorem results_agree (m : (ℓ : Loc Cert.KernelIdeal.nD Cert.KernelIdeal.τ Cert.KernelIdeal.sig) → Buf (Elt Ideal) ℓ) (c : Dev Cert.KernelIdeal.nD) :
    Cert.ReferenceIdeal.Step.R_main_v74 (refIter (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)) 68)
      = (Cert.KernelIdeal.Gen.dats m 0 c).arrAt 6 Cert.KernelIdeal.cfg0.N := by
  funext y
  obtain ⟨b, k, i, hr⟩ := Ml.row_surj (y 0)
  obtain ⟨h, e, hx⟩ := Ml.col_surj (y 1)
  have hy : y = ix2 (Ml.row b k i) (⟨128 * h.val + e.val, by omega⟩ : Fin 512) := by
    funext a
    fin_cases a
    · exact hr.symm
    · exact hx.symm
  rw [hy]
  exact (ref_result _ _ _ b h k i e).trans (arr_eq m c b k i h e).symm

/-- Over the extended reals the two programs end with the same result array. -/
theorem algebraic : Cert.algebraic_KernelIdeal_ReferenceIdeal (hKernelIdeal := Cert.KernelIdeal.Gen.facts) (hReferenceIdeal := Cert.ReferenceIdeal.Gen.facts) := by
  intro m ρ m' ρ' _ hagree
  refine ⟨fun c => (Cert.KernelIdeal.Gen.dats m 0 c).arrAt 6 Cert.KernelIdeal.cfg0.N, Cert.KernelIdeal.Value.run_blocks m ρ, ?_⟩
  refine (θ_run Cert.ReferenceIdeal.defs _ _).mono (fun r h c => ⟨(h c).1.trans ?_, (h c).2⟩)
    (ref_run m' ρ' (fun c => refIter (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))) (fun _ => rfl) (fun _ _ => rfl))
  beta_reduce
  rw [(hagree c).1, (hagree c).2.1, (hagree c).2.2]
  exact results_agree m c

/-- The reference of the input product runs, keeps its arguments, and has no counter that could be off zero. -/
theorem frame_reference2 : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩) (Cert.Reference2Ideal.Value.run m ρ)

/-- Of the input product, the reference's result array is the kernel's. -/
theorem results_agree2 (m : (ℓ : Loc Cert.Kernel2Ideal.nD Cert.Kernel2Ideal.τ Cert.Kernel2Ideal.sig) → Buf (Elt Ideal) ℓ) (c : Dev Cert.Kernel2Ideal.nD) :
    InProj.ref (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))
      = (Cert.Kernel2Ideal.Gen.dats m 0 c).arrAt 5 Cert.Kernel2Ideal.cfg0.N := by
  rw [InProj.final]
  funext y
  obtain ⟨i, d, rfl⟩ : ∃ i d, y = ix2 i d := ⟨y 0, y 1, by blk_ext⟩
  rw [InProj.ref_at]
  rfl

/-- Over the extended reals the two programs of the input product end with the same result array. -/
theorem algebraic2 : Cert.algebraic_Kernel2Ideal_Reference2Ideal (hKernel2Ideal := Cert.Kernel2Ideal.Gen.facts) (hReference2Ideal := Cert.Reference2Ideal.Gen.facts) := by
  intro m ρ m' ρ' _ hagree
  refine ⟨fun c => (Cert.Kernel2Ideal.Gen.dats m 0 c).arrAt 5 Cert.Kernel2Ideal.cfg0.N, Cert.Kernel2Ideal.Value.run_blocks m ρ, ?_⟩
  refine (θ_run Cert.Reference2Ideal.defs _ _).mono (fun r h c => ⟨(h c).1.trans ?_, (h c).2⟩) (Cert.Reference2Ideal.Value.run m' ρ')
  have e : InProj.ref (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4))
      = (Cert.Kernel2Ideal.Gen.dats m 0 c).arrAt 5 Cert.Kernel2Ideal.cfg0.N := by
    rw [(hagree c).1, (hagree c).2.1, (hagree c).2.2.1, (hagree c).2.2.2.1, (hagree c).2.2.2.2]
    exact results_agree2 m c
  exact e

/-- The reference of the expert products runs, keeps its arguments, and has no counter that could be off zero. -/
theorem frame_reference3 : Cert.quiescent_Reference3Ideal (hReference3Ideal := Cert.Reference3Ideal.Gen.facts) := fun m ρ _ =>
  (θ_run Cert.Reference3Ideal.defs _ _).mono (fun r h => ⟨fun c => (h c).2.2, sem_eq_zero_of_no_sems (by decide) r.2⟩) (Cert.Reference3Ideal.Value.run m ρ)

/-- Of the expert products, the reference's result array for the latent rows is the kernel's. -/
theorem results_agree3L (m : (ℓ : Loc Cert.Kernel3Ideal.nD Cert.Kernel3Ideal.τ Cert.Kernel3Ideal.sig) → Buf (Elt Ideal) ℓ) (c : Dev Cert.Kernel3Ideal.nD) :
    Ffn.refL (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))
      = (Cert.Kernel3Ideal.Gen.dats m 0 c).arrAt 7 Cert.Kernel3Ideal.cfg0.N := by
  rw [Ffn.finalL]
  funext y
  obtain ⟨e, i, d, rfl⟩ : ∃ e i d, y = ix3 e i d := ⟨y 0, y 1, y 2, by blk_ext⟩
  rw [Ffn.refL_at]
  rfl

/-- Of the expert products, the reference's result array for the context rows is the kernel's. -/
theorem results_agree3C (m : (ℓ : Loc Cert.Kernel3Ideal.nD Cert.Kernel3Ideal.τ Cert.Kernel3Ideal.sig) → Buf (Elt Ideal) ℓ) (c : Dev Cert.Kernel3Ideal.nD) :
    Ffn.refC (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))
      = (Cert.Kernel3Ideal.Gen.dats m 0 c).arrAt 8 Cert.Kernel3Ideal.cfg0.N := by
  rw [Ffn.finalC]
  funext y
  obtain ⟨e, i, d, rfl⟩ : ∃ e i d, y = ix3 e i d := ⟨y 0, y 1, y 2, by blk_ext⟩
  rw [Ffn.refC_at]
  rfl

/-- Over the extended reals the two programs of the expert products end with the same two result arrays. -/
theorem algebraic3 : Cert.algebraic_Kernel3Ideal_Reference3Ideal (hKernel3Ideal := Cert.Kernel3Ideal.Gen.facts) (hReference3Ideal := Cert.Reference3Ideal.Gen.facts) := by
  intro m ρ m' ρ' _ hagree
  refine ⟨fun c => (Cert.Kernel3Ideal.Gen.dats m 0 c).arrAt 7 Cert.Kernel3Ideal.cfg0.N, fun c => (Cert.Kernel3Ideal.Gen.dats m 0 c).arrAt 8 Cert.Kernel3Ideal.cfg0.N,
    Cert.Kernel3Ideal.Value.run_blocks m ρ, ?_⟩
  refine (θ_run Cert.Reference3Ideal.defs _ _).mono (fun r h c => ⟨(h c).1.trans ?_, (h c).2.1.trans ?_, (h c).2.2⟩) (Cert.Reference3Ideal.Value.run m' ρ')
  · have e : Ffn.refL (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6))
        = (Cert.Kernel3Ideal.Gen.dats m 0 c).arrAt 7 Cert.Kernel3Ideal.cfg0.N := by
      rw [(hagree c).1, (hagree c).2.1, (hagree c).2.2.2.2.1, (hagree c).2.2.2.2.2.1, (hagree c).2.2.2.2.2.2]
      exact results_agree3L m c
    exact e
  · have e : Ffn.refC (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6))
        = (Cert.Kernel3Ideal.Gen.dats m 0 c).arrAt 8 Cert.Kernel3Ideal.cfg0.N := by
      rw [(hagree c).2.2.1, (hagree c).2.2.2.1, (hagree c).2.2.2.2.1, (hagree c).2.2.2.2.2.1, (hagree c).2.2.2.2.2.2]
      exact results_agree3C m c
    exact e

/-- The reference of the output product runs, keeps its arguments, and has no counter that could be off zero. -/
theorem frame_reference4 : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩) (Cert.Reference4Ideal.Value.run m ρ)

/-- Of the output product, the reference's result array is the kernel's. -/
theorem results_agree4 (m : (ℓ : Loc Cert.Kernel4Ideal.nD Cert.Kernel4Ideal.τ Cert.Kernel4Ideal.sig) → Buf (Elt Ideal) ℓ) (c : Dev Cert.Kernel4Ideal.nD) :
    OutProj.ref (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))
      = (Cert.Kernel4Ideal.Gen.dats m 0 c).arrAt 5 Cert.Kernel4Ideal.cfg0.N := by
  rw [OutProj.final]
  funext y
  obtain ⟨i, d, rfl⟩ : ∃ i d, y = ix2 i d := ⟨y 0, y 1, by blk_ext⟩
  rw [OutProj.ref_at]
  rfl

/-- Over the extended reals the two programs of the output product end with the same result array. -/
theorem algebraic4 : Cert.algebraic_Kernel4Ideal_Reference4Ideal (hKernel4Ideal := Cert.Kernel4Ideal.Gen.facts) (hReference4Ideal := Cert.Reference4Ideal.Gen.facts) := by
  intro m ρ m' ρ' _ hagree
  refine ⟨fun c => (Cert.Kernel4Ideal.Gen.dats m 0 c).arrAt 5 Cert.Kernel4Ideal.cfg0.N, Cert.Kernel4Ideal.Value.run_blocks m ρ, ?_⟩
  refine (θ_run Cert.Reference4Ideal.defs _ _).mono (fun r h c => ⟨(h c).1.trans ?_, (h c).2⟩) (Cert.Reference4Ideal.Value.run m' ρ')
  have e : OutProj.ref (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4))
      = (Cert.Kernel4Ideal.Gen.dats m 0 c).arrAt 5 Cert.Kernel4Ideal.cfg0.N := by
    rw [(hagree c).1, (hagree c).2.1, (hagree c).2.2.1, (hagree c).2.2.2.1, (hagree c).2.2.2.2]
    exact results_agree4 m c
  exact e

/-- The reference of the merge of the four branches runs, keeps its arguments, and has no counter that could be off zero. -/
theorem frame_reference5 : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩) (Cert.Reference5Ideal.Value.run m ρ)

/-- Of the merge of the four branches, the reference's result array is the kernel's. -/
theorem results_agree5 (m : (ℓ : Loc Cert.Kernel5Ideal.nD Cert.Kernel5Ideal.τ Cert.Kernel5Ideal.sig) → Buf (Elt Ideal) ℓ) (c : Dev Cert.Kernel5Ideal.nD) :
    Merge.ref (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))
      = (Cert.Kernel5Ideal.Gen.dats m 0 c).arrAt 12 Cert.Kernel5Ideal.cfg0.N := by
  rw [Merge.final]
  funext y
  obtain ⟨i, d, rfl⟩ : ∃ i d, y = ix2 i d := ⟨y 0, y 1, by blk_ext⟩
  rw [Merge.ref_at]
  rfl

/-- Over the extended reals the two programs of the merge of the four branches end with the same result array. -/
theorem algebraic5 : Cert.algebraic_Kernel5Ideal_Reference5Ideal (hKernel5Ideal := Cert.Kernel5Ideal.Gen.facts) (hReference5Ideal := Cert.Reference5Ideal.Gen.facts) := by
  intro m ρ m' ρ' _ hagree
  refine ⟨fun c => (Cert.Kernel5Ideal.Gen.dats m 0 c).arrAt 12 Cert.Kernel5Ideal.cfg0.N, Cert.Kernel5Ideal.Value.run_blocks m ρ, ?_⟩
  refine (θ_run Cert.Reference5Ideal.defs _ _).mono (fun r h c => ⟨(h c).1.trans ?_, (h c).2⟩) (Cert.Reference5Ideal.Value.run m' ρ')
  have e : Merge.ref (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5))
      = (Cert.Kernel5Ideal.Gen.dats m 0 c).arrAt 12 Cert.Kernel5Ideal.cfg0.N := by
    rw [(hagree c).1, (hagree c).2.1, (hagree c).2.2.1, (hagree c).2.2.2.1, (hagree c).2.2.2.2.1, (hagree c).2.2.2.2.2]
    exact results_agree5 m c
  exact e

/-- The reference of the last layer's expert products runs, keeps its arguments, and has no counter that could be off zero. -/
theorem frame_reference6 : Cert.quiescent_Reference6Ideal (hReference6Ideal := Cert.Reference6Ideal.Gen.facts) := fun m ρ _ =>
  (θ_run Cert.Reference6Ideal.defs _ _).mono (fun r h => ⟨fun c => (h c).2, sem_eq_zero_of_no_sems (by decide) r.2⟩) (Cert.Reference6Ideal.Value.run m ρ)

/-- Of the last layer's expert products, the reference's result array is the kernel's. -/
theorem results_agree6 (m : (ℓ : Loc Cert.Kernel6Ideal.nD Cert.Kernel6Ideal.τ Cert.Kernel6Ideal.sig) → Buf (Elt Ideal) ℓ) (c : Dev Cert.Kernel6Ideal.nD) :
    LastFfn.ref (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))
      = (Cert.Kernel6Ideal.Gen.dats m 0 c).arrAt 5 Cert.Kernel6Ideal.cfg0.N := by
  rw [LastFfn.final]
  funext y
  obtain ⟨e, i, d, rfl⟩ : ∃ e i d, y = ix3 e i d := ⟨y 0, y 1, y 2, by blk_ext⟩
  rw [LastFfn.ref_at]
  rfl

/-- Over the extended reals the two programs of the last layer's expert products end with the same result array. -/
theorem algebraic6 : Cert.algebraic_Kernel6Ideal_Reference6Ideal (hKernel6Ideal := Cert.Kernel6Ideal.Gen.facts) (hReference6Ideal := Cert.Reference6Ideal.Gen.facts) := by
  intro m ρ m' ρ' _ hagree
  refine ⟨fun c => (Cert.Kernel6Ideal.Gen.dats m 0 c).arrAt 5 Cert.Kernel6Ideal.cfg0.N, Cert.Kernel6Ideal.Value.run_blocks m ρ, ?_⟩
  refine (θ_run Cert.Reference6Ideal.defs _ _).mono (fun r h c => ⟨(h c).1.trans ?_, (h c).2⟩) (Cert.Reference6Ideal.Value.run m' ρ')
  have e : LastFfn.ref (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3)) (m' ((c.tc : Thread Cert.Reference6Ideal.nD Cert.Reference6Ideal.τ).loc Cert.Reference6Ideal.main_arg4))
      = (Cert.Kernel6Ideal.Gen.dats m 0 c).arrAt 5 Cert.Kernel6Ideal.cfg0.N := by
    rw [(hagree c).1, (hagree c).2.1, (hagree c).2.2.1, (hagree c).2.2.2.1, (hagree c).2.2.2.2]
    exact results_agree6 m c
  exact e

/-- The reference of the last norm runs, keeps its arguments, and has no counter that could be off zero. -/
theorem frame_reference7 : Cert.quiescent_Reference7Ideal (hReference7Ideal := Cert.Reference7Ideal.Gen.facts) := fun m ρ _ =>
  (θ_run Cert.Reference7Ideal.defs _ _).mono (fun r h => ⟨fun c => (h c).2, sem_eq_zero_of_no_sems (by decide) r.2⟩) (Cert.Reference7Ideal.Value.run m ρ)

/-- Of the last norm, the reference's result array is the kernel's. -/
theorem results_agree7 (m : (ℓ : Loc Cert.Kernel7Ideal.nD Cert.Kernel7Ideal.τ Cert.Kernel7Ideal.sig) → Buf (Elt Ideal) ℓ) (c : Dev Cert.Kernel7Ideal.nD) :
    Norm.ref (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1))
      = (Cert.Kernel7Ideal.Gen.dats m 0 c).arrAt 2 Cert.Kernel7Ideal.cfg0.N := by
  rw [Norm.final]
  funext y
  obtain ⟨i, d, rfl⟩ : ∃ i d, y = ix2 i d := ⟨y 0, y 1, by blk_ext⟩
  rw [Norm.ref_at]
  rfl

/-- Over the extended reals the two programs of the last norm end with the same result array. -/
theorem algebraic7 : Cert.algebraic_Kernel7Ideal_Reference7Ideal (hKernel7Ideal := Cert.Kernel7Ideal.Gen.facts) (hReference7Ideal := Cert.Reference7Ideal.Gen.facts) := by
  intro m ρ m' ρ' _ hagree
  refine ⟨fun c => (Cert.Kernel7Ideal.Gen.dats m 0 c).arrAt 2 Cert.Kernel7Ideal.cfg0.N, Cert.Kernel7Ideal.Value.run_blocks m ρ, ?_⟩
  refine (θ_run Cert.Reference7Ideal.defs _ _).mono (fun r h c => ⟨(h c).1.trans ?_, (h c).2⟩) (Cert.Reference7Ideal.Value.run m' ρ')
  have e : Norm.ref (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1))
      = (Cert.Kernel7Ideal.Gen.dats m 0 c).arrAt 2 Cert.Kernel7Ideal.cfg0.N := by
    rw [(hagree c).1, (hagree c).2]
    exact results_agree7 m c
  exact e

/-- The reference of the S5 branch's end runs, keeps its arguments, and has no counter that could be off zero. -/
theorem frame_reference8 : Cert.quiescent_Reference8Ideal (hReference8Ideal := Cert.Reference8Ideal.Gen.facts) := fun m ρ _ =>
  (θ_run Cert.Reference8Ideal.defs _ _).mono (fun r h => ⟨fun c => (h c).2, sem_eq_zero_of_no_sems (by decide) r.2⟩) (Cert.Reference8Ideal.Value.run m ρ)

/-- Of the S5 branch's end, the reference's result array is the kernel's. -/
theorem results_agree8 (m : (ℓ : Loc Cert.Kernel8Ideal.nD Cert.Kernel8Ideal.τ Cert.Kernel8Ideal.sig) → Buf (Elt Ideal) ℓ) (c : Dev Cert.Kernel8Ideal.nD) :
    S5End.ref (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5))
      = (Cert.Kernel8Ideal.Gen.dats m 0 c).arrAt 6 Cert.Kernel8Ideal.cfg0.N := by
  rw [S5End.final]
  funext y
  obtain ⟨i, d, rfl⟩ : ∃ i d, y = ix2 i d := ⟨y 0, y 1, by blk_ext⟩
  rw [S5End.ref_at]
  rfl

/-- Over the extended reals the two programs of the S5 branch's end end with the same result array. -/
theorem algebraic8 : Cert.algebraic_Kernel8Ideal_Reference8Ideal (hKernel8Ideal := Cert.Kernel8Ideal.Gen.facts) (hReference8Ideal := Cert.Reference8Ideal.Gen.facts) := by
  intro m ρ m' ρ' _ hagree
  refine ⟨fun c => (Cert.Kernel8Ideal.Gen.dats m 0 c).arrAt 6 Cert.Kernel8Ideal.cfg0.N, Cert.Kernel8Ideal.Value.run_blocks m ρ, ?_⟩
  refine (θ_run Cert.Reference8Ideal.defs _ _).mono (fun r h c => ⟨(h c).1.trans ?_, (h c).2⟩) (Cert.Reference8Ideal.Value.run m' ρ')
  have e : S5End.ref (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1)) (m' ((c.tc : Thread Cert.Reference8Ideal.nD Cert.Reference8Ideal.τ).loc Cert.Reference8Ideal.main_arg2)) (m' ((c.tc : Thread Cert.Reference8Ideal.nD Cert.Reference8Ideal.τ).loc Cert.Reference8Ideal.main_arg3)) (m' ((c.tc : Thread Cert.Reference8Ideal.nD Cert.Reference8Ideal.τ).loc Cert.Reference8Ideal.main_arg4)) (m' ((c.tc : Thread Cert.Reference8Ideal.nD Cert.Reference8Ideal.τ).loc Cert.Reference8Ideal.main_arg5))
      = (Cert.Kernel8Ideal.Gen.dats m 0 c).arrAt 6 Cert.Kernel8Ideal.cfg0.N := by
    rw [(hagree c).1, (hagree c).2.1, (hagree c).2.2.1, (hagree c).2.2.2.1, (hagree c).2.2.2.2.1, (hagree c).2.2.2.2.2]
    exact results_agree8 m c
  exact e

/-- The reference of the SSD branch's end runs, keeps its arguments, and has no counter that could be off zero. -/
theorem frame_reference9 : Cert.quiescent_Reference9Ideal (hReference9Ideal := Cert.Reference9Ideal.Gen.facts) := fun m ρ _ =>
  (θ_run Cert.Reference9Ideal.defs _ _).mono (fun r h => ⟨fun c => (h c).2, sem_eq_zero_of_no_sems (by decide) r.2⟩) (Cert.Reference9Ideal.Value.run m ρ)

/-- Of the SSD branch's end, the reference's result array is the kernel's. -/
theorem results_agree9 (m : (ℓ : Loc Cert.Kernel9Ideal.nD Cert.Kernel9Ideal.τ Cert.Kernel9Ideal.sig) → Buf (Elt Ideal) ℓ) (c : Dev Cert.Kernel9Ideal.nD) :
    SsdEnd.ref (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5))
      = (Cert.Kernel9Ideal.Gen.dats m 0 c).arrAt 6 Cert.Kernel9Ideal.cfg0.N := by
  rw [SsdEnd.final]
  funext y
  obtain ⟨i, d, rfl⟩ : ∃ i d, y = ix2 i d := ⟨y 0, y 1, by blk_ext⟩
  rw [SsdEnd.ref_at]
  rfl

/-- Over the extended reals the two programs of the SSD branch's end end with the same result array. -/
theorem algebraic9 : Cert.algebraic_Kernel9Ideal_Reference9Ideal (hKernel9Ideal := Cert.Kernel9Ideal.Gen.facts) (hReference9Ideal := Cert.Reference9Ideal.Gen.facts) := by
  intro m ρ m' ρ' _ hagree
  refine ⟨fun c => (Cert.Kernel9Ideal.Gen.dats m 0 c).arrAt 6 Cert.Kernel9Ideal.cfg0.N, Cert.Kernel9Ideal.Value.run_blocks m ρ, ?_⟩
  refine (θ_run Cert.Reference9Ideal.defs _ _).mono (fun r h c => ⟨(h c).1.trans ?_, (h c).2⟩) (Cert.Reference9Ideal.Value.run m' ρ')
  have e : SsdEnd.ref (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg2)) (m' ((c.tc : Thread Cert.Reference9Ideal.nD Cert.Reference9Ideal.τ).loc Cert.Reference9Ideal.main_arg3)) (m' ((c.tc : Thread Cert.Reference9Ideal.nD Cert.Reference9Ideal.τ).loc Cert.Reference9Ideal.main_arg4)) (m' ((c.tc : Thread Cert.Reference9Ideal.nD Cert.Reference9Ideal.τ).loc Cert.Reference9Ideal.main_arg5))
      = (Cert.Kernel9Ideal.Gen.dats m 0 c).arrAt 6 Cert.Kernel9Ideal.cfg0.N := by
    rw [(hagree c).1, (hagree c).2.1, (hagree c).2.2.1, (hagree c).2.2.2.1, (hagree c).2.2.2.2.1, (hagree c).2.2.2.2.2]
    exact results_agree9 m c
  exact e

/-- The reference of the mLSTM branch's end runs, keeps its arguments, and has no counter that could be off zero. -/
theorem frame_reference10 : Cert.quiescent_Reference10Ideal (hReference10Ideal := Cert.Reference10Ideal.Gen.facts) := fun m ρ _ =>
  (θ_run Cert.Reference10Ideal.defs _ _).mono (fun r h => ⟨fun c => (h c).2, sem_eq_zero_of_no_sems (by decide) r.2⟩) (Cert.Reference10Ideal.Value.run m ρ)

/-- Of the mLSTM branch's end, the reference's result array is the kernel's. -/
theorem results_agree10 (m : (ℓ : Loc Cert.Kernel10Ideal.nD Cert.Kernel10Ideal.τ Cert.Kernel10Ideal.sig) → Buf (Elt Ideal) ℓ) (c : Dev Cert.Kernel10Ideal.nD) :
    MlEnd.ref (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3))
      = (Cert.Kernel10Ideal.Gen.dats m 0 c).arrAt 4 Cert.Kernel10Ideal.cfg0.N := by
  rw [MlEnd.final]
  funext y
  obtain ⟨i, d, rfl⟩ : ∃ (i : Fin 17408) (d : Fin 512), y = ix2 i d := ⟨y 0, y 1, by blk_ext⟩
  obtain ⟨h, k, rfl⟩ : ∃ (h : Fin 4) (k : Fin 128), d = ⟨h.val * 128 + k.val, by omega⟩ :=
    ⟨⟨d.val / 128, by omega⟩, ⟨d.val % 128, by omega⟩, Fin.ext (by show d.val = d.val / 128 * 128 + d.val % 128; omega)⟩
  rw [MlEnd.ref_at]
  rfl

/-- Over the extended reals the two programs of the mLSTM branch's end end with the same result array. -/
theorem algebraic10 : Cert.algebraic_Kernel10Ideal_Reference10Ideal (hKernel10Ideal := Cert.Kernel10Ideal.Gen.facts) (hReference10Ideal := Cert.Reference10Ideal.Gen.facts) := by
  intro m ρ m' ρ' _ hagree
  refine ⟨fun c => (Cert.Kernel10Ideal.Gen.dats m 0 c).arrAt 4 Cert.Kernel10Ideal.cfg0.N, Cert.Kernel10Ideal.Value.run_blocks m ρ, ?_⟩
  refine (θ_run Cert.Reference10Ideal.defs _ _).mono (fun r h c => ⟨(h c).1.trans ?_, (h c).2⟩) (Cert.Reference10Ideal.Value.run m' ρ')
  have e : MlEnd.ref (m' ((c.tc : Thread Cert.Reference10Ideal.nD Cert.Reference10Ideal.τ).loc Cert.Reference10Ideal.main_arg0)) (m' ((c.tc : Thread Cert.Reference10Ideal.nD Cert.Reference10Ideal.τ).loc Cert.Reference10Ideal.main_arg1)) (m' ((c.tc : Thread Cert.Reference10Ideal.nD Cert.Reference10Ideal.τ).loc Cert.Reference10Ideal.main_arg2)) (m' ((c.tc : Thread Cert.Reference10Ideal.nD Cert.Reference10Ideal.τ).loc Cert.Reference10Ideal.main_arg3))
      = (Cert.Kernel10Ideal.Gen.dats m 0 c).arrAt 4 Cert.Kernel10Ideal.cfg0.N := by
    rw [(hagree c).1, (hagree c).2.1, (hagree c).2.2.1, (hagree c).2.2.2]
    exact results_agree10 m c
  exact e

/-- All claims of the ten calls. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  fun m ρ _ => Cert.Kernel.Gen.frame m ρ, fun m ρ _ => Cert.KernelIdeal.Gen.frame m ρ, frame_reference,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel6.Gen.frame m ρ, fun m ρ _ => Cert.Kernel6Ideal.Gen.frame m ρ, frame_reference6,
  fun m ρ _ => Cert.Kernel7.Gen.frame m ρ, fun m ρ _ => Cert.Kernel7Ideal.Gen.frame m ρ, frame_reference7,
  fun m ρ _ => Cert.Kernel8.Gen.frame m ρ, fun m ρ _ => Cert.Kernel8Ideal.Gen.frame m ρ, frame_reference8,
  fun m ρ _ => Cert.Kernel9.Gen.frame m ρ, fun m ρ _ => Cert.Kernel9Ideal.Gen.frame m ρ, frame_reference9,
  fun m ρ _ => Cert.Kernel10.Gen.frame m ρ, fun m ρ _ => Cert.Kernel10Ideal.Gen.frame m ρ, frame_reference10,
  trivial, algebraic, trivial, algebraic2, trivial, algebraic3, trivial, algebraic4, trivial, algebraic5, trivial, algebraic6, trivial, algebraic7, trivial, algebraic8, trivial, algebraic9, trivial, algebraic10⟩

end Cert.Proof

end
